-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_qk_cum [hPre_finite_qk_cum : Cert.Pre_finite_qk_cum.Facts] (m : (ℓ : Loc Cert.FoxIdeal.nD Cert.FoxIdeal.τ Cert.FoxIdeal.sig) → Buf (Elt Ideal) ℓ) : Prop :=
  ∀ c : Dev Cert.FoxIdeal.nD,
    (Cert.Pre_finite_qk_cum.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_qk_cum [hPre_finite_qk_cum : Cert.Pre_finite_qk_cum.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_qk_cum.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1))) = (fun _ => 1#1)

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_qk [hPre_finite_qk : Cert.Pre_finite_qk.Facts] (m : (ℓ : Loc Cert.MlaIdeal.nD Cert.MlaIdeal.τ Cert.MlaIdeal.sig) → Buf (Elt Ideal) ℓ) : Prop :=
  ∀ c : Dev Cert.MlaIdeal.nD,
    (Cert.Pre_finite_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_qk [hPre_finite_qk : Cert.Pre_finite_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3))) = (fun _ => 1#1)

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxIdeal_pre_finite_qk_cum [hFoxIdeal : Cert.FoxIdeal.Facts] [hPre_finite_qk_cum : Cert.Pre_finite_qk_cum.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_qk_cum m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_FoxRefIdeal_pre_finite_qk_cum [hFoxRefIdeal : Cert.FoxRefIdeal.Facts] [hPre_finite_qk_cum : Cert.Pre_finite_qk_cum.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_qk_cum m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaIdeal_pre_finite_qk [hMlaIdeal : Cert.MlaIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_MlaRefIdeal_pre_finite_qk [hMlaRefIdeal : Cert.MlaRefIdeal.Facts] [hPre_finite_qk : Cert.Pre_finite_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_qk_cum [hFoxIdeal : Cert.FoxIdeal.Facts] [hFoxRefIdeal : Cert.FoxRefIdeal.Facts] [hPre_finite_qk_cum : Cert.Pre_finite_qk_cum.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_qk_cum m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v14)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v14) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v38) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Mla_MlaIdeal : Prop :=
  IdealRules.named_const.Statement Cert.MlaIdeal.κ "mask" .f32 0xF149F2CA#32 ⊥

def algebraic_MlaIdeal_MlaRefIdeal_pre_finite_qk [hMlaIdeal : Cert.MlaIdeal.Facts] [hMlaRefIdeal : Cert.MlaRefIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)) →
    ∃ (v0 : (c : Dev Cert.MlaIdeal.nD) → Buf (Elt Ideal) ((c.tc : Thread Cert.MlaIdeal.nD Cert.MlaIdeal.τ).loc Cert.MlaIdeal.main_v21)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v21) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v37) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3))

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v23) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v18_0)) (v1 : (c : Dev Cert.MergeIdeal.nD) → Buf (Elt Ideal) ((c.tc : Thread Cert.MergeIdeal.nD Cert.MergeIdeal.τ).loc Cert.MergeIdeal.main_v18_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18_0) = v0 c
          ∧ r.2.mem ((c.tc : Thread Cert.MergeIdeal.nD Cert.MergeIdeal.τ).loc Cert.MergeIdeal.main_v18_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v38) = v0 c
          ∧ r.2.mem ((c.tc : Thread Cert.MergeRefIdeal.nD Cert.MergeRefIdeal.τ).loc Cert.MergeRefIdeal.main_v52) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)) →
    ∃ (v0 : (c : Dev Cert.ProjIdeal.nD) → Buf (Elt Ideal) ((c.tc : Thread Cert.ProjIdeal.nD Cert.ProjIdeal.τ).loc Cert.ProjIdeal.main_v4_0)) (v1 : (c : Dev Cert.ProjIdeal.nD) → Buf (Elt Ideal) ((c.tc : Thread Cert.ProjIdeal.nD Cert.ProjIdeal.τ).loc Cert.ProjIdeal.main_v4_1)) (v2 : (c : Dev Cert.ProjIdeal.nD) → Buf (Elt Ideal) ((c.tc : Thread Cert.ProjIdeal.nD Cert.ProjIdeal.τ).loc Cert.ProjIdeal.main_v4_2)) (v3 : (c : Dev Cert.ProjIdeal.nD) → Buf (Elt Ideal) ((c.tc : Thread Cert.ProjIdeal.nD Cert.ProjIdeal.τ).loc Cert.ProjIdeal.main_v4_3)) (v4 : (c : Dev Cert.ProjIdeal.nD) → Buf (Elt Ideal) ((c.tc : Thread Cert.ProjIdeal.nD Cert.ProjIdeal.τ).loc Cert.ProjIdeal.main_v4_4)) (v5 : (c : Dev Cert.ProjIdeal.nD) → Buf (Elt Ideal) ((c.tc : Thread Cert.ProjIdeal.nD Cert.ProjIdeal.τ).loc Cert.ProjIdeal.main_v4_5)) (v6 : (c : Dev Cert.ProjIdeal.nD) → Buf (Elt Ideal) ((c.tc : Thread Cert.ProjIdeal.nD Cert.ProjIdeal.τ).loc Cert.ProjIdeal.main_v4_6)) (v7 : (c : Dev Cert.ProjIdeal.nD) → Buf (Elt Ideal) ((c.tc : Thread Cert.ProjIdeal.nD Cert.ProjIdeal.τ).loc Cert.ProjIdeal.main_v4_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4_0) = v0 c
          ∧ r.2.mem ((c.tc : Thread Cert.ProjIdeal.nD Cert.ProjIdeal.τ).loc Cert.ProjIdeal.main_v4_1) = v1 c
          ∧ r.2.mem ((c.tc : Thread Cert.ProjIdeal.nD Cert.ProjIdeal.τ).loc Cert.ProjIdeal.main_v4_2) = v2 c
          ∧ r.2.mem ((c.tc : Thread Cert.ProjIdeal.nD Cert.ProjIdeal.τ).loc Cert.ProjIdeal.main_v4_3) = v3 c
          ∧ r.2.mem ((c.tc : Thread Cert.ProjIdeal.nD Cert.ProjIdeal.τ).loc Cert.ProjIdeal.main_v4_4) = v4 c
          ∧ r.2.mem ((c.tc : Thread Cert.ProjIdeal.nD Cert.ProjIdeal.τ).loc Cert.ProjIdeal.main_v4_5) = v5 c
          ∧ r.2.mem ((c.tc : Thread Cert.ProjIdeal.nD Cert.ProjIdeal.τ).loc Cert.ProjIdeal.main_v4_6) = v6 c
          ∧ r.2.mem ((c.tc : Thread Cert.ProjIdeal.nD Cert.ProjIdeal.τ).loc Cert.ProjIdeal.main_v4_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v86) = v0 c
          ∧ r.2.mem ((c.tc : Thread Cert.ProjRefIdeal.nD Cert.ProjRefIdeal.τ).loc Cert.ProjRefIdeal.main_v88) = v1 c
          ∧ r.2.mem ((c.tc : Thread Cert.ProjRefIdeal.nD Cert.ProjRefIdeal.τ).loc Cert.ProjRefIdeal.main_v95) = v2 c
          ∧ r.2.mem ((c.tc : Thread Cert.ProjRefIdeal.nD Cert.ProjRefIdeal.τ).loc Cert.ProjRefIdeal.main_v96) = v3 c
          ∧ r.2.mem ((c.tc : Thread Cert.ProjRefIdeal.nD Cert.ProjRefIdeal.τ).loc Cert.ProjRefIdeal.main_v97) = v4 c
          ∧ r.2.mem ((c.tc : Thread Cert.ProjRefIdeal.nD Cert.ProjRefIdeal.τ).loc Cert.ProjRefIdeal.main_v98) = v5 c
          ∧ r.2.mem ((c.tc : Thread Cert.ProjRefIdeal.nD Cert.ProjRefIdeal.τ).loc Cert.ProjRefIdeal.main_v99) = v6 c
          ∧ r.2.mem ((c.tc : Thread Cert.ProjRefIdeal.nD Cert.ProjRefIdeal.τ).loc Cert.ProjRefIdeal.main_v100) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11))

def Claim : Prop :=
  ∃ (hFox : Cert.Fox.Facts) (hFoxIdeal : Cert.FoxIdeal.Facts) (hFoxRefIdeal : Cert.FoxRefIdeal.Facts) (hMla : Cert.Mla.Facts) (hMlaIdeal : Cert.MlaIdeal.Facts) (hMlaRefIdeal : Cert.MlaRefIdeal.Facts) (hMoe : Cert.Moe.Facts) (hMoeIdeal : Cert.MoeIdeal.Facts) (hMoeRefIdeal : Cert.MoeRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hPre_finite_qk_cum : Cert.Pre_finite_qk_cum.Facts) (hPre_finite_qk : Cert.Pre_finite_qk.Facts),
    quiescent_Fox (hFox := hFox)
    ∧ quiescent_FoxIdeal (hFoxIdeal := hFoxIdeal)
    ∧ quiescent_FoxIdeal_pre_finite_qk_cum (hFoxIdeal := hFoxIdeal) (hPre_finite_qk_cum := hPre_finite_qk_cum)
    ∧ quiescent_FoxRefIdeal (hFoxRefIdeal := hFoxRefIdeal)
    ∧ quiescent_FoxRefIdeal_pre_finite_qk_cum (hFoxRefIdeal := hFoxRefIdeal) (hPre_finite_qk_cum := hPre_finite_qk_cum)
    ∧ quiescent_Mla (hMla := hMla)
    ∧ quiescent_MlaIdeal (hMlaIdeal := hMlaIdeal)
    ∧ quiescent_MlaIdeal_pre_finite_qk (hMlaIdeal := hMlaIdeal) (hPre_finite_qk := hPre_finite_qk)
    ∧ quiescent_MlaRefIdeal (hMlaRefIdeal := hMlaRefIdeal)
    ∧ quiescent_MlaRefIdeal_pre_finite_qk (hMlaRefIdeal := hMlaRefIdeal) (hPre_finite_qk := hPre_finite_qk)
    ∧ quiescent_Moe (hMoe := hMoe)
    ∧ quiescent_MoeIdeal (hMoeIdeal := hMoeIdeal)
    ∧ quiescent_MoeRefIdeal (hMoeRefIdeal := hMoeRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ preserves_Fox_FoxIdeal
    ∧ algebraic_FoxIdeal_FoxRefIdeal_pre_finite_qk_cum (hFoxIdeal := hFoxIdeal) (hFoxRefIdeal := hFoxRefIdeal) (hPre_finite_qk_cum := hPre_finite_qk_cum)
    ∧ preserves_Mla_MlaIdeal
    ∧ algebraic_MlaIdeal_MlaRefIdeal_pre_finite_qk (hMlaIdeal := hMlaIdeal) (hMlaRefIdeal := hMlaRefIdeal) (hPre_finite_qk := hPre_finite_qk)
    ∧ preserves_Moe_MoeIdeal
    ∧ algebraic_MoeIdeal_MoeRefIdeal (hMoeIdeal := hMoeIdeal) (hMoeRefIdeal := hMoeRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
-- ==== Pre_finite_qk.lean ====
abbrev S2x8192x768 : Shape := ⟨3, ![2, 8192, 768]⟩
abbrev S2x8192x512 : Shape := ⟨3, ![2, 8192, 512]⟩
abbrev S2x8192x256 : Shape := ⟨3, ![2, 8192, 256]⟩
abbrev S_ : Shape := ⟨0, ![]⟩

class Facts : Prop where
  bitsLt_bf16_f32 : FTy.bits .bf16 < FTy.bits .f32
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel
  bcast_S_S2x8192x512 : S_.BroadcastsInDim S2x8192x512 (![] : Fin 0 → Fin S2x8192x512.rank)
  reducesTo_S2x8192x512_S_d0_1_2 : S2x8192x512.ReducesTo [0, 1, 2] S_
  bcast_S_S2x8192x256 : S_.BroadcastsInDim S2x8192x256 (![] : Fin 0 → Fin S2x8192x256.rank)
  reducesTo_S2x8192x256_S_d0_1_2 : S2x8192x256.ReducesTo [0, 1, 2] S_

variable [Facts]

def fn {F : FTy → Type} [FloatOps F] (main_arg0 : FVec F S2x8192x768 .bf16) (main_arg1 : FVec F S2x8192x512 .bf16) (main_arg2 : FVec F S2x8192x256 .bf16) (main_arg3 : FVec F S2x8192x512 .bf16) : IVec S_ 1 :=
  let main_v0 : FVec F S2x8192x768 .f32 := (extf .f32 · bitsLt_bf16_f32) main_arg0
  let main_v1 : FVec F S2x8192x768 .f32 := Host.absf main_v0
  let main_cst : FVec F S_ .f32 := constant S_ .f32 0x7F800000#32
  let main_v2 : FVec F S2x8192x768 .f32 := broadcastInDim S2x8192x768 ![] bcast_S_S2x8192x768 main_cst
  let main_v3 : IVec S2x8192x768 1 := cmpf .olt main_v1 main_v2
  let main_c : IVec S_ 1 := constantI S_ 1 1#1
  let main_v4 : IVec S_ 1 := (fun x v => Host.reduce IntOp.andi x v reducesTo_S2x8192x768_S_d0_1_2 h_S_) main_v3 main_c
  let main_v5 : FVec F S2x8192x512 .f32 := (extf .f32 · bitsLt_bf16_f32) main_arg1
  let main_v6 : FVec F S2x8192x512 .f32 := Host.absf main_v5
  let main_cst_0 : FVec F S_ .f32 := constant S_ .f32 0x7F800000#32
  let main_v7 : FVec F S2x8192x512 .f32 := broadcastInDim S2x8192x512 ![] bcast_S_S2x8192x512 main_cst_0
  let main_v8 : IVec S2x8192x512 1 := cmpf .olt main_v6 main_v7
  let main_c_1 : IVec S_ 1 := constantI S_ 1 1#1
  let main_v9 : IVec S_ 1 := (fun x v => Host.reduce IntOp.andi x v reducesTo_S2x8192x512_S_d0_1_2 h_S_) main_v8 main_c_1
  let main_v10 : IVec S_ 1 := andi main_v4 main_v9
  let main_v11 : FVec F S2x8192x256 .f32 := (extf .f32 · bitsLt_bf16_f32) main_arg2
  let main_v12 : FVec F S2x8192x256 .f32 := Host.absf main_v11
  let main_cst_2 : FVec F S_ .f32 := constant S_ .f32 0x7F800000#32
  let main_v13 : FVec F S2x8192x256 .f32 := broadcastInDim S2x8192x256 ![] bcast_S_S2x8192x256 main_cst_2
  let main_v14 : IVec S2x8192x256 1 := cmpf .olt main_v12 main_v13
  let main_c_3 : IVec S_ 1 := constantI S_ 1 1#1
  let main_v15 : IVec S_ 1 := (fun x v => Host.reduce IntOp.andi x v reducesTo_S2x8192x256_S_d0_1_2 h_S_) main_v14 main_c_3
  let main_v16 : IVec S_ 1 := andi main_v10 main_v15
  main_v16
-- ==== Pre_finite_qk_cum.lean ====
abbrev S2x8192x1536 : Shape := ⟨3, ![2, 8192, 1536]⟩
abbrev S2x8192x128 : Shape := ⟨3, ![2, 8192, 128]⟩
abbrev S2x8192x1024 : Shape := ⟨3, ![2, 8192, 1024]⟩
abbrev S_ : Shape := ⟨0, ![]⟩
abbrev S2x8192x8 : Shape := ⟨3, ![2, 8192, 8]⟩

class Facts : Prop where
  slices_S2x8192x1536_S2x8192x1024_0_0_0 : S2x8192x1536.Slices ![0, 0, 0] S2x8192x1024
  bitsLt_bf16_f32 : FTy.bits .bf16 < FTy.bits .f32
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  slices_S2x8192x128_S2x8192x8_0_0_0 : S2x8192x128.Slices ![0, 0, 0] S2x8192x8
  bcast_S_S2x8192x8 : S_.BroadcastsInDim S2x8192x8 (![] : Fin 0 → Fin S2x8192x8.rank)
  reducesTo_S2x8192x8_S_d0_1_2 : S2x8192x8.ReducesTo [0, 1, 2] S_

variable [Facts]

def fn {F : FTy → Type} [FloatOps F] (main_arg0 : FVec F S2x8192x1536 .bf16) (main_arg1 : FVec F S2x8192x128 .f32) : IVec S_ 1 :=
  let main_v0 : FVec F S2x8192x1024 .bf16 := (extractStridedSlice S2x8192x1024 ![0, 0, 0] · slices_S2x8192x1536_S2x8192x1024_0_0_0) main_arg0
  let main_v1 : FVec F S2x8192x1024 .f32 := (extf .f32 · bitsLt_bf16_f32) main_v0
  let main_v2 : FVec F S2x8192x1024 .f32 := Host.absf main_v1
  let main_cst : FVec F S_ .f32 := constant S_ .f32 0x7F800000#32
  let main_v3 : FVec F S2x8192x1024 .f32 := broadcastInDim S2x8192x1024 ![] bcast_S_S2x8192x1024 main_cst
  let main_v4 : IVec S2x8192x1024 1 := cmpf .olt main_v2 main_v3
  let main_c : IVec S_ 1 := constantI S_ 1 1#1
  let main_v5 : IVec S_ 1 := (fun x v => Host.reduce IntOp.andi x v reducesTo_S2x8192x1024_S_d0_1_2 h_S_) main_v4 main_c
  let main_v6 : FVec F S2x8192x8 .f32 := (extractStridedSlice S2x8192x8 ![0, 0, 0] · slices_S2x8192x128_S2x8192x8_0_0_0) main_arg1
  let main_v7 : FVec F S2x8192x8 .f32 := Host.absf main_v6
  let main_cst_0 : FVec F S_ .f32 := constant S_ .f32 0x7F800000#32
  let main_v8 : FVec F S2x8192x8 .f32 := broadcastInDim S2x8192x8 ![] bcast_S_S2x8192x8 main_cst_0
  let main_v9 : IVec S2x8192x8 1 := cmpf .olt main_v7 main_v8
  let main_c_1 : IVec S_ 1 := constantI S_ 1 1#1
  let main_v10 : IVec S_ 1 := (fun x v => Host.reduce IntOp.andi x v reducesTo_S2x8192x8_S_d0_1_2 h_S_) main_v9 main_c_1
  let main_v11 : IVec S_ 1 := andi main_v5 main_v10
  main_v11
-- ==== Fox.lean ====
abbrev S2x8192x1536 : Shape := ⟨3, ![2, 8192, 1536]⟩
abbrev S2x8192x128 : Shape := ⟨3, ![2, 8192, 128]⟩
abbrev S2x8192x8 : Shape := ⟨3, ![2, 8192, 8]⟩
abbrev S2x8x8192 : Shape := ⟨3, ![2, 8, 8192]⟩
abbrev S2x8x16x1x512 : Shape := ⟨5, ![2, 8, 16, 1, 512]⟩
abbrev S2x8192x512 : Shape := ⟨3, ![2, 8192, 512]⟩
abbrev S2x8192x8x64 : Shape := ⟨4, ![2, 8192, 8, 64]⟩
abbrev S2x8x8192x64 : Shape := ⟨4, ![2, 8, 8192, 64]⟩
abbrev S2x8x16x512x64 : Shape := ⟨5, ![2, 8, 16, 512, 64]⟩
abbrev S2x8x16x64x512 : Shape := ⟨5, ![2, 8, 16, 64, 512]⟩
abbrev S1x1x256x64 : Shape := ⟨4, ![1, 1, 256, 64]⟩
abbrev S1x1x16x64x512 : Shape := ⟨5, ![1, 1, 16, 64, 512]⟩
abbrev S1x1x8192x64 : Shape := ⟨4, ![1, 1, 8192, 64]⟩
abbrev S1x256x128 : Shape := ⟨3, ![1, 256, 128]⟩
abbrev S1x1x16x1x512 : Shape := ⟨5, ![1, 1, 16, 1, 512]⟩
abbrev S256x1 : Shape := ⟨2, ![256, 1]⟩
abbrev S256x64 : Shape := ⟨2, ![256, 64]⟩
abbrev S256x128 : Shape := ⟨2, ![256, 128]⟩
abbrev S256 : Shape := ⟨1, ![256]⟩
abbrev S1x1x1x64x512 : Shape := ⟨5, ![1, 1, 1, 64, 512]⟩
abbrev S64x512 : Shape := ⟨2, ![64, 512]⟩
abbrev S256x512 : Shape := ⟨2, ![256, 512]⟩
abbrev S1x1x1x1x512 : Shape := ⟨5, ![1, 1, 1, 1, 512]⟩
abbrev S1x512 : Shape := ⟨2, ![1, 512]⟩
abbrev S1x1x512x64 : Shape := ⟨4, ![1, 1, 512, 64]⟩
abbrev S512x64 : Shape := ⟨2, ![512, 64]⟩

abbrev nBuf : Space → Nat
  | .hbm => 17
  | .vmem => 15
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x128, .f32⟩
  | .hbm, ⟨2, _⟩ => ⟨S2x8192x8, .f32⟩
  | .hbm, ⟨3, _⟩ => ⟨S2x8x8192, .f32⟩
  | .hbm, ⟨4, _⟩ => ⟨S2x8x16x1x512, .f32⟩
  | .hbm, ⟨5, _⟩ => ⟨S2x8192x512, .bf16⟩
  | .hbm, ⟨6, _⟩ => ⟨S2x8192x8x64, .bf16⟩
  | .hbm, ⟨7, _⟩ => ⟨S2x8x8192x64, .bf16⟩
  | .hbm, ⟨8, _⟩ => ⟨S2x8192x512, .bf16⟩
  | .hbm, ⟨9, _⟩ => ⟨S2x8192x8x64, .bf16⟩
  | .hbm, ⟨10, _⟩ => ⟨S2x8x8192x64, .bf16⟩
  | .hbm, ⟨11, _⟩ => ⟨S2x8x16x512x64, .bf16⟩
  | .hbm, ⟨12, _⟩ => ⟨S2x8x16x64x512, .bf16⟩
  | .hbm, ⟨13, _⟩ => ⟨S2x8192x512, .bf16⟩
  | .hbm, ⟨14, _⟩ => ⟨S2x8192x8x64, .bf16⟩
  | .hbm, ⟨15, _⟩ => ⟨S2x8x8192x64, .bf16⟩
  | .hbm, ⟨16, _⟩ => ⟨S2x8x8192x64, .bf16⟩
  | .local _ .vmem, ⟨0, _⟩ => ⟨S1x1x256x64, .bf16⟩
  | .local _ .vmem, ⟨1, _⟩ => ⟨S1x1x256x64, .bf16⟩
  | .local _ .vmem, ⟨2, _⟩ => ⟨S1x1x16x64x512, .bf16⟩
  | .local _ .vmem, ⟨3, _⟩ => ⟨S1x1x16x64x512, .bf16⟩
  | .local _ .vmem, ⟨4, _⟩ => ⟨S1x1x8192x64, .bf16⟩
  | .local _ .vmem, ⟨5, _⟩ => ⟨S1x1x8192x64, .bf16⟩
  | .local _ .vmem, ⟨6, _⟩ => ⟨S1x256x128, .f32⟩
  | .local _ .vmem, ⟨7, _⟩ => ⟨S1x256x128, .f32⟩
  | .local _ .vmem, ⟨8, _⟩ => ⟨S1x1x16x1x512, .f32⟩
  | .local _ .vmem, ⟨9, _⟩ => ⟨S1x1x16x1x512, .f32⟩
  | .local _ .vmem, ⟨10, _⟩ => ⟨S1x1x256x64, .bf16⟩
  | .local _ .vmem, ⟨11, _⟩ => ⟨S1x1x256x64, .bf16⟩
  | .local _ .vmem, ⟨12, _⟩ => ⟨S256x1, .f32⟩
  | .local _ .vmem, ⟨13, _⟩ => ⟨S256x1, .f32⟩
  | .local _ .vmem, ⟨14, _⟩ => ⟨S256x64, .f32⟩
  | _, _ => ⟨S2x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 32], ![false, false, false]⟩

@[reducible] def k0_t1_loop (i : grid0.Coords) : Scf.Loop 32 :=
  let c0_i32_21 : BitVec 32 := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_23 : BitVec 32 := 1#32
  ⟨c0_i32_21, v45, c1_i32_23⟩
def k0_off1 (i : grid0.Coords) (k0_t1 : Fin (k0_t1_loop i).trips) : Fin 5 → Nat :=
  let c0_64 : Index := 0#32
  let c0_65 : Index := 0#32
  let c0_i32_21 : BitVec 32 := 0#32
  let c1_i32_23 : BitVec 32 := 1#32
  let arg12 : BitVec 32 := Scf.iv c0_i32_21 c1_i32_23 k0_t1
  let v110 : Index := Scalar.indexCast arg12
  let c0_66 : Index := 0#32
  let c0_67 : Index := 0#32
  ![0, 0, v110.toNat, 0, 0]
def k0_off2 (i : grid0.Coords) (k0_t1 : Fin (k0_t1_loop i).trips) : Fin 5 → Nat :=
  let c0_69 : Index := 0#32
  let c0_70 : Index := 0#32
  let c0_i32_21 : BitVec 32 := 0#32
  let c1_i32_23 : BitVec 32 := 1#32
  let arg12 : BitVec 32 := Scf.iv c0_i32_21 c1_i32_23 k0_t1
  let v114 : Index := Scalar.indexCast arg12
  let c0_71 : Index := 0#32
  let c0_72 : Index := 0#32
  ![0, 0, v114.toNat, 0, 0]
def k0_mult1 (i : grid0.Coords) (k0_t1 : Fin (k0_t1_loop i).trips) : BitVec 32 :=
  let c0_i32_21 : BitVec 32 := 0#32
  let c1_i32_23 : BitVec 32 := 1#32
  let arg12 : BitVec 32 := Scf.iv c0_i32_21 c1_i32_23 k0_t1
  let c512_i32_73 : BitVec 32 := 512#32
  let v121 : BitVec 32 := Scalar.muli arg12 c512_i32_73
  v121
def k0_off3 (i : grid0.Coords) (k0_t1 : Fin (k0_t1_loop i).trips) : Fin 4 → Nat :=
  let c0_74 : Index := 0#32
  let c0_75 : Index := 0#32
  let c0_i32_21 : BitVec 32 := 0#32
  let c1_i32_23 : BitVec 32 := 1#32
  let arg12 : BitVec 32 := Scf.iv c0_i32_21 c1_i32_23 k0_t1
  let c512_i32_73 : BitVec 32 := 512#32
  let v121 : BitVec 32 := Scalar.muli arg12 c512_i32_73
  let v122 : BitVec 32 := v121
  let v123 : Index := Scalar.indexCast v122
  let c0_76 : Index := 0#32
  ![0, 0, v123.toNat, 0]
@[reducible] def k0_t2_loop (i : grid0.Coords) : Scf.Loop 32 :=
  let c0_i32_21 : BitVec 32 := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let v42 : BitVec 32 := Scalar.addi c0_i32_21 v41
  let c1_i32_24 : BitVec 32 := 1#32
  ⟨v45, v42, c1_i32_24⟩
def k0_off4 (i : grid0.Coords) (k0_t2 : Fin (k0_t2_loop i).trips) : Fin 5 → Nat :=
  let c0_64 : Index := 0#32
  let c0_65 : Index := 0#32
  let c0_i32_21 : BitVec 32 := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg12 : BitVec 32 := Scf.iv v45 c1_i32_24 k0_t2
  let v110 : Index := Scalar.indexCast arg12
  let c0_66 : Index := 0#32
  let c0_67 : Index := 0#32
  ![0, 0, v110.toNat, 0, 0]
def k0_off5 (i : grid0.Coords) (k0_t2 : Fin (k0_t2_loop i).trips) : Fin 5 → Nat :=
  let c0_69 : Index := 0#32
  let c0_70 : Index := 0#32
  let c0_i32_21 : BitVec 32 := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg12 : BitVec 32 := Scf.iv v45 c1_i32_24 k0_t2
  let v114 : Index := Scalar.indexCast arg12
  let c0_71 : Index := 0#32
  let c0_72 : Index := 0#32
  ![0, 0, v114.toNat, 0, 0]
def k0_mult2 (i : grid0.Coords) (k0_t2 : Fin (k0_t2_loop i).trips) : BitVec 32 :=
  let c0_i32_21 : BitVec 32 := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg12 : BitVec 32 := Scf.iv v45 c1_i32_24 k0_t2
  let c512_i32_73 : BitVec 32 := 512#32
  let v121 : BitVec 32 := Scalar.muli arg12 c512_i32_73
  v121
def k0_off6 (i : grid0.Coords) (k0_t2 : Fin (k0_t2_loop i).trips) : Fin 4 → Nat :=
  let c0_74 : Index := 0#32
  let c0_75 : Index := 0#32
  let c0_i32_21 : BitVec 32 := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let v41 : BitVec 32 := Scalar.subi v40 c0_i32_21
  let c1_i32_22 : BitVec 32 := 1#32
  let v43 : BitVec 32 := Scalar.divsi v41 c1_i32_22
  let v44 : BitVec 32 := Scalar.muli v43 c1_i32_22
  let v45 : BitVec 32 := Scalar.addi c0_i32_21 v44
  let c1_i32_24 : BitVec 32 := 1#32
  let arg12 : BitVec 32 := Scf.iv v45 c1_i32_24 k0_t2
  let c512_i32_73 : BitVec 32 := 512#32
  let v121 : BitVec 32 := Scalar.muli arg12 c512_i32_73
  let v122 : BitVec 32 := v121
  let v123 : Index := Scalar.indexCast v122
  let c0_76 : Index := 0#32
  ![0, 0, v123.toNat, 0]
def k0_off7 (i : grid0.Coords) : Fin 5 → Nat :=
  let c0_25 : Index := 0#32
  let c0_26 : Index := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let v46 : Index := Scalar.indexCast v40
  let c0_27 : Index := 0#32
  let c0_28 : Index := 0#32
  ![0, 0, v46.toNat, 0, 0]
def k0_off8 (i : grid0.Coords) : Fin 5 → Nat :=
  let c0_30 : Index := 0#32
  let c0_31 : Index := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let v50 : Index := Scalar.indexCast v40
  let c0_32 : Index := 0#32
  let c0_33 : Index := 0#32
  ![0, 0, v50.toNat, 0, 0]
def k0_mult3 (i : grid0.Coords) : BitVec 32 :=
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let c512_i32_37 : BitVec 32 := 512#32
  let v68 : BitVec 32 := Scalar.muli v40 c512_i32_37
  v68
def k0_off9 (i : grid0.Coords) : Fin 4 → Nat :=
  let c0_38 : Index := 0#32
  let c0_39 : Index := 0#32
  let arg2 : BitVec 32 := BitVec.ofNat 32 (i 2).val
  let c256_i32 : BitVec 32 := 256#32
  let v23 : BitVec 32 := Scalar.muli arg2 c256_i32
  let c0_i32 : BitVec 32 := 0#32
  let v25 : BitVec 1 := Scalar.cmpi .sgt v23 c0_i32
  let v26 : BitVec 32 := Scalar.extui v25
  let c0_i32_16 : BitVec 32 := 0#32
  let v27 : BitVec 1 := Scalar.cmpi .slt v23 c0_i32_16
  let v28 : BitVec 32 := Scalar.extui v27
  let v29 : BitVec 32 := Scalar.subi v26 v28
  let c512_i32 : BitVec 32 := 512#32
  let c0_i32_17 : BitVec 32 := 0#32
  let v30 : BitVec 1 := Scalar.cmpi .sgt c512_i32 c0_i32_17
  let v31 : BitVec 32 := Scalar.extui v30
  let c0_i32_18 : BitVec 32 := 0#32
  let v32 : BitVec 1 := Scalar.cmpi .slt c512_i32 c0_i32_18
  let v33 : BitVec 32 := Scalar.extui v32
  let v34 : BitVec 32 := Scalar.subi v31 v33
  let v35 : BitVec 1 := Scalar.cmpi .ne v29 v34
  let v36 : BitVec 32 := Scalar.remsi v23 c512_i32
  let c0_i32_19 : BitVec 32 := 0#32
  let v37 : BitVec 1 := Scalar.cmpi .ne v36 c0_i32_19
  let v38 : BitVec 1 := Scalar.andi v35 v37
  let v24 : BitVec 32 := Scalar.divsi v23 c512_i32
  let c1_i32 : BitVec 32 := 1#32
  let v39 : BitVec 32 := Scalar.subi v24 c1_i32
  let v40 : BitVec 32 := Scalar.select v38 v39 v24
  let c512_i32_37 : BitVec 32 := 512#32
  let v68 : BitVec 32 := Scalar.muli v40 c512_i32_37
  let v69 : BitVec 32 := v68
  let v70 : Index := Scalar.indexCast v69
  let c0_40 : Index := 0#32
  ![0, 0, v70.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x256x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S2x8192x1536 : Shape := ⟨3, ![2, 8192, 1536]⟩
abbrev S2x8192x128 : Shape := ⟨3, ![2, 8192, 128]⟩
abbrev S2x8192x3x8x64 : Shape := ⟨5, ![2, 8192, 3, 8, 64]⟩
abbrev S2x8192x1x8x64 : Shape := ⟨5, ![2, 8192, 1, 8, 64]⟩
abbrev S2x8192x8x64 : Shape := ⟨4, ![2, 8192, 8, 64]⟩
abbrev S2x8192x8 : Shape := ⟨3, ![2, 8192, 8]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192x64 : Shape := ⟨4, ![2, 8, 8192, 64]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1536, .bf16⟩
  | .hbm, ⟨1, _⟩ => ⟨S2x8192x128, .f32⟩
  | .hbm, ⟨2, _⟩ => ⟨S2x8192x3x8x64, .bf16⟩
  | .hbm, ⟨3, _⟩ => ⟨S2x8192x1x8x64, .bf16⟩
  | .hbm, ⟨4, _⟩ => ⟨S2x8192x8x64, .bf16⟩
  | .hbm, ⟨5, _⟩ => ⟨S2x8192x1x8x64, .bf16⟩
  | .hbm, ⟨6, _⟩ => ⟨S2x8192x8x64, .bf16⟩
  | .hbm, ⟨7, _⟩ => ⟨S2x8192x1x8x64, .bf16⟩
  | .hbm, ⟨8, _⟩ => ⟨S2x8192x8x64, .bf16⟩
  | .hbm, ⟨9, _⟩ => ⟨S2x8192x8, .f32⟩
  | .hbm, ⟨10, _⟩ => ⟨S2x8192x8x64, .f32⟩
  | .hbm, ⟨11, _⟩ => ⟨S2x8192x8x64, .f32⟩
  | .hbm, ⟨12, _⟩ => ⟨S2x8x8192x8192, .f32⟩
  | .hbm, ⟨13, _⟩ => ⟨S2x8x8192, .f32⟩
  | .hbm, ⟨14, _⟩ => ⟨S2x8x8192x1, .f32⟩
  | .hbm, ⟨15, _⟩ => ⟨S2x8x8192x8192, .f32⟩
  | .hbm, ⟨16, _⟩ => ⟨S2x8x8192x8192, .f32⟩
  | .hbm, ⟨17, _⟩ => ⟨S2x8x1x8192, .f32⟩
  | .hbm, ⟨18, _⟩ => ⟨S2x8x8192x8192, .f32⟩
  | .hbm, ⟨19, _⟩ => ⟨S2x8x8192x8192, .f32⟩
  | .hbm, ⟨20, _⟩ => ⟨S8192, .i32⟩
  | .hbm, ⟨21, _⟩ => ⟨S1x8192, .i32⟩
  | .hbm, ⟨22, _⟩ => ⟨S8192x1, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S2x8x8192x8192, .i1⟩
  | .hbm, ⟨29, _⟩ => ⟨S2x8x8192x8192, .f32⟩
  | .hbm, ⟨30, _⟩ => ⟨S2x8x8192x8192, .f32⟩
  | .hbm, ⟨31, _⟩ => ⟨S_, .f32⟩
  | .hbm, ⟨32, _⟩ => ⟨S2x8x8192, .f32⟩
  | .hbm, ⟨33, _⟩ => ⟨S_, .f32⟩
  | .hbm, ⟨34, _⟩ => ⟨S2x8x8192, .f32⟩
  | .hbm, ⟨35, _⟩ => ⟨S2x8x8192, .f32⟩
  | .hbm, ⟨36, _⟩ => ⟨S2x8x8192x1, .f32⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S2x8x8192, .f32⟩
  | .hbm, ⟨42, _⟩ => ⟨S2x8x8192x1, .f32⟩
  | .hbm, ⟨43, _⟩ => ⟨S2x8x8192x8192, .f32⟩
  | .hbm, ⟨44, _⟩ => ⟨S2x8x8192x8192, .f32⟩
  | .hbm, ⟨45, _⟩ => ⟨S2x8192x8x64, .f32⟩
  | .hbm, ⟨46, _⟩ => ⟨S2x8x8192x64, .f32⟩
  | .hbm, ⟨47, _⟩ => ⟨S2x8x8192x64, .bf16⟩
  | _, _ => ⟨S2x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Mla.lean ====
abbrev S2x8192x768 : Shape := ⟨3, ![2, 8192, 768]⟩
abbrev S2x8192x512 : Shape := ⟨3, ![2, 8192, 512]⟩
abbrev S2x8192x256 : Shape := ⟨3, ![2, 8192, 256]⟩
abbrev S2x8192x8x64 : Shape := ⟨4, ![2, 8192, 8, 64]⟩
abbrev S2x8192x128 : Shape := ⟨3, ![2, 8192, 128]⟩
abbrev S2x8192x8x16 : Shape := ⟨4, ![2, 8192, 8, 16]⟩
abbrev S_ : Shape := ⟨0, ![]⟩
abbrev S2x8192x8x32 : Shape := ⟨4, ![2, 8192, 8, 32]⟩
abbrev S2x8192x8x128 : Shape := ⟨4, ![2, 8192, 8, 128]⟩
abbrev S2x8x8192x128 : Shape := ⟨4, ![2, 8, 8192, 128]⟩
abbrev S2x8x16x512x128 : Shape := ⟨5, ![2, 8, 16, 512, 128]⟩
abbrev S2x8x16x128x512 : Shape := ⟨5, ![2, 8, 16, 128, 512]⟩
abbrev S2x8x8192x64 : Shape := ⟨4, ![2, 8, 8192, 64]⟩
abbrev S1x1x256x128 : Shape := ⟨4, ![1, 1, 256, 128]⟩
abbrev S1x1x16x128x512 : Shape := ⟨5, ![1, 1, 16, 128, 512]⟩
abbrev S1x1x8192x64 : Shape := ⟨4, ![1, 1, 8192, 64]⟩
abbrev S1x1x256x64 : Shape := ⟨4, ![1, 1, 256, 64]⟩
abbrev S256x1 : Shape := ⟨2, ![256, 1]⟩
abbrev S256x64 : Shape := ⟨2, ![256, 64]⟩
abbrev S256x128 : Shape := ⟨2, ![256, 128]⟩
abbrev S1x1x1x128x512 : Shape := ⟨5, ![1, 1, 1, 128, 512]⟩
abbrev S128x512 : Shape := ⟨2, ![128, 512]⟩
abbrev S256x512 : Shape := ⟨2, ![256, 512]⟩
abbrev S1x1x512x64 : Shape := ⟨4, ![1, 1, 512, 64]⟩
abbrev S512x64 : Shape := ⟨2, ![512, 64]⟩
abbrev S256 : Shape := ⟨1, ![256]⟩

abbrev nBuf : Space → Nat
  | .hbm => 28
  | .vmem => 11
  | .smem => 0
  | _ => 0

abbrev bufTy : (tb : Table) → Fin (tcTables nBuf tb) → BufTy
  | .hbm, ⟨0, _⟩ => ⟨S2x8192x768, .bf16⟩
  | .hbm, ⟨1, _⟩ => ⟨S2x8192x512, .bf16⟩
  | .hbm, ⟨2, _⟩ => ⟨S2x8192x256, .bf16⟩
  | .hbm, ⟨3, _⟩ => ⟨S2x8192x512, .bf16⟩
  | .hbm, ⟨4, _⟩ => ⟨S2x8192x512, .bf16⟩
  | .hbm, ⟨5, _⟩ => ⟨S2x8192x8x64, .bf16⟩
  | .hbm, ⟨6, _⟩ => ⟨S2x8192x128, .bf16⟩
  | .hbm, ⟨7, _⟩ => ⟨S2x8192x8x16, .bf16⟩
  | .hbm, ⟨8, _⟩ => ⟨S2x8192x128, .bf16⟩
  | .hbm, ⟨9, _⟩ => ⟨S2x8192x8x16, .bf16⟩
  | .hbm, ⟨10, _⟩ => ⟨S_, .bf16⟩
  | .hbm, ⟨11, _⟩ => ⟨S2x8192x8x32, .bf16⟩
  | .hbm, ⟨12, _⟩ => ⟨S2x8192x8x128, .bf16⟩
  | .hbm, ⟨13, _⟩ => ⟨S2x8x8192x128, .bf16⟩
  | .hbm, ⟨14, _⟩ => ⟨S2x8192x8x64, .bf16⟩
  | .hbm, ⟨15, _⟩ => ⟨S2x8192x128, .bf16⟩
  | .hbm, ⟨16, _⟩ => ⟨S2x8192x8x16, .bf16⟩
  | .hbm, ⟨17, _⟩ => ⟨S2x8192x128, .bf16⟩
  | .hbm, ⟨18, _⟩ => ⟨S2x8192x8x16, .bf16⟩
  | .hbm, ⟨19, _⟩ => ⟨S_, .bf16⟩
  | .hbm, ⟨20, _⟩ => ⟨S2x8192x8x32, .bf16⟩
  | .hbm, ⟨21, _⟩ => ⟨S2x8192x8x128, .bf16⟩
  | .hbm, ⟨22, _⟩ => ⟨S2x8x8192x128, .bf16⟩
  | .hbm, ⟨23, _⟩ => ⟨S2x8x16x512x128, .bf16⟩
  | .hbm, ⟨24, _⟩ => ⟨S2x8x16x128x512, .bf16⟩
  | .hbm, ⟨25, _⟩ => ⟨S2x8192x8x64, .bf16⟩
  | .hbm, ⟨26, _⟩ => ⟨S2x8x8192x64, .bf16⟩
  | .hbm, ⟨27, _⟩ => ⟨S2x8x8192x64, .bf16⟩
  | .local _ .vmem, ⟨0, _⟩ => ⟨S1x1x256x128, .bf16⟩
  | .local _ .vmem, ⟨1, _⟩ => ⟨S1x1x256x128, .bf16⟩
  | .local _ .vmem, ⟨2, _⟩ => ⟨S1x1x16x128x512, .bf16⟩
  | .local _ .vmem, ⟨3, _⟩ => ⟨S1x1x16x128x512, .bf16⟩
  | .local _ .vmem, ⟨4, _⟩ => ⟨S1x1x8192x64, .bf16⟩
  | .local _ .vmem, ⟨5, _⟩ => ⟨S1x1x8192x64, .bf16⟩
  | .local _ .vmem, ⟨6, _⟩ => ⟨S1x1x256x64, .bf16⟩
  | .local _ .vmem, ⟨7, _⟩ => ⟨S1x1x256x64, .bf16⟩
  | .local _ .vmem, ⟨8, _⟩ => ⟨S256x1, .f32⟩
  | .local _ .vmem, ⟨9, _⟩ => ⟨S256x1, .f32⟩
  | .local _ .vmem, ⟨10, _⟩ => ⟨S256x64, .f32⟩
  | _, _ => ⟨S2x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

@[reducible] def k0_t1_loop (i : grid0.Coords) : Scf.Loop 32 :=
  let c0_i32_16 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32 : BitVec 32 := 512#32
  let c0_i32_12 : BitVec 32 := 0#32
  let v21 : BitVec 1 := Scalar.cmpi .sgt c512_i32 c0_i32_12
  let v22 : BitVec 32 := Scalar.extui v21
  let c0_i32_13 : BitVec 32 := 0#32
  let v23 : BitVec 1 := Scalar.cmpi .slt c512_i32 c0_i32_13
  let v24 : BitVec 32 := Scalar.extui v23
  let v25 : BitVec 32 := Scalar.subi v22 v24
  let v26 : BitVec 1 := Scalar.cmpi .ne v20 v25
  let v27 : BitVec 32 := Scalar.remsi v14 c512_i32
  let c0_i32_14 : BitVec 32 := 0#32
  let v28 : BitVec 1 := Scalar.cmpi .ne v27 c0_i32_14
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_18 : BitVec 32 := 1#32
  ⟨c0_i32_16, v36, c1_i32_18⟩
def k0_off1 (i : grid0.Coords) (k0_t1 : Fin (k0_t1_loop i).trips) : Fin 5 → Nat :=
  let c0_55 : Index := 0#32
  let c0_56 : Index := 0#32
  let c0_i32_16 : BitVec 32 := 0#32
  let c1_i32_18 : BitVec 32 := 1#32
  let arg10 : BitVec 32 := Scf.iv c0_i32_16 c1_i32_18 k0_t1
  let v94 : Index := Scalar.indexCast arg10
  let c0_57 : Index := 0#32
  let c0_58 : Index := 0#32
  ![0, 0, v94.toNat, 0, 0]
def k0_mult1 (i : grid0.Coords) (k0_t1 : Fin (k0_t1_loop i).trips) : BitVec 32 :=
  let c0_i32_16 : BitVec 32 := 0#32
  let c1_i32_18 : BitVec 32 := 1#32
  let arg10 : BitVec 32 := Scf.iv c0_i32_16 c1_i32_18 k0_t1
  let c512_i32_60 : BitVec 32 := 512#32
  let v98 : BitVec 32 := Scalar.muli arg10 c512_i32_60
  v98
def k0_off2 (i : grid0.Coords) (k0_t1 : Fin (k0_t1_loop i).trips) : Fin 4 → Nat :=
  let c0_61 : Index := 0#32
  let c0_62 : Index := 0#32
  let c0_i32_16 : BitVec 32 := 0#32
  let c1_i32_18 : BitVec 32 := 1#32
  let arg10 : BitVec 32 := Scf.iv c0_i32_16 c1_i32_18 k0_t1
  let c512_i32_60 : BitVec 32 := 512#32
  let v98 : BitVec 32 := Scalar.muli arg10 c512_i32_60
  let v99 : BitVec 32 := v98
  let v100 : Index := Scalar.indexCast v99
  let c0_63 : Index := 0#32
  ![0, 0, v100.toNat, 0]
@[reducible] def k0_t2_loop (i : grid0.Coords) : Scf.Loop 32 :=
  let c0_i32_16 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32 : BitVec 32 := 512#32
  let c0_i32_12 : BitVec 32 := 0#32
  let v21 : BitVec 1 := Scalar.cmpi .sgt c512_i32 c0_i32_12
  let v22 : BitVec 32 := Scalar.extui v21
  let c0_i32_13 : BitVec 32 := 0#32
  let v23 : BitVec 1 := Scalar.cmpi .slt c512_i32 c0_i32_13
  let v24 : BitVec 32 := Scalar.extui v23
  let v25 : BitVec 32 := Scalar.subi v22 v24
  let v26 : BitVec 1 := Scalar.cmpi .ne v20 v25
  let v27 : BitVec 32 := Scalar.remsi v14 c512_i32
  let c0_i32_14 : BitVec 32 := 0#32
  let v28 : BitVec 1 := Scalar.cmpi .ne v27 c0_i32_14
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let v33 : BitVec 32 := Scalar.addi c0_i32_16 v32
  let c1_i32_19 : BitVec 32 := 1#32
  ⟨v36, v33, c1_i32_19⟩
def k0_off3 (i : grid0.Coords) (k0_t2 : Fin (k0_t2_loop i).trips) : Fin 5 → Nat :=
  let c0_55 : Index := 0#32
  let c0_56 : Index := 0#32
  let c0_i32_16 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32 : BitVec 32 := 512#32
  let c0_i32_12 : BitVec 32 := 0#32
  let v21 : BitVec 1 := Scalar.cmpi .sgt c512_i32 c0_i32_12
  let v22 : BitVec 32 := Scalar.extui v21
  let c0_i32_13 : BitVec 32 := 0#32
  let v23 : BitVec 1 := Scalar.cmpi .slt c512_i32 c0_i32_13
  let v24 : BitVec 32 := Scalar.extui v23
  let v25 : BitVec 32 := Scalar.subi v22 v24
  let v26 : BitVec 1 := Scalar.cmpi .ne v20 v25
  let v27 : BitVec 32 := Scalar.remsi v14 c512_i32
  let c0_i32_14 : BitVec 32 := 0#32
  let v28 : BitVec 1 := Scalar.cmpi .ne v27 c0_i32_14
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg10 : BitVec 32 := Scf.iv v36 c1_i32_19 k0_t2
  let v94 : Index := Scalar.indexCast arg10
  let c0_57 : Index := 0#32
  let c0_58 : Index := 0#32
  ![0, 0, v94.toNat, 0, 0]
def k0_mult2 (i : grid0.Coords) (k0_t2 : Fin (k0_t2_loop i).trips) : BitVec 32 :=
  let c0_i32_16 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32 : BitVec 32 := 512#32
  let c0_i32_12 : BitVec 32 := 0#32
  let v21 : BitVec 1 := Scalar.cmpi .sgt c512_i32 c0_i32_12
  let v22 : BitVec 32 := Scalar.extui v21
  let c0_i32_13 : BitVec 32 := 0#32
  let v23 : BitVec 1 := Scalar.cmpi .slt c512_i32 c0_i32_13
  let v24 : BitVec 32 := Scalar.extui v23
  let v25 : BitVec 32 := Scalar.subi v22 v24
  let v26 : BitVec 1 := Scalar.cmpi .ne v20 v25
  let v27 : BitVec 32 := Scalar.remsi v14 c512_i32
  let c0_i32_14 : BitVec 32 := 0#32
  let v28 : BitVec 1 := Scalar.cmpi .ne v27 c0_i32_14
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg10 : BitVec 32 := Scf.iv v36 c1_i32_19 k0_t2
  let c512_i32_60 : BitVec 32 := 512#32
  let v98 : BitVec 32 := Scalar.muli arg10 c512_i32_60
  v98
def k0_off4 (i : grid0.Coords) (k0_t2 : Fin (k0_t2_loop i).trips) : Fin 4 → Nat :=
  let c0_61 : Index := 0#32
  let c0_62 : Index := 0#32
  let c0_i32_16 : BitVec 32 := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32 : BitVec 32 := 512#32
  let c0_i32_12 : BitVec 32 := 0#32
  let v21 : BitVec 1 := Scalar.cmpi .sgt c512_i32 c0_i32_12
  let v22 : BitVec 32 := Scalar.extui v21
  let c0_i32_13 : BitVec 32 := 0#32
  let v23 : BitVec 1 := Scalar.cmpi .slt c512_i32 c0_i32_13
  let v24 : BitVec 32 := Scalar.extui v23
  let v25 : BitVec 32 := Scalar.subi v22 v24
  let v26 : BitVec 1 := Scalar.cmpi .ne v20 v25
  let v27 : BitVec 32 := Scalar.remsi v14 c512_i32
  let c0_i32_14 : BitVec 32 := 0#32
  let v28 : BitVec 1 := Scalar.cmpi .ne v27 c0_i32_14
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_16
  let c1_i32_17 : BitVec 32 := 1#32
  let v34 : BitVec 32 := Scalar.divsi v32 c1_i32_17
  let v35 : BitVec 32 := Scalar.muli v34 c1_i32_17
  let v36 : BitVec 32 := Scalar.addi c0_i32_16 v35
  let c1_i32_19 : BitVec 32 := 1#32
  let arg10 : BitVec 32 := Scf.iv v36 c1_i32_19 k0_t2
  let c512_i32_60 : BitVec 32 := 512#32
  let v98 : BitVec 32 := Scalar.muli arg10 c512_i32_60
  let v99 : BitVec 32 := v98
  let v100 : Index := Scalar.indexCast v99
  let c0_63 : Index := 0#32
  ![0, 0, v100.toNat, 0]
def k0_off5 (i : grid0.Coords) : Fin 5 → Nat :=
  let c0_20 : Index := 0#32
  let c0_21 : Index := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32 : BitVec 32 := 512#32
  let c0_i32_12 : BitVec 32 := 0#32
  let v21 : BitVec 1 := Scalar.cmpi .sgt c512_i32 c0_i32_12
  let v22 : BitVec 32 := Scalar.extui v21
  let c0_i32_13 : BitVec 32 := 0#32
  let v23 : BitVec 1 := Scalar.cmpi .slt c512_i32 c0_i32_13
  let v24 : BitVec 32 := Scalar.extui v23
  let v25 : BitVec 32 := Scalar.subi v22 v24
  let v26 : BitVec 1 := Scalar.cmpi .ne v20 v25
  let v27 : BitVec 32 := Scalar.remsi v14 c512_i32
  let c0_i32_14 : BitVec 32 := 0#32
  let v28 : BitVec 1 := Scalar.cmpi .ne v27 c0_i32_14
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v37 : Index := Scalar.indexCast v31
  let c0_22 : Index := 0#32
  let c0_23 : Index := 0#32
  ![0, 0, v37.toNat, 0, 0]
def k0_mult3 (i : grid0.Coords) : BitVec 32 :=
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32 : BitVec 32 := 512#32
  let c0_i32_12 : BitVec 32 := 0#32
  let v21 : BitVec 1 := Scalar.cmpi .sgt c512_i32 c0_i32_12
  let v22 : BitVec 32 := Scalar.extui v21
  let c0_i32_13 : BitVec 32 := 0#32
  let v23 : BitVec 1 := Scalar.cmpi .slt c512_i32 c0_i32_13
  let v24 : BitVec 32 := Scalar.extui v23
  let v25 : BitVec 32 := Scalar.subi v22 v24
  let v26 : BitVec 1 := Scalar.cmpi .ne v20 v25
  let v27 : BitVec 32 := Scalar.remsi v14 c512_i32
  let c0_i32_14 : BitVec 32 := 0#32
  let v28 : BitVec 1 := Scalar.cmpi .ne v27 c0_i32_14
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let c512_i32_28 : BitVec 32 := 512#32
  let v52 : BitVec 32 := Scalar.muli v31 c512_i32_28
  v52
def k0_off6 (i : grid0.Coords) : Fin 4 → Nat :=
  let c0_29 : Index := 0#32
  let c0_30 : Index := 0#32
  let arg2 : BitVec 32 := BitVec.ofNat 32 (i 2).val
  let c256_i32 : BitVec 32 := 256#32
  let v14 : BitVec 32 := Scalar.muli arg2 c256_i32
  let c0_i32 : BitVec 32 := 0#32
  let v16 : BitVec 1 := Scalar.cmpi .sgt v14 c0_i32
  let v17 : BitVec 32 := Scalar.extui v16
  let c0_i32_11 : BitVec 32 := 0#32
  let v18 : BitVec 1 := Scalar.cmpi .slt v14 c0_i32_11
  let v19 : BitVec 32 := Scalar.extui v18
  let v20 : BitVec 32 := Scalar.subi v17 v19
  let c512_i32 : BitVec 32 := 512#32
  let c0_i32_12 : BitVec 32 := 0#32
  let v21 : BitVec 1 := Scalar.cmpi .sgt c512_i32 c0_i32_12
  let v22 : BitVec 32 := Scalar.extui v21
  let c0_i32_13 : BitVec 32 := 0#32
  let v23 : BitVec 1 := Scalar.cmpi .slt c512_i32 c0_i32_13
  let v24 : BitVec 32 := Scalar.extui v23
  let v25 : BitVec 32 := Scalar.subi v22 v24
  let v26 : BitVec 1 := Scalar.cmpi .ne v20 v25
  let v27 : BitVec 32 := Scalar.remsi v14 c512_i32
  let c0_i32_14 : BitVec 32 := 0#32
  let v28 : BitVec 1 := Scalar.cmpi .ne v27 c0_i32_14
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let c512_i32_28 : BitVec 32 := 512#32
  let v52 : BitVec 32 := Scalar.muli v31 c512_i32_28
  let v53 : BitVec 32 := v52
  let v54 : Index := Scalar.indexCast v53
  let c0_31 : Index := 0#32
  ![0, 0, v54.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaIdeal.lean ====
variable {F : FTy → Type} [FloatOps F] [Named F]
def κ : String → Option EReal := fun
  | "mask" => some ⊥
  | _ => none
-- ==== MlaRefIdeal.lean ====
abbrev S2x8192x768 : Shape := ⟨3, ![2, 8192, 768]⟩
abbrev S2x8192x512 : Shape := ⟨3, ![2, 8192, 512]⟩
abbrev S2x8192x256 : Shape := ⟨3, ![2, 8192, 256]⟩
abbrev S2x8192x8x64 : Shape := ⟨4, ![2, 8192, 8, 64]⟩
abbrev S2x8192x128 : Shape := ⟨3, ![2, 8192, 128]⟩
abbrev S2x8192x8x16 : Shape := ⟨4, ![2, 8192, 8, 16]⟩
abbrev S2x8192x8x96 : Shape := ⟨4, ![2, 8192, 8, 96]⟩
abbrev S2x8x8192x8192 : Shape := ⟨4, ![2, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8x8192 : Shape := ⟨3, ![2, 8, 8192]⟩
abbrev S2x8x8192x1 : Shape := ⟨4, ![2, 8, 8192, 1]⟩
abbrev S2x8x8192x64 : Shape := ⟨4, ![2, 8, 8192, 64]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x768, .bf16⟩
  | .hbm, ⟨1, _⟩ => ⟨S2x8192x512, .bf16⟩
  | .hbm, ⟨2, _⟩ => ⟨S2x8192x256, .bf16⟩
  | .hbm, ⟨3, _⟩ => ⟨S2x8192x512, .bf16⟩
  | .hbm, ⟨4, _⟩ => ⟨S2x8192x512, .bf16⟩
  | .hbm, ⟨5, _⟩ => ⟨S2x8192x8x64, .bf16⟩
  | .hbm, ⟨6, _⟩ => ⟨S2x8192x128, .bf16⟩
  | .hbm, ⟨7, _⟩ => ⟨S2x8192x8x16, .bf16⟩
  | .hbm, ⟨8, _⟩ => ⟨S2x8192x128, .bf16⟩
  | .hbm, ⟨9, _⟩ => ⟨S2x8192x8x16, .bf16⟩
  | .hbm, ⟨10, _⟩ => ⟨S2x8192x8x96, .bf16⟩
  | .hbm, ⟨11, _⟩ => ⟨S2x8192x8x64, .bf16⟩
  | .hbm, ⟨12, _⟩ => ⟨S2x8192x128, .bf16⟩
  | .hbm, ⟨13, _⟩ => ⟨S2x8192x8x16, .bf16⟩
  | .hbm, ⟨14, _⟩ => ⟨S2x8192x128, .bf16⟩
  | .hbm, ⟨15, _⟩ => ⟨S2x8192x8x16, .bf16⟩
  | .hbm, ⟨16, _⟩ => ⟨S2x8192x8x96, .bf16⟩
  | .hbm, ⟨17, _⟩ => ⟨S2x8192x8x64, .bf16⟩
  | .hbm, ⟨18, _⟩ => ⟨S2x8192x8x96, .f32⟩
  | .hbm, ⟨19, _⟩ => ⟨S2x8192x8x96, .f32⟩
  | .hbm, ⟨20, _⟩ => ⟨S2x8x8192x8192, .f32⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S_, .f32⟩
  | .hbm, ⟨28, _⟩ => ⟨S_, .f32⟩
  | .hbm, ⟨29, _⟩ => ⟨S2x8x8192x8192, .i1⟩
  | .hbm, ⟨30, _⟩ => ⟨S2x8x8192x8192, .f32⟩
  | .hbm, ⟨31, _⟩ => ⟨S2x8x8192x8192, .f32⟩
  | .hbm, ⟨32, _⟩ => ⟨S_, .f32⟩
  | .hbm, ⟨33, _⟩ => ⟨S2x8x8192, .f32⟩
  | .hbm, ⟨34, _⟩ => ⟨S_, .f32⟩
  | .hbm, ⟨35, _⟩ => ⟨S2x8x8192, .f32⟩
  | .hbm, ⟨36, _⟩ => ⟨S2x8x8192, .f32⟩
  | .hbm, ⟨37, _⟩ => ⟨S2x8x8192x1, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S_, .f32⟩
  | .hbm, ⟨42, _⟩ => ⟨S2x8x8192, .f32⟩
  | .hbm, ⟨43, _⟩ => ⟨S2x8x8192x1, .f32⟩
  | .hbm, ⟨44, _⟩ => ⟨S2x8x8192x8192, .f32⟩
  | .hbm, ⟨45, _⟩ => ⟨S2x8x8192x8192, .f32⟩
  | .hbm, ⟨46, _⟩ => ⟨S2x8192x8x64, .f32⟩
  | .hbm, ⟨47, _⟩ => ⟨S2x8x8192x64, .f32⟩
  | .hbm, ⟨48, _⟩ => ⟨S2x8x8192x64, .bf16⟩
  | _, _ => ⟨S2x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Moe.lean ====
abbrev S16384x1024 : Shape := ⟨2, ![16384, 1024]⟩
abbrev S16384x128 : Shape := ⟨2, ![16384, 128]⟩
abbrev S32x1024x256 : Shape := ⟨3, ![32, 1024, 256]⟩
abbrev S32x256x1024 : Shape := ⟨3, ![32, 256, 1024]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S1x1024x256 : Shape := ⟨3, ![1, 1024, 256]⟩
abbrev S1x256x1024 : Shape := ⟨3, ![1, 256, 1024]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S32x1024x256, .bf16⟩
  | .hbm, ⟨8, _⟩ => ⟨S32x1024x256, .bf16⟩
  | .hbm, ⟨9, _⟩ => ⟨S32x256x1024, .bf16⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MoeRefIdeal.lean ====
abbrev S16384x1024 : Shape := ⟨2, ![16384, 1024]⟩
abbrev S16384x128 : Shape := ⟨2, ![16384, 128]⟩
abbrev S32x1024x256 : Shape := ⟨3, ![32, 1024, 256]⟩
abbrev S32x256x1024 : Shape := ⟨3, ![32, 256, 1024]⟩
abbrev S1024 : Shape := ⟨1, ![1024]⟩
abbrev S16384x32x256 : Shape := ⟨3, ![16384, 32, 256]⟩
abbrev S_ : Shape := ⟨0, ![]⟩
abbrev S16384x32 : Shape := ⟨2, ![16384, 32]⟩
abbrev S16384x32x1 : Shape := ⟨3, ![16384, 32, 1]⟩
abbrev S16384 : Shape := ⟨1, ![16384]⟩
abbrev S16384x1 : Shape := ⟨2, ![16384, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S1024, .f32⟩
  | .hbm, ⟨7, _⟩ => ⟨S16384x1024, .f32⟩
  | .hbm, ⟨8, _⟩ => ⟨S16384x32x256, .f32⟩
  | .hbm, ⟨9, _⟩ => ⟨S16384x32x256, .f32⟩
  | .hbm, ⟨10, _⟩ => ⟨S16384x32x256, .f32⟩
  | .hbm, ⟨11, _⟩ => ⟨S16384x32x256, .f32⟩
  | .hbm, ⟨12, _⟩ => ⟨S_, .f32⟩
  | .hbm, ⟨13, _⟩ => ⟨S16384x32x256, .f32⟩
  | .hbm, ⟨14, _⟩ => ⟨S16384x32x256, .f32⟩
  | .hbm, ⟨15, _⟩ => ⟨S_, .f32⟩
  | .hbm, ⟨16, _⟩ => ⟨S16384x32x256, .f32⟩
  | .hbm, ⟨17, _⟩ => ⟨S16384x32x256, .f32⟩
  | .hbm, ⟨18, _⟩ => ⟨S16384x32x256, .f32⟩
  | .hbm, ⟨19, _⟩ => ⟨S16384x32x256, .f32⟩
  | .hbm, ⟨20, _⟩ => ⟨S16384x32, .f32⟩
  | .hbm, ⟨21, _⟩ => ⟨S16384x32x1, .f32⟩
  | .hbm, ⟨22, _⟩ => ⟨S16384x32x256, .f32⟩
  | .hbm, ⟨23, _⟩ => ⟨S16384x32x256, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024 : Shape := ⟨1, ![1024]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1x512x1024 : Shape := ⟨3, ![1, 512, 1024]⟩
abbrev S3x512x1024 : Shape := ⟨3, ![3, 512, 1024]⟩
abbrev S1x1024 : Shape := ⟨2, ![1, 1024]⟩
abbrev S1x3072 : Shape := ⟨2, ![1, 3072]⟩
abbrev S_ : Shape := ⟨0, ![]⟩
abbrev S1024x128 : Shape := ⟨2, ![1024, 128]⟩
abbrev S124 : Shape := ⟨1, ![124]⟩
abbrev S128 : Shape := ⟨1, ![128]⟩
abbrev S1x128 : Shape := ⟨2, ![1, 128]⟩
abbrev S96 : Shape := ⟨1, ![96]⟩
abbrev S16384x128 : Shape := ⟨2, ![16384, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 43
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S1024, .f32⟩
  | .hbm, ⟨5, _⟩ => ⟨S1024x3072, .f32⟩
  | .hbm, ⟨6, _⟩ => ⟨S3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S3x512x1024, .f32⟩
  | .hbm, ⟨20, _⟩ => ⟨S3x512x1024, .bf16⟩
  | .hbm, ⟨21, _⟩ => ⟨S1x1024, .f32⟩
  | .hbm, ⟨22, _⟩ => ⟨S1024x3072, .bf16⟩
  | .hbm, ⟨23, _⟩ => ⟨S1x3072, .f32⟩
  | .hbm, ⟨24, _⟩ => ⟨S1024x1024, .bf16⟩
  | .hbm, ⟨25, _⟩ => ⟨S1x1024, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S_, .f32⟩
  | .hbm, ⟨30, _⟩ => ⟨S124, .f32⟩
  | .hbm, ⟨31, _⟩ => ⟨S128, .f32⟩
  | .hbm, ⟨32, _⟩ => ⟨S1x128, .f32⟩
  | .hbm, ⟨33, _⟩ => ⟨S_, .i32⟩
  | .hbm, ⟨34, _⟩ => ⟨S_, .f32⟩
  | .hbm, ⟨35, _⟩ => ⟨S1024x128, .f32⟩
  | .hbm, ⟨36, _⟩ => ⟨S_, .f32⟩
  | .hbm, ⟨37, _⟩ => ⟨S96, .f32⟩
  | .hbm, ⟨38, _⟩ => ⟨S128, .f32⟩
  | .hbm, ⟨39, _⟩ => ⟨S1x128, .f32⟩
  | .hbm, ⟨40, _⟩ => ⟨S16384x1024, .f32⟩
  | .hbm, ⟨41, _⟩ => ⟨S16384x1024, .bf16⟩
  | .hbm, ⟨42, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024, .f32⟩
  | .local _ .vmem, ⟨9, _⟩ => ⟨S1024x3072, .bf16⟩
  | .local _ .vmem, ⟨10, _⟩ => ⟨S1x3072, .f32⟩
  | .local _ .vmem, ⟨11, _⟩ => ⟨S3x512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x128, .f32⟩
  | .local _ .vmem, ⟨15, _⟩ => ⟨S1x128, .f32⟩
  | .local _ .vmem, ⟨16, _⟩ => ⟨S1024x128, .f32⟩
  | .local _ .vmem, ⟨17, _⟩ => ⟨S1x128, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x128, .f32⟩
  | .local _ .vmem, ⟨23, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_call0_v0 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_call1_v0 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18_0 : Ref sig .tc := ⟨.hbm, 40, rfl⟩
abbrev main_v18_1 : Ref sig .tc := ⟨.hbm, 41, rfl⟩
abbrev main_v18_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S16384x1024 : Shape := ⟨2, ![16384, 1024]⟩
abbrev S16384x512 : Shape := ⟨2, ![16384, 512]⟩
abbrev S1024 : Shape := ⟨1, ![1024]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S1x3072 : Shape := ⟨2, ![1, 3072]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S1024, .f32⟩
  | .hbm, ⟨5, _⟩ => ⟨S1024x3072, .f32⟩
  | .hbm, ⟨6, _⟩ => ⟨S3072, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x3072, .f32⟩
  | .hbm, ⟨33, _⟩ => ⟨S1x3072, .f32⟩
  | .hbm, ⟨34, _⟩ => ⟨S16384x3072, .f32⟩
  | .hbm, ⟨35, _⟩ => ⟨S16384x3072, .f32⟩
  | .hbm, ⟨36, _⟩ => ⟨S16384x3072, .f32⟩
  | .hbm, ⟨37, _⟩ => ⟨S16384x3072, .f32⟩
  | .hbm, ⟨38, _⟩ => ⟨S_, .f32⟩
  | .hbm, ⟨39, _⟩ => ⟨S16384x3072, .f32⟩
  | .hbm, ⟨40, _⟩ => ⟨S16384x3072, .f32⟩
  | .hbm, ⟨41, _⟩ => ⟨S_, .f32⟩
  | .hbm, ⟨42, _⟩ => ⟨S16384x3072, .f32⟩
  | .hbm, ⟨43, _⟩ => ⟨S16384x3072, .f32⟩
  | .hbm, ⟨44, _⟩ => ⟨S16384x1024, .f32⟩
  | .hbm, ⟨45, _⟩ => ⟨S16384x512, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x512, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x512, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]
-- ==== Proj.lean ====
abbrev S2x8192x1024 : Shape := ⟨3, ![2, 8192, 1024]⟩
abbrev S2x8192 : Shape := ⟨2, ![2, 8192]⟩
abbrev S1024 : Shape := ⟨1, ![1024]⟩
abbrev S1024x3712 : Shape := ⟨2, ![1024, 3712]⟩
abbrev S256x768 : Shape := ⟨2, ![256, 768]⟩
abbrev S128x512 : Shape := ⟨2, ![128, 512]⟩
abbrev S256 : Shape := ⟨1, ![256]⟩
abbrev S128 : Shape := ⟨1, ![128]⟩
abbrev S1x128 : Shape := ⟨2, ![1, 128]⟩
abbrev S512x512 : Shape := ⟨2, ![512, 512]⟩
abbrev S2x8192x1 : Shape := ⟨3, ![2, 8192, 1]⟩
abbrev S1x1024 : Shape := ⟨2, ![1, 1024]⟩
abbrev S1x256 : Shape := ⟨2, ![1, 256]⟩
abbrev S2x8192x512 : Shape := ⟨3, ![2, 8192, 512]⟩
abbrev S2x8192x768 : Shape := ⟨3, ![2, 8192, 768]⟩
abbrev S2x8192x128 : Shape := ⟨3, ![2, 8192, 128]⟩
abbrev S2x8192x256 : Shape := ⟨3, ![2, 8192, 256]⟩
abbrev S2x8192x1536 : Shape := ⟨3, ![2, 8192, 1536]⟩
abbrev S1x512x1024 : Shape := ⟨3, ![1, 512, 1024]⟩
abbrev S1x512x1 : Shape := ⟨3, ![1, 512, 1]⟩
abbrev S1x512x512 : Shape := ⟨3, ![1, 512, 512]⟩
abbrev S1x512x768 : Shape := ⟨3, ![1, 512, 768]⟩
abbrev S1x512x128 : Shape := ⟨3, ![1, 512, 128]⟩
abbrev S1x512x256 : Shape := ⟨3, ![1, 512, 256]⟩
abbrev S1x512x1536 : Shape := ⟨3, ![1, 512, 1536]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S1024x768 : Shape := ⟨2, ![1024, 768]⟩
abbrev S512x768 : Shape := ⟨2, ![512, 768]⟩
abbrev S1024x128 : Shape := ⟨2, ![1024, 128]⟩
abbrev S512x128 : Shape := ⟨2, ![512, 128]⟩
abbrev S1024x256 : Shape := ⟨2, ![1024, 256]⟩
abbrev S512x256 : Shape := ⟨2, ![512, 256]⟩
abbrev S1024x1536 : Shape := ⟨2, ![1024, 1536]⟩
abbrev S512x1536 : Shape := ⟨2, ![512, 1536]⟩

abbrev nBuf : Space → Nat
  | .hbm => 25
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x3712, .bf16⟩
  | .hbm, ⟨4, _⟩ => ⟨S256x768, .bf16⟩
  | .hbm, ⟨5, _⟩ => ⟨S128x512, .bf16⟩
  | .hbm, ⟨6, _⟩ => ⟨S128x512, .bf16⟩
  | .hbm, ⟨7, _⟩ => ⟨S256, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S512x512, .bf16⟩
  | .hbm, ⟨12, _⟩ => ⟨S2x8192x1, .i32⟩
  | .hbm, ⟨13, _⟩ => ⟨S1x1024, .f32⟩
  | .hbm, ⟨14, _⟩ => ⟨S1x256, .f32⟩
  | .hbm, ⟨15, _⟩ => ⟨S1x128, .f32⟩
  | .hbm, ⟨16, _⟩ => ⟨S2x8192x512, .bf16⟩
  | .hbm, ⟨17, _⟩ => ⟨S2x8192x768, .bf16⟩
  | .hbm, ⟨18, _⟩ => ⟨S2x8192x128, .f32⟩
  | .hbm, ⟨19, _⟩ => ⟨S2x8192x768, .bf16⟩
  | .hbm, ⟨20, _⟩ => ⟨S2x8192x512, .bf16⟩
  | .hbm, ⟨21, _⟩ => ⟨S2x8192x512, .bf16⟩
  | .hbm, ⟨22, _⟩ => ⟨S2x8192x256, .bf16⟩
  | .hbm, ⟨23, _⟩ => ⟨S2x8192x1536, .bf16⟩
  | .hbm, ⟨24, _⟩ => ⟨S2x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x1024, .f32⟩
  | .local _ .vmem, ⟨5, _⟩ => ⟨S1024x3712, .bf16⟩
  | .local _ .vmem, ⟨6, _⟩ => ⟨S256x768, .bf16⟩
  | .local _ .vmem, ⟨7, _⟩ => ⟨S128x512, .bf16⟩
  | .local _ .vmem, ⟨8, _⟩ => ⟨S128x512, .bf16⟩
  | .local _ .vmem, ⟨9, _⟩ => ⟨S1x256, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x768, .bf16⟩
  | .local _ .vmem, ⟨17, _⟩ => ⟨S1x512x768, .bf16⟩
  | .local _ .vmem, ⟨18, _⟩ => ⟨S1x512x128, .f32⟩
  | .local _ .vmem, ⟨19, _⟩ => ⟨S1x512x128, .f32⟩
  | .local _ .vmem, ⟨20, _⟩ => ⟨S1x512x768, .bf16⟩
  | .local _ .vmem, ⟨21, _⟩ => ⟨S1x512x768, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x1536, .bf16⟩
  | .local _ .vmem, ⟨29, _⟩ => ⟨S1x512x1536, .bf16⟩
  | .local _ .vmem, ⟨30, _⟩ => ⟨S1x512x128, .f32⟩
  | .local _ .vmem, ⟨31, _⟩ => ⟨S1x512x128, .f32⟩
  | .local _ .vmem, ⟨32, _⟩ => ⟨S1x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v4_4 : Ref sig .tc := ⟨.hbm, 20, rfl⟩
abbrev main_v4_5 : Ref sig .tc := ⟨.hbm, 21, rfl⟩
abbrev main_v4_6 : Ref sig .tc := ⟨.hbm, 22, rfl⟩
abbrev main_v4_7 : Ref sig .tc := ⟨.hbm, 23, rfl⟩
abbrev main_v4_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x768 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1536 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ProjRefIdeal.lean ====
abbrev S2x8192x1024 : Shape := ⟨3, ![2, 8192, 1024]⟩
abbrev S2x8192 : Shape := ⟨2, ![2, 8192]⟩
abbrev S1024 : Shape := ⟨1, ![1024]⟩
abbrev S1024x3712 : Shape := ⟨2, ![1024, 3712]⟩
abbrev S256x768 : Shape := ⟨2, ![256, 768]⟩
abbrev S128x512 : Shape := ⟨2, ![128, 512]⟩
abbrev S256 : Shape := ⟨1, ![256]⟩
abbrev S128 : Shape := ⟨1, ![128]⟩
abbrev S1x128 : Shape := ⟨2, ![1, 128]⟩
abbrev S512x512 : Shape := ⟨2, ![512, 512]⟩
abbrev S_ : Shape := ⟨0, ![]⟩
abbrev S2x8192x1 : Shape := ⟨3, ![2, 8192, 1]⟩
abbrev S1x1x1024 : Shape := ⟨3, ![1, 1, 1024]⟩
abbrev S2x8192x3712 : Shape := ⟨3, ![2, 8192, 3712]⟩
abbrev S1x1x128 : Shape := ⟨3, ![1, 1, 128]⟩
abbrev S2x8192x128 : Shape := ⟨3, ![2, 8192, 128]⟩
abbrev S2x8192x256 : Shape := ⟨3, ![2, 8192, 256]⟩
abbrev S1x1x256 : Shape := ⟨3, ![1, 1, 256]⟩
abbrev S2x8192x768 : Shape := ⟨3, ![2, 8192, 768]⟩
abbrev S2x8192x512 : Shape := ⟨3, ![2, 8192, 512]⟩
abbrev S2x8192x1536 : Shape := ⟨3, ![2, 8192, 1536]⟩

abbrev nBuf : Space → Nat
  | .hbm => 127
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x3712, .bf16⟩
  | .hbm, ⟨4, _⟩ => ⟨S256x768, .bf16⟩
  | .hbm, ⟨5, _⟩ => ⟨S128x512, .bf16⟩
  | .hbm, ⟨6, _⟩ => ⟨S128x512, .bf16⟩
  | .hbm, ⟨7, _⟩ => ⟨S256, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S512x512, .bf16⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S1024x3712, .f32⟩
  | .hbm, ⟨29, _⟩ => ⟨S2x8192x3712, .f32⟩
  | .hbm, ⟨30, _⟩ => ⟨S2x8192x1, .i32⟩
  | .hbm, ⟨31, _⟩ => ⟨S2x8192x1, .f32⟩
  | .hbm, ⟨32, _⟩ => ⟨S1x1x128, .f32⟩
  | .hbm, ⟨33, _⟩ => ⟨S2x8192x128, .f32⟩
  | .hbm, ⟨34, _⟩ => ⟨S2x8192x128, .f32⟩
  | .hbm, ⟨35, _⟩ => ⟨S2x8192x128, .f32⟩
  | .hbm, ⟨36, _⟩ => ⟨S2x8192x128, .f32⟩
  | .hbm, ⟨37, _⟩ => ⟨S2x8192x128, .f32⟩
  | .hbm, ⟨38, _⟩ => ⟨S2x8192x256, .f32⟩
  | .hbm, ⟨39, _⟩ => ⟨S2x8192x256, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x256, .f32⟩
  | .hbm, ⟨51, _⟩ => ⟨S2x8192x256, .f32⟩
  | .hbm, ⟨52, _⟩ => ⟨S1x1x256, .f32⟩
  | .hbm, ⟨53, _⟩ => ⟨S2x8192x256, .f32⟩
  | .hbm, ⟨54, _⟩ => ⟨S2x8192x256, .f32⟩
  | .hbm, ⟨55, _⟩ => ⟨S256x768, .f32⟩
  | .hbm, ⟨56, _⟩ => ⟨S2x8192x768, .f32⟩
  | .hbm, ⟨57, _⟩ => ⟨S2x8192x512, .f32⟩
  | .hbm, ⟨58, _⟩ => ⟨S2x8192x128, .f32⟩
  | .hbm, ⟨59, _⟩ => ⟨S2x8192x128, .f32⟩
  | .hbm, ⟨60, _⟩ => ⟨S2x8192x128, .f32⟩
  | .hbm, ⟨61, _⟩ => ⟨S2x8192x128, .f32⟩
  | .hbm, ⟨62, _⟩ => ⟨S2x8192x128, .f32⟩
  | .hbm, ⟨63, _⟩ => ⟨S2x8192x128, .f32⟩
  | .hbm, ⟨64, _⟩ => ⟨S2x8192x128, .f32⟩
  | .hbm, ⟨65, _⟩ => ⟨S2x8192x128, .f32⟩
  | .hbm, ⟨66, _⟩ => ⟨S2x8192x768, .f32⟩
  | .hbm, ⟨67, _⟩ => ⟨S_, .f32⟩
  | .hbm, ⟨68, _⟩ => ⟨S2x8192x768, .f32⟩
  | .hbm, ⟨69, _⟩ => ⟨S2x8192x768, .f32⟩
  | .hbm, ⟨70, _⟩ => ⟨S2x8192x128, .f32⟩
  | .hbm, ⟨71, _⟩ => ⟨S2x8192x128, .f32⟩
  | .hbm, ⟨72, _⟩ => ⟨S_, .f32⟩
  | .hbm, ⟨73, _⟩ => ⟨S2x8192, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S_, .f32⟩
  | .hbm, ⟨79, _⟩ => ⟨S2x8192x1, .f32⟩
  | .hbm, ⟨80, _⟩ => ⟨S2x8192x1, .f32⟩
  | .hbm, ⟨81, _⟩ => ⟨S2x8192x1, .f32⟩
  | .hbm, ⟨82, _⟩ => ⟨S2x8192x128, .f32⟩
  | .hbm, ⟨83, _⟩ => ⟨S2x8192x128, .f32⟩
  | .hbm, ⟨84, _⟩ => ⟨S1x1x128, .f32⟩
  | .hbm, ⟨85, _⟩ => ⟨S2x8192x128, .f32⟩
  | .hbm, ⟨86, _⟩ => ⟨S2x8192x128, .f32⟩
  | .hbm, ⟨87, _⟩ => ⟨S128x512, .f32⟩
  | .hbm, ⟨88, _⟩ => ⟨S2x8192x512, .f32⟩
  | .hbm, ⟨89, _⟩ => ⟨S2x8192x128, .f32⟩
  | .hbm, ⟨90, _⟩ => ⟨S2x8192x128, .f32⟩
  | .hbm, ⟨91, _⟩ => ⟨S2x8192x128, .f32⟩
  | .hbm, ⟨92, _⟩ => ⟨S2x8192x128, .f32⟩
  | .hbm, ⟨93, _⟩ => ⟨S2x8192x128, .f32⟩
  | .hbm, ⟨94, _⟩ => ⟨S2x8192x128, .f32⟩
  | .hbm, ⟨95, _⟩ => ⟨S2x8192x128, .f32⟩
  | .hbm, ⟨96, _⟩ => ⟨S2x8192x128, .f32⟩
  | .hbm, ⟨97, _⟩ => ⟨S2x8192x256, .f32⟩
  | .hbm, ⟨98, _⟩ => ⟨S128x512, .f32⟩
  | .hbm, ⟨99, _⟩ => ⟨S2x8192x512, .f32⟩
  | .hbm, ⟨100, _⟩ => ⟨S2x8192x512, .f32⟩
  | .hbm, ⟨101, _⟩ => ⟨S_, .f32⟩
  | .hbm, ⟨102, _⟩ => ⟨S2x8192x512, .f32⟩
  | .hbm, ⟨103, _⟩ => ⟨S2x8192x512, .f32⟩
  | .hbm, ⟨104, _⟩ => ⟨S2x8192x1024, .f32⟩
  | .hbm, ⟨105, _⟩ => ⟨S2x8192x1536, .f32⟩
  | .hbm, ⟨106, _⟩ => ⟨S2x8192x512, .f32⟩
  | .hbm, ⟨107, _⟩ => ⟨S_, .f32⟩
  | .hbm, ⟨108, _⟩ => ⟨S2x8192x512, .f32⟩
  | .hbm, ⟨109, _⟩ => ⟨S2x8192x512, .f32⟩
  | .hbm, ⟨110, _⟩ => ⟨S2x8192x512, .bf16⟩
  | .hbm, ⟨111, _⟩ => ⟨S2x8192x768, .f32⟩
  | .hbm, ⟨112, _⟩ => ⟨S2x8192x768, .bf16⟩
  | .hbm, ⟨113, _⟩ => ⟨S2x8192x128, .f32⟩
  | .hbm, ⟨114, _⟩ => ⟨S2x8192x128, .f32⟩
  | .hbm, ⟨115, _⟩ => ⟨S2x8192x128, .f32⟩
  | .hbm, ⟨116, _⟩ => ⟨S_, .f32⟩
  | .hbm, ⟨117, _⟩ => ⟨S2x8192x128, .f32⟩
  | .hbm, ⟨118, _⟩ => ⟨S2x8192x128, .f32⟩
  | .hbm, ⟨119, _⟩ => ⟨S_, .f32⟩
  | .hbm, ⟨120, _⟩ => ⟨S2x8192x128, .f32⟩
  | .hbm, ⟨121, _⟩ => ⟨S2x8192x128, .f32⟩
  | .hbm, ⟨122, _⟩ => ⟨S2x8192x768, .bf16⟩
  | .hbm, ⟨123, _⟩ => ⟨S2x8192x512, .bf16⟩
  | .hbm, ⟨124, _⟩ => ⟨S2x8192x512, .bf16⟩
  | .hbm, ⟨125, _⟩ => ⟨S2x8192x256, .bf16⟩
  | .hbm, ⟨126, _⟩ => ⟨S2x8192x1536, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_6 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_9 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_10 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_11 : Ref sig .tc := ⟨.hbm, 116, rfl⟩
abbrev main_v92 : Ref sig .tc := ⟨.hbm, 117, rfl⟩
abbrev main_v93 : Ref sig .tc := ⟨.hbm, 118, rfl⟩
abbrev main_cst_12 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]
-- ==== Proof.FoxBody.lean ====
module

public import proofs.«01_k».proof.Proof.Gen.FoxIdeal.Value
public import Idealize.ShloMosaic.Lib.Pointwise
public import Idealize.ShloMosaic.Lib.LoopRemainder

@[expose] public section

set_option maxRecDepth 16384

noncomputable section

namespace Cert.FoxIdeal.Hand

open Cert.FoxIdeal Cert.FoxIdeal.Gen Cert.FoxIdeal.Value Idealize.ShloMosaic Idealize.ShloMosaic.TcCoe Idealize.SL.Sem

/-! ## What one grid point of the forgetting attention leaves in its output block -/

section Body

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A buffer whose last store filled it reads that store's payload. -/
theorem read_full {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-- So does a whole load of it. -/
theorem readCov_full {sig : RefSig} {κ : Kind} {sp : Space} {S : Shape} {e : EltTy} {Val : EltTy → Type} [∀ e, Nonempty (Val e)]
    (v : View sig κ sp S e) {off off' : Fin S.rank → Nat} (h : off = fun _ => 0) (h' : off' = fun _ => 0)
    (inb : ∀ a, off a + S.size a ≤ S.size a) (inb' : ∀ a, off' a + S.size a ≤ S.size a) (w : S.Idx → Val e) (L : List (View.Piece Val S e)) :
    v.readCov ((⟨Rect.unit off S.size inb, w⟩ : View.Piece Val S e) :: L) (Rect.unit off' S.size inb').toLoadRect = w := by
  rw [View.readCov_eq_canon_ld _ _ _ (fun y => ⟨_, List.mem_cons_self, View.mem_set_unit_zero h inb y⟩), View.canon_cons_unit_zero h, View.ld_unit_zero h']

variable {F : FTy → Type} [FloatOps F] [Named F]

/-- The greatest scores, the denominators and the numerators of a block of query rows. -/
abbrev St (F : FTy → Type) := Vec F S256x1 .f32 × Vec F S256x1 .f32 × Vec F S256x64 .f32

/-- The state after one more tile of scores and values. -/
def upd (s : FVec F S256x512 .f32) (v : Vec F S1x1x512x64 .bf16) (st : St F) : St F :=
  (k0_pay31 s st.1, k0_pay29 s st.1 st.2.1, k0_pay30 s v st.1 st.2.2)

/-- The state before the first tile. -/
def st0 : St F := (k0_pay17, k0_pay18, k0_pay19)

variable (𝒱 : Variants) (c : Dev nD) (bd : Option 𝒱.V) (i : grid0.Coords) (arg3 : Memref sig .tc .vmem S1x1x256x64 .bf16) (harg3 : arg3.IsWhole) (arg4 : Memref sig .tc .vmem S1x1x16x64x512 .bf16) (harg4 : arg4.IsWhole) (arg5 : Memref sig .tc .vmem S1x1x8192x64 .bf16) (harg5 : arg5.IsWhole) (arg6 : Memref sig .tc .vmem S1x256x128 .f32) (harg6 : arg6.IsWhole) (arg7 : Memref sig .tc .vmem S1x1x16x1x512 .f32) (harg7 : arg7.IsWhole) (arg8 : Memref sig .tc .vmem S1x1x256x64 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S256x64 .f32) (harg11 : arg11.IsWhole) (arg2 : BitVec 32) (v1 : FVec F S256x64 .bf16) (v22 : FVec F S256x1 .f32) (v23 : BitVec 32) (c512_i32 : BitVec 32) (v24 : BitVec 32) (v29 : BitVec 32) (v30 : BitVec 1) (X_arg4 : BufTy.Contents (Elt F) arg4.view.ty) (X_arg5 : BufTy.Contents (Elt F) arg5.view.ty) (X_arg7 : BufTy.Contents (Elt F) arg7.view.ty)

/-- One trip of the loop updates the state by its tile. -/
theorem trip_read (k : Fin (k0_t1_loop i).trips) (f9 g9 : BufTy.Contents (Elt F) arg9.view.ty) (f10 g10 : BufTy.Contents (Elt F) arg10.view.ty) (f11 g11 : BufTy.Contents (Elt F) arg11.view.ty) (L9 L10 : List (View.Piece (Elt F) S256x1 .f32)) (L11 : List (View.Piece (Elt F) S256x64 .f32)) :
    let T := tripL_k0_t1 (F := F) 𝒱 c bd i arg3 harg3 arg4 harg4 arg5 harg5 arg6 harg6 arg7 harg7 arg8 harg8 arg9 harg9 arg10 harg10 arg11 harg11 arg2 v1 v22 v23 c512_i32 v24 v29 v30 X_arg4 X_arg5 X_arg7 k f9 f10 f11
    ((arg9.view.read (Elt F) (arg9.view.writes (Elt F) g9 (T.1 ++ L9)), arg10.view.read (Elt F) (arg10.view.writes (Elt F) g10 (T.2.1 ++ L10)), arg11.view.read (Elt F) (arg11.view.writes (Elt F) g11 (T.2.2 ++ L11))) : St F)
      = upd (k0_pay2 v1 v22 (View.ld (arg4.view.read (Elt F) X_arg4) (Rect.unit (s := S1x1x16x64x512) (k0_off1 i k) S1x1x1x64x512.size (k0_off1_inb i k)))
            (View.ld (arg7.view.read (Elt F) X_arg7) (Rect.unit (s := S1x1x16x1x512) (k0_off2 i k) S1x1x1x1x512.size (k0_off2_inb i k))))
          (View.ld (arg5.view.read (Elt F) X_arg5) (Rect.unit (s := S1x1x8192x64) (k0_off3 i k) S1x1x512x64.size (k0_off3_inb i k)))
          (arg9.view.read (Elt F) f9, arg10.view.read (Elt F) f10, arg11.view.read (Elt F) f11) := by
  intro T
  have hT : T = tripL_k0_t1 (F := F) 𝒱 c bd i arg3 harg3 arg4 harg4 arg5 harg5 arg6 harg6 arg7 harg7 arg8 harg8 arg9 harg9 arg10 harg10 arg11 harg11 arg2 v1 v22 v23 c512_i32 v24 v29 v30 X_arg4 X_arg5 X_arg7 k f9 f10 f11 := rfl
  unfold tripL_k0_t1 trip_k0_t1 at hT
  dsimp only at hT
  rw [hT]
  simp only [List.cons_append, List.nil_append]
  rw [read_full arg9.view _ hz2, read_full arg10.view _ hz2, read_full arg11.view _ hz2]
  sl_unfold_words
  simp only [View.readAt_eq_ld, View.ld_unit_zero (S := S256x1) hz2, View.ld_unit_zero (S := S256x64) hz2]
  rfl

/-- Key tile `k` of the keys in their tiles. -/
def ktile (x : Vec F S1x1x16x64x512 .bf16) (k : ℕ) : Vec F S1x1x1x64x512 .bf16 :=
  View.ld x (Rect.unit (s := S1x1x16x64x512) ![0, 0, k % 16, 0, 0] S1x1x1x64x512.size (by intro a; fin_cases a <;> simp [S1x1x16x64x512, S1x1x1x64x512] <;> omega))

/-- Tile `k` of the running sums of the keys. -/
def ctile (x : Vec F S1x1x16x1x512 .f32) (k : ℕ) : Vec F S1x1x1x1x512 .f32 :=
  View.ld x (Rect.unit (s := S1x1x16x1x512) ![0, 0, k % 16, 0, 0] S1x1x1x1x512.size (by intro a; fin_cases a <;> simp [S1x1x16x1x512, S1x1x1x1x512] <;> omega))

/-- Tile `k` of the values. -/
def vtile (x : Vec F S1x1x8192x64 .bf16) (k : ℕ) : Vec F S1x1x512x64 .bf16 :=
  View.ld x (Rect.unit (s := S1x1x8192x64) ![0, 0, k % 16 * 512, 0] S1x1x512x64.size (by intro a; fin_cases a <;> simp [S1x1x8192x64, S1x1x512x64] <;> omega))

/-- A load at an equal corner is the same load. -/
theorem ld_congr {S : Shape} {e : EltTy} {Val : EltTy → Type} (x : S.Idx → Val e) {off off' : Fin S.rank → Nat} {size : Fin S.rank → Nat}
    (inb : ∀ a, off a + size a ≤ S.size a) (inb' : ∀ a, off' a + size a ≤ S.size a) (h : off = off') :
    View.ld x (Rect.unit off size inb) = View.ld x (Rect.unit off' size inb') := by
  subst h; rfl

theorem ktile_eq (x : Vec F S1x1x16x64x512 .bf16) {off : Fin 5 → Nat} (k : ℕ) (hk : k < 16) (inb) (h : off = ![0, 0, k, 0, 0]) :
    View.ld x (Rect.unit (s := S1x1x16x64x512) off S1x1x1x64x512.size inb) = ktile x k := by
  exact ld_congr x _ _ (h.trans (by rw [Nat.mod_eq_of_lt hk]))

theorem ctile_eq (x : Vec F S1x1x16x1x512 .f32) {off : Fin 5 → Nat} (k : ℕ) (hk : k < 16) (inb) (h : off = ![0, 0, k, 0, 0]) :
    View.ld x (Rect.unit (s := S1x1x16x1x512) off S1x1x1x1x512.size inb) = ctile x k := by
  exact ld_congr x _ _ (h.trans (by rw [Nat.mod_eq_of_lt hk]))

theorem vtile_eq (x : Vec F S1x1x8192x64 .bf16) {off : Fin 4 → Nat} (k : ℕ) (hk : k < 16) (inb) (h : off = ![0, 0, k * 512, 0]) :
    View.ld x (Rect.unit (s := S1x1x8192x64) off S1x1x512x64.size inb) = vtile x k := by
  exact ld_congr x _ _ (h.trans (by rw [Nat.mod_eq_of_lt hk]))

/-- The state before tile `k`, all tiles before it unmasked. -/
def chain (v1 : FVec F S256x64 .bf16) (v22 : FVec F S256x1 .f32) (x1 : Vec F S1x1x16x64x512 .bf16) (x2 : Vec F S1x1x8192x64 .bf16) (x4 : Vec F S1x1x16x1x512 .f32) : ℕ → St F
  | 0 => st0
  | k + 1 => upd (k0_pay2 v1 v22 (ktile x1 k) (ctile x4 k)) (vtile x2 k) (chain v1 v22 x1 x2 x4 k)

theorem iv_small : ∀ k : Fin 16, (Scf.iv 0#32 1#32 k.val).toNat = k.val ∧ (Scf.iv 0#32 1#32 k.val * 512#32).toNat = k.val * 512 := by decide +kernel

theorem off1_eq (k : Fin (k0_t1_loop i).trips) (hk : k.val < 16) : k0_off1 i k = ![0, 0, k.val, 0, 0] := by
  have h := (iv_small ⟨k.val, hk⟩).1
  show ![0, 0, (Scf.iv 0#32 1#32 k.val).toNat, 0, 0] = _
  rw [h]

theorem off2_eq (k : Fin (k0_t1_loop i).trips) (hk : k.val < 16) : k0_off2 i k = ![0, 0, k.val, 0, 0] := by
  have h := (iv_small ⟨k.val, hk⟩).1
  show ![0, 0, (Scf.iv 0#32 1#32 k.val).toNat, 0, 0] = _
  rw [h]

theorem off3_eq (k : Fin (k0_t1_loop i).trips) (hk : k.val < 16) : k0_off3 i k = ![0, 0, k.val * 512, 0] := by
  have h := (iv_small ⟨k.val, hk⟩).2
  show ![0, 0, (Scf.iv 0#32 1#32 k.val * 512#32).toNat, 0] = _
  rw [h]

/-- What the buffers read after `k` trips of the loop over the unmasked tiles. -/
theorem pb_read (ht : (k0_t1_loop i).trips ≤ 15) (G9 : BufTy.Contents (Elt F) arg9.view.ty) (G10 : BufTy.Contents (Elt F) arg10.view.ty) (G11 : BufTy.Contents (Elt F) arg11.view.ty)
    (hG : ((arg9.view.read (Elt F) G9, arg10.view.read (Elt F) G10, arg11.view.read (Elt F) G11) : St F) = st0) (k : ℕ) (hk : k ≤ (k0_t1_loop i).trips) :
    let P := pb_k0_t1 (F := F) 𝒱 c bd i arg3 harg3 arg4 harg4 arg5 harg5 arg6 harg6 arg7 harg7 arg8 harg8 arg9 harg9 arg10 harg10 arg11 harg11 arg2 v1 v22 v23 c512_i32 v24 v29 v30 X_arg4 X_arg5 X_arg7 G9 G10 G11 k
    ((arg9.view.read (Elt F) (arg9.view.writes (Elt F) G9 P.1), arg10.view.read (Elt F) (arg10.view.writes (Elt F) G10 P.2.1), arg11.view.read (Elt F) (arg11.view.writes (Elt F) G11 P.2.2)) : St F)
      = chain v1 v22 (arg4.view.read (Elt F) X_arg4) (arg5.view.read (Elt F) X_arg5) (arg7.view.read (Elt F) X_arg7) k := by
  induction k with
  | zero => exact hG
  | succ k ih =>
    have h := ih (by omega)
    have hs := pb_k0_t1_succ (F := F) 𝒱 c bd i arg3 harg3 arg4 harg4 arg5 harg5 arg6 harg6 arg7 harg7 arg8 harg8 arg9 harg9 arg10 harg10 arg11 harg11 arg2 v1 v22 v23 c512_i32 v24 v29 v30 X_arg4 X_arg5 X_arg7 G9 G10 G11 ⟨k, by omega⟩
    intro P
    have hP : P = _ := hs
    rw [hP]
    refine (trip_read (F := F) 𝒱 c bd i arg3 harg3 arg4 harg4 arg5 harg5 arg6 harg6 arg7 harg7 arg8 harg8 arg9 harg9 arg10 harg10 arg11 harg11 arg2 v1 v22 v23 c512_i32 v24 v29 v30 X_arg4 X_arg5 X_arg7 ⟨k, by omega⟩ _ G9 _ G10 _ G11 _ _ _).trans ?_
    dsimp only at h
    rw [h]
    rw [ktile_eq _ k (by omega) _ (off1_eq i ⟨k, by omega⟩ (by show k < 16; omega)), ctile_eq _ k (by omega) _ (off2_eq i ⟨k, by omega⟩ (by show k < 16; omega)),
      vtile_eq _ k (by omega) _ (off3_eq i ⟨k, by omega⟩ (by show k < 16; omega))]
    rfl

end Body

section Run

variable {F : FTy → Type} [FloatOps F] [Named F]

/-- A whole load after some stores reads what they leave. -/
theorem readCov_whole {sig : RefSig} {κ : Kind} {sp : Space} {S : Shape} {e : EltTy} {Val : EltTy → Type} [∀ e, Nonempty (Val e)]
    (v : View sig κ sp S e) {off : Fin S.rank → Nat} (h : off = fun _ => 0) (inb : ∀ a, off a + S.size a ≤ S.size a) (L L' : List (View.Piece Val S e)) :
    v.readCov (L ++ L') (Rect.unit off S.size inb).toLoadRect = v.read Val (v.writes Val (v.writes Val v.junk L') L) := by
  unfold View.readCov
  rw [View.readAt_eq_ld, View.ld_unit_zero h, View.writes_append]

variable (c : Dev nD) (i : grid0.Coords) (arg3 : Memref sig .tc .vmem S1x1x256x64 .bf16) (harg3 : arg3.IsWhole) (arg4 : Memref sig .tc .vmem S1x1x16x64x512 .bf16) (harg4 : arg4.IsWhole) (arg5 : Memref sig .tc .vmem S1x1x8192x64 .bf16) (harg5 : arg5.IsWhole) (arg6 : Memref sig .tc .vmem S1x256x128 .f32) (harg6 : arg6.IsWhole) (arg7 : Memref sig .tc .vmem S1x1x16x1x512 .f32) (harg7 : arg7.IsWhole) (arg8 : Memref sig .tc .vmem S1x1x256x64 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S256x64 .f32) (harg11 : arg11.IsWhole)
variable (x0 : Vec F S1x1x256x64 .bf16) (x1 : Vec F S1x1x16x64x512 .bf16) (x2 : Vec F S1x1x8192x64 .bf16) (x3 : Vec F S1x256x128 .f32) (x4 : Vec F S1x1x16x1x512 .f32)

/-- The state after the loops over the unmasked tiles. -/
theorem loops_read (n : ℕ) (hn : n ≤ 15) (h1 : (k0_t1_loop i).trips = n) (h2 : (k0_t2_loop i).trips = 0) :
    ((kernelRun0_A.sl.v73 c i arg3 harg3 arg4 harg4 arg5 harg5 arg6 harg6 arg7 harg7 arg8 harg8 arg9 harg9 arg10 harg10 arg11 harg11 x0 x1 x2 x3 x4, kernelRun0_A.sl.v82 c i arg3 harg3 arg4 harg4 arg5 harg5 arg6 harg6 arg7 harg7 arg8 harg8 arg9 harg9 arg10 harg10 arg11 harg11 x0 x1 x2 x3 x4, kernelRun0_A.sl.v90 c i arg3 harg3 arg4 harg4 arg5 harg5 arg6 harg6 arg7 harg7 arg8 harg8 arg9 harg9 arg10 harg10 arg11 harg11 x0 x1 x2 x3 x4) : St F)
      = chain (k0_pay16 x0) (k0_pay20 i x3) x1 x2 x4 n := by
  unfold kernelRun0_A.sl.v73 kernelRun0_A.sl.v82 kernelRun0_A.sl.v90
  rw [show Scf.trips (k0_t2_loop i).lb (k0_t2_loop i).ub (k0_t2_loop i).st = 0 from h2]
  rw [pb_k0_t2.eq_1]
  dsimp only
  simp only [List.nil_append]
  rw [readCov_whole _ hz2, readCov_whole _ hz2, readCov_whole _ hz2]
  refine (pb_read (F := F) Variants.none c none i arg3 harg3 arg4 harg4 arg5 harg5 arg6 harg6 arg7 harg7 arg8 harg8 arg9 harg9 arg10 harg10 arg11 harg11 _ _ _ _ _ _ _ _ _ _ _ (by rw [h1]; exact hn) _ _ _ ?_ _ le_rfl).trans ?_
  · unfold kernelRun0_A.sl.HS0_1 kernelRun0_A.sl.HS1_1 kernelRun0_A.sl.HS2_1
    rw [read_full arg9.view _ hz2, read_full arg10.view _ hz2, read_full arg11.view _ hz2]
    rfl
  · rw [h1, harg4.read_unread, harg5.read_unread, harg7.read_unread]
    unfold kernelRun0_A.sl.r kernelRun0_A.sl.r_1
    simp only [View.readAt_eq_ld, harg3.read_unread, harg6.read_unread, View.ld_unit_zero (S := S1x1x256x64) hz4, View.ld_unit_zero (S := S1x256x128) hz3]

/-- The output block after the run: the quotient of the last state. -/
theorem run_value (n : ℕ) (hn : n ≤ 15) (h1 : (k0_t1_loop i).trips = n) (h2 : (k0_t2_loop i).trips = 0)
    (h7 : k0_off7 i = ![0, 0, n, 0, 0]) (h8 : k0_off8 i = ![0, 0, n, 0, 0]) (h9 : k0_off9 i = ![0, 0, n * 512, 0]) :
    let st : St F := upd (k0_pay25 (BitVec.ofNat 32 (i 2).val) (k0_pay16 x0) (k0_pay20 i x3) (kernelRun0_A.sl.v23 i) 512#32 (kernelRun0_A.sl.v24 i) (kernelRun0_A.sl.v29 i) 1#1 (ktile x1 n) (ctile x4 n))
      (vtile x2 n) (chain (k0_pay16 x0) (k0_pay20 i x3) x1 x2 x4 n)
    out0_A_5 c i arg3 harg3 arg4 harg4 arg5 harg5 arg6 harg6 arg7 harg7 arg8 harg8 arg9 harg9 arg10 harg10 arg11 harg11 x0 x1 x2 x3 x4 = k0_pay1 st.2.2 st.2.1 := by
  intro st
  have hl := loops_read c i arg3 harg3 arg4 harg4 arg5 harg5 arg6 harg6 arg7 harg7 arg8 harg8 arg9 harg9 arg10 harg10 arg11 harg11 x0 x1 x2 x3 x4 n hn h1 h2
  unfold out0_A_5 kernelRun0_A
  dsimp only
  rw [read_full VO0_5 _ hz4]
  unfold kernelRun0_A.sl.v102 kernelRun0_A.sl.v103
  unfold kernelRun0_A.sl.HS1_1_1 kernelRun0_A.sl.HS2_1_1
  rw [readCov_full _ hz2 hz2, readCov_full _ hz2 hz2]
  have e : kernelRun0_A.sl.r_2 c i arg3 harg3 arg4 harg4 arg6 harg6 arg7 harg7 x0 x1 x3 x4 = (k0_pay25 (BitVec.ofNat 32 (i 2).val) (k0_pay16 x0) (k0_pay20 i x3) (kernelRun0_A.sl.v23 i) 512#32 (kernelRun0_A.sl.v24 i) (kernelRun0_A.sl.v29 i) 1#1 (ktile x1 n) (ctile x4 n)) := by
    unfold kernelRun0_A.sl.r_2 kernelRun0_A.sl.r kernelRun0_A.sl.r_1
    simp only [View.readAt_eq_ld, harg3.read_unread, harg6.read_unread, harg4.read_unread, harg7.read_unread, View.ld_unit_zero (S := S1x1x256x64) hz4, View.ld_unit_zero (S := S1x256x128) hz3]
    rw [ktile_eq _ n (by omega) _ h7, ctile_eq _ n (by omega) _ h8]
  rw [e]
  rw [View.readAt_eq_ld, harg5.read_unread, vtile_eq _ n (by omega) _ h9]
  rw [show kernelRun0_A.sl.v73 c i arg3 harg3 arg4 harg4 arg5 harg5 arg6 harg6 arg7 harg7 arg8 harg8 arg9 harg9 arg10 harg10 arg11 harg11 x0 x1 x2 x3 x4 = _ from congrArg (fun t : St F => t.1) hl, show kernelRun0_A.sl.v82 c i arg3 harg3 arg4 harg4 arg5 harg5 arg6 harg6 arg7 harg7 arg8 harg8 arg9 harg9 arg10 harg10 arg11 harg11 x0 x1 x2 x3 x4 = _ from congrArg (fun t : St F => t.2.1) hl, show kernelRun0_A.sl.v90 c i arg3 harg3 arg4 harg4 arg5 harg5 arg6 harg6 arg7 harg7 arg8 harg8 arg9 harg9 arg10 harg10 arg11 harg11 x0 x1 x2 x3 x4 = _ from congrArg (fun t : St F => t.2.2) hl]
  rfl

end Run

end Cert.FoxIdeal.Hand

end
-- ==== Proof.Flash.lean ====
module

public import Idealize.ShloMosaic.PureOps.Ideal
public import Idealize.ShloMosaic.Lib.Pointwise
public import Mathlib.Data.EReal.Operations

/-! The running softmax of one query row: keys come in tiles, a greatest score, a denominator and a numerator are carried
from tile to tile and rescaled when the greatest score grows. Dividing at the end gives the softmax over all keys. -/

@[expose] public section

noncomputable section

namespace Cert.Flash

open Idealize.ShloMosaic

variable {n : ℕ}

/-- The greatest score of the tiles before the `k`-th. -/
def mx (s : ℕ → Fin n → EReal) : ℕ → EReal
  | 0 => ⊥
  | k + 1 => max (mx s k) (Finset.univ.fold max ⊥ (s k))

/-- The carried denominator before the `k`-th tile. -/
def den (s : ℕ → Fin n → EReal) : ℕ → EReal
  | 0 => 0
  | k + 1 => Ideal.exp (mx s k - mx s (k + 1)) * den s k + ∑ j, Ideal.exp (s k j - mx s (k + 1))

/-- The carried numerator before the `k`-th tile. -/
def num (s w : ℕ → Fin n → EReal) : ℕ → EReal
  | 0 => 0
  | k + 1 => Ideal.exp (mx s k - mx s (k + 1)) * num s w k + ∑ j, Ideal.exp (s k j - mx s (k + 1)) * w k j

theorem exp_bot : Ideal.exp ⊥ = 0 := rfl

theorem exp_coe (r : ℝ) : Ideal.exp (r : EReal) = ((Real.exp r : ℝ) : EReal) := rfl

theorem exp_nonneg (x : EReal) : 0 ≤ Ideal.exp x := by
  induction x with
  | bot => exact le_rfl
  | top => exact le_top
  | coe r => rw [exp_coe]; exact_mod_cast (Real.exp_pos r).le

/-- An exponential below the top is a real number. -/
theorem exp_real (x : EReal) (h : x ≠ ⊤) : ∃ r : ℝ, 0 ≤ r ∧ Ideal.exp x = r := by
  induction x with
  | bot => exact ⟨0, le_rfl, exp_bot⟩
  | top => exact absurd rfl h
  | coe r => exact ⟨Real.exp r, (Real.exp_pos r).le, exp_coe r⟩

/-- Rescaling an exponential from one reference point to another. -/
theorem exp_rescale (x : EReal) (hx : x ≠ ⊤) (a b : ℝ) :
    Ideal.exp ((a : EReal) - b) * Ideal.exp (x - a) = Ideal.exp (x - b) := by
  induction x with
  | bot => simp [EReal.bot_sub, exp_bot]
  | top => exact absurd rfl hx
  | coe r =>
    rw [← EReal.coe_sub, ← EReal.coe_sub, ← EReal.coe_sub, exp_coe, exp_coe, exp_coe, ← EReal.coe_mul, ← Real.exp_add]
    congr 2; ring

/-- A nonnegative real factor goes into a finite sum of extended reals. -/
theorem mul_sum_real {ι : Type} (t : Finset ι) (a : EReal) (h0 : 0 ≤ a) (h1 : a ≠ ⊤) (f : ι → EReal) :
    a * ∑ j ∈ t, f j = ∑ j ∈ t, a * f j := by
  classical
  induction t using Finset.induction_on with
  | empty => simp
  | insert x t hx ih => rw [Finset.sum_insert hx, Finset.sum_insert hx, EReal.left_distrib_of_nonneg_of_ne_top h0 h1, ih]

theorem fold_max_ne_top (f : Fin n → EReal) (h : ∀ j, f j ≠ ⊤) : Finset.univ.fold max ⊥ f ≠ ⊤ := by
  have : Finset.univ.fold max ⊥ f < ⊤ := (Finset.fold_max_lt (b := (⊥ : EReal)) (c := ⊤)).2 ⟨bot_lt_top, fun j _ => lt_top_iff_ne_top.2 (h j)⟩
  exact this.ne

theorem le_fold_max (f : Fin n → EReal) (j : Fin n) : f j ≤ Finset.univ.fold max ⊥ f :=
  (Finset.le_fold_max (b := (⊥ : EReal)) (f j)).2 (Or.inr ⟨j, Finset.mem_univ _, le_rfl⟩)

theorem mx_ne_top (s : ℕ → Fin n → EReal) (h : ∀ k j, s k j ≠ ⊤) (k : ℕ) : mx s k ≠ ⊤ := by
  induction k with
  | zero => exact bot_ne_top
  | succ k ih =>
    rw [mx]
    exact (max_lt (lt_top_iff_ne_top.2 ih) (lt_top_iff_ne_top.2 (fold_max_ne_top _ (h k)))).ne

theorem le_mx (s : ℕ → Fin n → EReal) (k : ℕ) : ∀ t, t < k → ∀ j, s t j ≤ mx s k := by
  induction k with
  | zero => intro t ht; omega
  | succ k ih =>
    intro t ht j
    rw [mx]
    rcases Nat.lt_succ_iff_lt_or_eq.1 ht with h | h
    · exact (ih t h j).trans (le_max_left _ _)
    · subst h; exact (le_fold_max _ j).trans (le_max_right _ _)

/-- The running maximum lies under every bound of the scores seen. -/
theorem mx_le (s : ℕ → Fin n → EReal) (k : ℕ) (b : EReal) (h : ∀ t, t < k → ∀ j, s t j ≤ b) : mx s k ≤ b := by
  induction k with
  | zero => exact bot_le
  | succ k ih =>
    rw [mx]
    refine max_le (ih fun t ht => h t (by omega)) ?_
    exact (Finset.fold_max_le (b := (⊥ : EReal)) b).2 ⟨bot_le, fun j _ => h k (by omega) j⟩

/-- Once one real score was seen the running maximum is a real number. -/
theorem mx_real (s : ℕ → Fin n → EReal) (h : ∀ k j, s k j ≠ ⊤) (j0 : Fin n) (h0 : s 0 j0 ≠ ⊥) (k : ℕ) (hk : 0 < k) :
    ∃ r : ℝ, mx s k = r := by
  have h1 := mx_ne_top s h k
  have h2 : mx s k ≠ ⊥ := fun e => h0 (le_bot_iff.1 (e ▸ le_mx s k 0 hk j0))
  exact ⟨(mx s k).toReal, (EReal.coe_toReal h1 h2).symm⟩

/-- The carried numerator is the plain sum against the running maximum. -/
theorem num_eq (s w : ℕ → Fin n → EReal) (h : ∀ k j, s k j ≠ ⊤) (j0 : Fin n) (h0 : s 0 j0 ≠ ⊥) (k : ℕ) :
    num s w k = ∑ t ∈ Finset.range k, ∑ j, Ideal.exp (s t j - mx s k) * w t j := by
  induction k with
  | zero => simp [num]
  | succ k ih =>
    rw [num, Finset.sum_range_succ]
    congr 1
    rcases Nat.eq_zero_or_pos k with hk | hk
    · subst hk; simp [num]
    · obtain ⟨a, ha⟩ := mx_real s h j0 h0 k hk
      obtain ⟨b, hb⟩ := mx_real s h j0 h0 (k + 1) (by omega)
      rw [ih, ha, hb]
      have hab : Ideal.exp ((a : EReal) - b) ≠ ⊤ := by rw [← EReal.coe_sub, exp_coe]; exact EReal.coe_ne_top _
      rw [mul_sum_real _ _ (exp_nonneg _) hab]
      refine Finset.sum_congr rfl fun t _ => ?_
      rw [mul_sum_real _ _ (exp_nonneg _) hab]
      refine Finset.sum_congr rfl fun j _ => ?_
      rw [← mul_assoc, exp_rescale _ (h t j)]

theorem den_eq_num (s : ℕ → Fin n → EReal) (k : ℕ) : den s k = num s (fun _ _ => 1) k := by
  induction k with
  | zero => rfl
  | succ k ih => rw [den, num, ih]; simp

theorem den_eq (s : ℕ → Fin n → EReal) (h : ∀ k j, s k j ≠ ⊤) (j0 : Fin n) (h0 : s 0 j0 ≠ ⊥) (k : ℕ) :
    den s k = ∑ t ∈ Finset.range k, ∑ j, Ideal.exp (s t j - mx s k) := by
  rw [den_eq_num, num_eq s _ h j0 h0]; simp

/-- A sum of exponentials below the top is a real number. -/
theorem sum_real {ι : Type} (t : Finset ι) (f : ι → EReal) (h : ∀ j ∈ t, ∃ r : ℝ, 0 ≤ r ∧ f j = r) :
    ∃ r : ℝ, 0 ≤ r ∧ ∑ j ∈ t, f j = r := by
  classical
  induction t using Finset.induction_on with
  | empty => exact ⟨0, le_rfl, by simp⟩
  | insert x t hx ih =>
    obtain ⟨a, ha, ea⟩ := h x (Finset.mem_insert_self _ _)
    obtain ⟨b, hb, eb⟩ := ih fun j hj => h j (Finset.mem_insert_of_mem hj)
    exact ⟨a + b, add_nonneg ha hb, by rw [Finset.sum_insert hx, ea, eb, EReal.coe_add]⟩

/-- The quotient after `k` tiles is the softmax-weighted sum over all `N` tiles, if the later tiles are masked. -/
theorem quotient (s w : ℕ → Fin n → EReal) (h : ∀ k j, s k j ≠ ⊤) (j0 : Fin n) (h0 : s 0 j0 ≠ ⊥) (k N : ℕ) (hk : 0 < k) (hN : k ≤ N)
    (hmask : ∀ t, k ≤ t → ∀ j, s t j = ⊥) :
    Ideal.div (num s w k) (den s k)
      = ∑ t ∈ Finset.range N, ∑ j, Ideal.div (Ideal.exp (s t j - mx s N)) (∑ t ∈ Finset.range N, ∑ j, Ideal.exp (s t j - mx s N)) * w t j := by
  have hm : mx s N = mx s k := by
    refine le_antisymm (mx_le s N _ fun t ht j => ?_) (mx_le s k _ fun t ht j => le_mx s N t (by omega) j)
    by_cases htk : t < k
    · exact le_mx s k t htk j
    · rw [hmask t (by omega) j]; exact bot_le
  rw [hm]
  obtain ⟨a, ha⟩ := mx_real s h j0 h0 k hk
  have hzero : ∀ t, k ≤ t → ∀ j, Ideal.exp (s t j - mx s k) = 0 := fun t ht j => by
    rw [hmask t ht j, ha, EReal.bot_sub, exp_bot]
  have hsub : Finset.range k ⊆ Finset.range N := Finset.range_mono hN
  have hL : ∑ t ∈ Finset.range N, ∑ j, Ideal.exp (s t j - mx s k) = den s k := by
    rw [den_eq s h j0 h0]
    exact (Finset.sum_subset hsub fun t _ ht => Finset.sum_eq_zero fun j _ => hzero t (by simpa using ht) j).symm
  rw [hL]
  have hreal : ∀ t j, ∃ r : ℝ, 0 ≤ r ∧ Ideal.exp (s t j - mx s k) = r := fun t j => by
    refine exp_real _ ?_
    rw [ha]
    intro e
    have := h t j
    revert e this
    induction s t j with
    | bot => simp [EReal.bot_sub]
    | top => simp
    | coe r => intro e _; rw [← EReal.coe_sub] at e; exact EReal.coe_ne_top _ e
  obtain ⟨L, hL0, eL⟩ : ∃ r : ℝ, 0 ≤ r ∧ den s k = r := by
    rw [den_eq s h j0 h0]
    exact sum_real _ _ fun t _ => sum_real _ _ fun j _ => hreal t j
  have hLpos : 0 < den s k := by
    have hp : 0 < Ideal.exp (s 0 j0 - mx s k) := by
      rw [ha]
      obtain ⟨b, hb⟩ : ∃ b : ℝ, s 0 j0 = b := ⟨(s 0 j0).toReal, (EReal.coe_toReal (h 0 j0) h0).symm⟩
      rw [hb, ← EReal.coe_sub, exp_coe]
      exact_mod_cast Real.exp_pos _
    rw [den_eq s h j0 h0]
    refine hp.trans_le ?_
    refine le_trans ?_ (Finset.single_le_sum (f := fun t => ∑ j, Ideal.exp (s t j - mx s k)) (fun t _ => Finset.sum_nonneg fun j _ => exp_nonneg _) (Finset.mem_range.2 hk))
    exact Finset.single_le_sum (f := fun j => Ideal.exp (s 0 j - mx s k)) (fun j _ => exp_nonneg _) (Finset.mem_univ j0)
  rw [eL] at hLpos ⊢
  have hL' : (0 : ℝ) < L := by exact_mod_cast hLpos
  have hne : (L : EReal) ≠ 0 := hLpos.ne'
  have hi0 : (0 : EReal) ≤ (L : EReal)⁻¹ := by rw [← EReal.coe_inv]; exact_mod_cast (inv_pos.2 hL').le
  have hi1 : (L : EReal)⁻¹ ≠ ⊤ := by rw [← EReal.coe_inv]; exact EReal.coe_ne_top _
  simp only [Ideal.div, hne, if_false]
  rw [num_eq s w h j0 h0, mul_comm, mul_sum_real _ _ hi0 hi1]
  refine (Finset.sum_congr rfl fun t _ => ?_).trans (Finset.sum_subset hsub fun t _ ht => Finset.sum_eq_zero fun j _ => ?_)
  · rw [mul_sum_real _ _ hi0 hi1]
    refine Finset.sum_congr rfl fun j _ => ?_
    rw [← mul_assoc, mul_comm ((L : EReal)⁻¹)]
  · rw [hzero t (by simpa using ht) j]; simp

end Cert.Flash

end
-- ==== Proof.AttnSpec.lean ====
module

public import proofs.«01_k».proof.Proof.Flash

/-! Causal softmax attention of one query row over 8192 keys, and its evaluation tile by tile. -/

@[expose] public section

noncomputable section

namespace Cert.AttnSpec

open Idealize.ShloMosaic Cert.Flash

/-- The softmax-weighted sum of the values `v` under the scores `s`. -/
def attn (s v : Fin 8192 → EReal) : EReal :=
  ∑ k : Fin 8192, Ideal.div (Ideal.exp (s k - Finset.univ.fold max ⊥ s)) (∑ k : Fin 8192, Ideal.exp (s k - Finset.univ.fold max ⊥ s)) * v k

/-- The scores of the keys not after the query, the others masked out. -/
def causal (q : Fin 8192) (s : Fin 8192 → EReal) (k : Fin 8192) : EReal := if k.val ≤ q.val then s k else ⊥

/-- Key `j` of tile `k`. -/
def key (k : ℕ) (h : k < 16) (j : Fin 512) : Fin 8192 := ⟨k * 512 + j.val, by omega⟩

/-- A row of 8192 entries in its sixteen tiles, `z` past them. -/
def tiles (z : EReal) (s : Fin 8192 → EReal) (k : ℕ) (j : Fin 512) : EReal := if h : k < 16 then s (key k h j) else z

theorem sum_tiles (f : Fin 8192 → EReal) (g : ℕ → Fin 512 → EReal) (h : ∀ k (hk : k < 16) j, g k j = f (key k hk j)) :
    ∑ t ∈ Finset.range 16, ∑ j, g t j = ∑ k : Fin 8192, f k := by
  rw [Fin.sum_univ_tiles 16 512 (by decide) f, Finset.sum_range]
  exact Finset.sum_congr rfl fun t _ => Finset.sum_congr rfl fun j _ => h t.val t.isLt j

theorem mx_tiles (s : Fin 8192 → EReal) : mx (tiles ⊥ s) 16 = Finset.univ.fold max ⊥ s := by
  refine le_antisymm (mx_le _ _ _ fun t ht j => ?_) ((Finset.fold_max_le (b := (⊥ : EReal)) _).2 ⟨bot_le, fun k _ => ?_⟩)
  · rw [tiles, dif_pos ht]; exact le_fold_max s _
  · have h := le_mx (tiles ⊥ s) 16 (k.val / 512) (by omega) ⟨k.val % 512, by omega⟩
    rw [tiles, dif_pos (by omega)] at h
    have e : key (k.val / 512) (by omega) ⟨k.val % 512, by omega⟩ = k := Fin.ext (by show k.val / 512 * 512 + k.val % 512 = k.val; omega)
    rwa [e] at h

/-- The running softmax over the first `n` tiles, the keys past them being masked, is the attention over all the keys. -/
theorem attn_of_tiles (s v : Fin 8192 → EReal) (h : ∀ k, s k ≠ ⊤) (h0 : s 0 ≠ ⊥) (n : ℕ) (hn : 0 < n) (hn' : n ≤ 16) (hm : ∀ k : Fin 8192, n * 512 ≤ k.val → s k = ⊥) :
    Ideal.div (num (tiles ⊥ s) (tiles 0 v) n) (den (tiles ⊥ s) n) = attn s v := by
  rw [quotient (tiles ⊥ s) (tiles 0 v) ?_ 0 ?_ n 16 hn hn' ?_]
  · rw [mx_tiles, attn, sum_tiles (fun k => Ideal.exp (s k - Finset.univ.fold max ⊥ s)) (fun t j => Ideal.exp (tiles ⊥ s t j - Finset.univ.fold max ⊥ s)) (fun k hk j => by
      show Ideal.exp (tiles ⊥ s k j - _) = _
      rw [tiles, dif_pos hk])]
    exact sum_tiles (fun k => Ideal.div (Ideal.exp (s k - Finset.univ.fold max ⊥ s)) (∑ k : Fin 8192, Ideal.exp (s k - Finset.univ.fold max ⊥ s)) * v k) _ (fun k hk j => by
      show Ideal.div (Ideal.exp (tiles ⊥ s k j - _)) _ * tiles 0 v k j = _
      rw [tiles, dif_pos hk, tiles, dif_pos hk])
  · intro k j
    unfold tiles
    split
    · exact h _
    · exact bot_ne_top
  · rw [tiles, dif_pos (by decide)]; exact h0
  · intro t ht j
    unfold tiles
    split
    · exact hm _ (by show n * 512 ≤ t * 512 + j.val; nlinarith)
    · rfl

/-- A sum of products of reals is real. -/
theorem dot_real {n : ℕ} (a b : Fin n → EReal) (ha : ∀ d, ∃ x : ℝ, a d = x) (hb : ∀ d, ∃ x : ℝ, b d = x) : ∃ x : ℝ, ∑ d, a d * b d = x := by
  choose f hf using ha
  choose g hg using hb
  refine ⟨∑ d, f d * g d, ?_⟩
  have coe_sum : ∀ t : Finset (Fin n), ((∑ d ∈ t, f d * g d : ℝ) : EReal) = ∑ d ∈ t, ((f d * g d : ℝ) : EReal) := by
    intro t
    classical
    induction t using Finset.induction_on with
    | empty => simp
    | insert i t hi ih => rw [Finset.sum_insert hi, Finset.sum_insert hi, EReal.coe_add, ih]
  rw [coe_sum]
  exact Finset.sum_congr rfl fun d _ => by rw [hf, hg, EReal.coe_mul]

/-- The word of negative infinity. -/
theorem ninf : Ideal.ofBits .f32 0xFF800000#32 = (⊥ : EReal) := by simp [Ideal.ofBits, Ideal.ieee]

/-- A number whose absolute value is below the word of infinity is real. -/
theorem real_of_cmp (x : EReal) (e : Ideal.cmp .olt (max x (-x)) (Ideal.ofBits .f32 0x7F800000#32) = 1#1) : ∃ y : ℝ, x = y := by
  have pinf : Ideal.ofBits .f32 0x7F800000#32 = (⊤ : EReal) := by simp [Ideal.ofBits, Ideal.ieee]
  rw [pinf] at e
  have h : max x (-x) < ⊤ := by
    by_contra h
    have e' : BitVec.ofBool (decide (max x (-x) < ⊤)) = 1#1 := e
    simp [h] at e'
  induction x with
  | bot => simp at h
  | top => simp at h
  | coe y => exact ⟨y, rfl⟩

/-- A signed comparison of two small words is the comparison of their numbers. -/
theorem sle_select {α : Type} (a b : ℕ) (ha : a < 2 ^ 31) (hb : b < 2 ^ 31) (x y : α) :
    Scalar.select (IntOp.cmpi .sle (BitVec.ofNat 32 a) (BitVec.ofNat 32 b)) x y = if a ≤ b then x else y := by
  have small : ∀ a : ℕ, a < 2 ^ 31 → (BitVec.ofNat 32 a).toInt = a := by
    intro a ha
    rw [BitVec.toInt_eq_toNat_of_lt, BitVec.toNat_ofNat]
    · rw [Nat.mod_eq_of_lt (by omega)]
    · rw [BitVec.toNat_ofNat]; omega
  have e3 : (BitVec.ofNat 32 a).sle (BitVec.ofNat 32 b) = decide (a ≤ b) := by
    rw [BitVec.sle_eq_decide, small _ ha, small _ hb]
    exact decide_eq_decide.mpr Int.ofNat_le
  show (if BitVec.ofBool ((BitVec.ofNat 32 a).sle (BitVec.ofNat 32 b)) = 1#1 then x else y) = _
  rw [e3]
  by_cases h : a ≤ b <;> simp [h]

/-- The mask's comparison on words is the comparison of the positions. -/
theorem mask_select {α : Type} (n q j r : ℕ) (hn : n < 16) (hq : q < 32) (hj : j < 512) (hr : r < 256) (x y : α) :
    Scalar.select (IntOp.cmpi .sle (IntOp.addi (Scalar.muli (BitVec.ofNat 32 n) 512#32) (BitVec.ofNat 32 j)) (IntOp.addi (Scalar.muli (BitVec.ofNat 32 q) 256#32) (BitVec.ofNat 32 r))) x y
      = if n * 512 + j ≤ q * 256 + r then x else y := by
  have e1 : IntOp.addi (Scalar.muli (BitVec.ofNat 32 n) 512#32) (BitVec.ofNat 32 j) = BitVec.ofNat 32 (n * 512 + j) := by
    show BitVec.ofNat 32 n * BitVec.ofNat 32 512 + BitVec.ofNat 32 j = _
    rw [← BitVec.ofNat_mul, ← BitVec.ofNat_add]
  have e2 : IntOp.addi (Scalar.muli (BitVec.ofNat 32 q) 256#32) (BitVec.ofNat 32 r) = BitVec.ofNat 32 (q * 256 + r) := by
    show BitVec.ofNat 32 q * BitVec.ofNat 32 256 + BitVec.ofNat 32 r = _
    rw [← BitVec.ofNat_mul, ← BitVec.ofNat_add]
  rw [e1, e2]
  exact sle_select _ _ (by omega) (by omega) x y

/-- The quotient of the sums over the tiles up to a query's is the causal attention of that query, where the scores are real. -/
theorem causal_point (s v : Fin 8192 → EReal) (hs : ∀ k, ∃ y : ℝ, s k = y) (q : ℕ) (hq : q < 32) (r : Fin 256) :
    Ideal.div (num (tiles ⊥ (causal ⟨q * 256 + r.val, by omega⟩ s)) (tiles 0 v) (q / 2 + 1)) (den (tiles ⊥ (causal ⟨q * 256 + r.val, by omega⟩ s)) (q / 2 + 1))
      = attn (causal ⟨q * 256 + r.val, by omega⟩ s) v := by
  refine attn_of_tiles _ v (fun k => ?_) ?_ _ (by omega) (by omega) (fun k hk => ?_)
  · obtain ⟨y, hy⟩ := hs k
    unfold causal
    split
    · rw [hy]; exact EReal.coe_ne_top y
    · exact bot_ne_top
  · obtain ⟨y, hy⟩ := hs 0
    have e : causal ⟨q * 256 + r.val, by omega⟩ s 0 = y := (if_pos (Nat.zero_le _)).trans hy
    rw [e]
    exact EReal.coe_ne_bot y
  · unfold causal
    rw [if_neg]
    show ¬ (k.val ≤ q * 256 + r.val)
    omega

/-! ## The forgetting attention -/

abbrev QkvArr := (⟨3, ![2, 8192, 1536]⟩ : Shape).Idx → EReal
abbrev CumArr := (⟨3, ![2, 8192, 128]⟩ : Shape).Idx → EReal

/-- The forgetting attention's score of key `k` for query `q`: the product of query and key plus what the gates between them sum to. -/
def foxScore (x : QkvArr) (c : CumArr) (b : Fin 2) (h : Fin 8) (q k : Fin 8192) : EReal :=
  (∑ d : Fin 64, x (ix3 b q ⟨h.val * 64 + d.val, by omega⟩) * x (ix3 b k ⟨512 + h.val * 64 + d.val, by omega⟩))
    + c (ix3 b q ⟨h.val, by omega⟩) - c (ix3 b k ⟨h.val, by omega⟩)

/-- The score is real where the queries, the keys and the gates are. -/
theorem foxScore_real (x : QkvArr) (c : CumArr) (b : Fin 2) (h : Fin 8) (q k : Fin 8192) (hx : ∀ (b : Fin 2) (q : Fin 8192) (n : Fin 1536), n.val < 1024 → ∃ y : ℝ, x (ix3 b q n) = y)
    (hc : ∀ (b : Fin 2) (q : Fin 8192) (n : Fin 128), n.val < 8 → ∃ y : ℝ, c (ix3 b q n) = y) : ∃ y : ℝ, foxScore x c b h q k = y := by
  unfold foxScore
  obtain ⟨y, hy⟩ := dot_real (fun d : Fin 64 => x (ix3 b q ⟨h.val * 64 + d.val, by omega⟩)) (fun d => x (ix3 b k ⟨512 + h.val * 64 + d.val, by omega⟩))
    (fun d => hx _ _ _ (by dsimp only; omega)) (fun d => hx _ _ _ (by dsimp only; omega))
  obtain ⟨y1, h1⟩ := hc b q ⟨h.val, by omega⟩ h.isLt
  obtain ⟨y2, h2⟩ := hc b k ⟨h.val, by omega⟩ h.isLt
  rw [hy, h1, h2]
  exact ⟨y + y1 - y2, by push_cast; rfl⟩

/-- Its value of key `k`, feature `d`. -/
def foxValue (x : QkvArr) (b : Fin 2) (h : Fin 8) (d : Fin 64) (k : Fin 8192) : EReal := x (ix3 b k ⟨1024 + h.val * 64 + d.val, by omega⟩)

/-- The forgetting attention's output. -/
def fox (x : QkvArr) (c : CumArr) (b : Fin 2) (h : Fin 8) (q : Fin 8192) (d : Fin 64) : EReal :=
  attn (causal q (foxScore x c b h q)) (foxValue x b h d)

end Cert.AttnSpec

end
-- ==== Proof.FoxRow.lean ====
module

public import proofs.«01_k».proof.Proof.FoxBody
public import proofs.«01_k».proof.Proof.AttnSpec

@[expose] public section

set_option maxRecDepth 16384

noncomputable section

namespace Cert.FoxIdeal.Hand

open Cert.FoxIdeal Cert.FoxIdeal.Gen Cert.FoxIdeal.Value Cert.AttnSpec Idealize.ShloMosaic Idealize.ShloMosaic.TcCoe Idealize.SL.Sem

/-! ## The state of a grid point, one query row at a time -/

theorem mask_bot : Named.named (F := Ideal) κ "mask" (φ := .f32) 0xF149F2CA#32 = (⊥ : EReal) :=
  IdealRules.named_const.ideal_named_scalar _ _ _ _ rfl

/-- Row `r` of the state is the running maximum, denominator and numerators of the scores `S r`. -/
def Rep (S : Fin 256 → ℕ → Fin 512 → EReal) (W : Fin 64 → ℕ → Fin 512 → EReal) (k : ℕ) (st : St Ideal) : Prop :=
  ∀ r, st.1 (ix2 r 0) = Flash.mx (S r) k ∧ st.2.1 (ix2 r 0) = Flash.den (S r) k ∧ ∀ d, st.2.2 (ix2 r d) = Flash.num (S r) (W d) k

theorem rep_zero (S : Fin 256 → ℕ → Fin 512 → EReal) (W : Fin 64 → ℕ → Fin 512 → EReal) : Rep S W 0 st0 := by
  intro r
  refine ⟨?_, ?_, fun d => ?_⟩
  · show k0_pay17 (ix2 r 0) = _
    pointwise [k0_pay17]
    rw [mask_bot]; rfl
  · show k0_pay18 (ix2 r 0) = _
    pointwise [k0_pay18]
    rfl
  · show k0_pay19 (ix2 r d) = _
    pointwise [k0_pay19]
    rfl

theorem pay31_at (s : FVec Ideal S256x512 .f32) (m : Vec Ideal S256x1 .f32) (r : Fin 256) :
    k0_pay31 s m (ix2 r 0) = max (m (ix2 r 0) : EReal) (Finset.univ.fold max ⊥ fun j : Fin 512 => (s (ix2 r j) : EReal)) := by
  pointwise [k0_pay31, k0_pay26]
  simp only [ninf]

theorem pay29_at (s : FVec Ideal S256x512 .f32) (m l : Vec Ideal S256x1 .f32) (r : Fin 256) :
    k0_pay29 s m l (ix2 r 0) = @HAdd.hAdd EReal EReal EReal _ (@HMul.hMul EReal EReal EReal _ (Ideal.exp ((m (ix2 r 0) : EReal) - (k0_pay31 s m (ix2 r 0) : EReal))) (l (ix2 r 0)))
      (∑ j : Fin 512, Ideal.exp ((s (ix2 r j) : EReal) - (k0_pay31 s m (ix2 r 0) : EReal))) := by
  rw [pay31_at]
  pointwise [k0_pay29, k0_pay26, k0_pay27, k0_pay28]
  simp only [ninf]

theorem pay30_at (s : FVec Ideal S256x512 .f32) (v : Vec Ideal S1x1x512x64 .bf16) (m : Vec Ideal S256x1 .f32) (a : Vec Ideal S256x64 .f32) (r : Fin 256) (d : Fin 64) :
    k0_pay30 s v m a (ix2 r d) = @HAdd.hAdd EReal EReal EReal _ (@HMul.hMul EReal EReal EReal _ (Ideal.exp ((m (ix2 r 0) : EReal) - (k0_pay31 s m (ix2 r 0) : EReal))) (a (ix2 r d)))
      (∑ j : Fin 512, @HMul.hMul EReal EReal EReal _ (Ideal.exp ((s (ix2 r j) : EReal) - (k0_pay31 s m (ix2 r 0) : EReal))) (v (ix4 0 0 j d))) := by
  rw [pay31_at]
  pointwise [k0_pay30, k0_pay26, k0_pay27, k0_pay28]
  simp only [ninf]

/-- One more tile. -/
theorem rep_succ (S : Fin 256 → ℕ → Fin 512 → EReal) (W : Fin 64 → ℕ → Fin 512 → EReal) (k : ℕ) (st : St Ideal)
    (s : FVec Ideal S256x512 .f32) (v : Vec Ideal S1x1x512x64 .bf16)
    (hs : ∀ r j, s (ix2 r j) = S r k j) (hv : ∀ d j, v (ix4 0 0 j d) = W d k j) (h : Rep S W k st) : Rep S W (k + 1) (upd s v st) := by
  intro r
  obtain ⟨h1, h2, h3⟩ := h r
  have e : k0_pay31 s st.1 (ix2 r 0) = Flash.mx (S r) (k + 1) := by
    rw [pay31_at, h1, Flash.mx]
    simp only [hs]
  refine ⟨e, ?_, fun d => ?_⟩
  · show k0_pay29 s st.1 st.2.1 (ix2 r 0) = _
    rw [pay29_at, e, h1, h2, Flash.den]
    simp only [hs]
  · show k0_pay30 s v st.1 st.2.2 (ix2 r d) = _
    rw [pay30_at, e, h1, h3, Flash.num]
    simp only [hs, hv]

/-- The score of query row `r` and lane `j` of tile `k`, before the mask. -/
def raw (x0 : Vec Ideal S1x1x256x64 .bf16) (x1 : Vec Ideal S1x1x16x64x512 .bf16) (x4 : Vec Ideal S1x1x16x1x512 .f32) (cq : Fin 256 → EReal)
    (r : Fin 256) (k : Fin 16) (j : Fin 512) : EReal :=
  (∑ d : Fin 64, (x0 (ix4 0 0 r d) : EReal) * x1 (ix5 0 0 k d j)) + (cq r - x4 (ix5 0 0 k 0 j))

/-- The masked score of query row `r` of the block at `q`. -/
def score (x0 : Vec Ideal S1x1x256x64 .bf16) (x1 : Vec Ideal S1x1x16x64x512 .bf16) (x4 : Vec Ideal S1x1x16x1x512 .f32) (cq : Fin 256 → EReal)
    (q : ℕ) (r : Fin 256) (k : ℕ) (j : Fin 512) : EReal :=
  if h : k < 16 then if k * 512 + j.val ≤ q * 256 + r.val then raw x0 x1 x4 cq r ⟨k, h⟩ j else ⊥ else ⊥

def value (x2 : Vec Ideal S1x1x8192x64 .bf16) (d : Fin 64) (k : ℕ) (j : Fin 512) : EReal :=
  if h : k < 16 then x2 (ix4 0 0 ⟨k * 512 + j.val, by omega⟩ d) else 0

theorem ktile_at (x : Vec Ideal S1x1x16x64x512 .bf16) (k : ℕ) (hk : k < 16) (d : Fin 64) (j : Fin 512) : ktile x k (ix5 0 0 0 d j) = x (ix5 0 0 ⟨k, hk⟩ d j) := by
  unfold ktile View.ld
  refine congrArg x (funext fun a => Fin.ext ?_)
  match a with
  | ⟨0, _⟩ => rfl
  | ⟨1, _⟩ => rfl
  | ⟨2, _⟩ => show k % 16 + 1 * 0 = k; omega
  | ⟨3, _⟩ => show 0 + 1 * d.val = d.val; omega
  | ⟨4, _⟩ => show 0 + 1 * j.val = j.val; omega

theorem ctile_at (x : Vec Ideal S1x1x16x1x512 .f32) (k : ℕ) (hk : k < 16) (j : Fin 512) : ctile x k (ix5 0 0 0 0 j) = x (ix5 0 0 ⟨k, hk⟩ 0 j) := by
  unfold ctile View.ld
  refine congrArg x (funext fun a => Fin.ext ?_)
  match a with
  | ⟨0, _⟩ => rfl
  | ⟨1, _⟩ => rfl
  | ⟨2, _⟩ => show k % 16 + 1 * 0 = k; omega
  | ⟨3, _⟩ => rfl
  | ⟨4, _⟩ => show 0 + 1 * j.val = j.val; omega

theorem vtile_at (x : Vec Ideal S1x1x8192x64 .bf16) (k : ℕ) (hk : k < 16) (d : Fin 64) (j : Fin 512) : vtile x k (ix4 0 0 j d) = x (ix4 0 0 ⟨k * 512 + j.val, by omega⟩ d) := by
  unfold vtile View.ld
  refine congrArg x (funext fun a => Fin.ext ?_)
  match a with
  | ⟨0, _⟩ => rfl
  | ⟨1, _⟩ => rfl
  | ⟨2, _⟩ => show k % 16 * 512 + 1 * j.val = k * 512 + j.val; rw [Nat.mod_eq_of_lt hk]; omega
  | ⟨3, _⟩ => show 0 + 1 * d.val = d.val; omega

/-- The value tile's entries. -/
theorem value_at (x2 : Vec Ideal S1x1x8192x64 .bf16) (d : Fin 64) (k : ℕ) (hk : k < 16) (j : Fin 512) : vtile x2 k (ix4 0 0 j d) = value x2 d k j := by
  rw [vtile_at _ _ hk, value, dif_pos hk]

theorem pick_lane (v : Fin 128 → EReal) (e : ℕ) (he : e < 128) :
    ∑ x : Fin 128, Scalar.select (IntOp.cmpi .eq (BitVec.ofNat 32 x.val) (BitVec.ofNat 32 e)) (v x) (0 : EReal) = v ⟨e, he⟩ := by
  rw [Finset.sum_eq_single (⟨e, he⟩ : Fin 128)]
  · simp [Scalar.select, IntOp.cmpi]
  · intro b _ hb
    have hne : BitVec.ofNat 32 b.val ≠ BitVec.ofNat 32 e := by
      intro h
      apply hb
      have := congrArg BitVec.toNat h
      simp only [BitVec.toNat_ofNat] at this
      refine Fin.ext ?_
      have := b.isLt
      show b.val = e
      omega
    have hb' : (BitVec.ofNat 32 b.val == BitVec.ofNat 32 e) = false := beq_eq_false_iff_ne.mpr hne
    simp [Scalar.select, IntOp.cmpi, hb']
  · intro h; exact absurd (Finset.mem_univ _) h

/-- The query rows' running sum is the head's lane. -/
theorem pay20_at (i : grid0.Coords) (x3 : Vec Ideal S1x256x128 .f32) (r : Fin 256) (h : Fin 8) (hh : (i 1).val = h.val) :
    k0_pay20 i x3 (ix2 r 0) = x3 (ix3 0 r ⟨h.val, by omega⟩) := by
  pointwise [k0_pay20]
  rw [hh]
  exact pick_lane (fun x => x3 (ix3 0 r x)) h.val (by omega)

theorem pay16_at (x0 : Vec Ideal S1x1x256x64 .bf16) (r : Fin 256) (d : Fin 64) : k0_pay16 x0 (ix2 r d) = x0 (ix4 0 0 r d) := by
  pointwise [k0_pay16]

/-- The scores of an unmasked tile. -/
theorem pay2_at (v1 : FVec Ideal S256x64 .bf16) (v22 : FVec Ideal S256x1 .f32) (a : Vec Ideal S1x1x1x64x512 .bf16) (b : Vec Ideal S1x1x1x1x512 .f32) (r : Fin 256) (j : Fin 512) :
    k0_pay2 v1 v22 a b (ix2 r j) = @HAdd.hAdd EReal EReal EReal _ (∑ d : Fin 64, (v1 (ix2 r d) : EReal) * a (ix5 0 0 0 d j)) ((v22 (ix2 r 0) : EReal) - b (ix5 0 0 0 0 j)) := by
  pointwise [k0_pay2]

/-- The scores of the last, masked tile. -/
theorem pay25_at (q n : ℕ) (hq : q < 32) (hn : n < 16) (w23 w24 w29 : BitVec 32) (v1 : FVec Ideal S256x64 .bf16) (v22 : FVec Ideal S256x1 .f32) (a : Vec Ideal S1x1x1x64x512 .bf16) (b : Vec Ideal S1x1x1x1x512 .f32) (r : Fin 256) (j : Fin 512)
    (hw : Scalar.select (Scalar.andi (Scalar.cmpi .ne w29 (Scalar.subi (Scalar.extui 1#1) (Scalar.extui (Scalar.cmpi .slt 512#32 0#32)))) (Scalar.cmpi .ne (Scalar.remsi w23 512#32) 0#32)) (Scalar.subi w24 1#32) w24 = BitVec.ofNat 32 n) :
    k0_pay25 (BitVec.ofNat 32 q) v1 v22 w23 512#32 w24 w29 1#1 a b (ix2 r j) = if n * 512 + j.val ≤ q * 256 + r.val then k0_pay2 v1 v22 a b (ix2 r j) else ⊥ := by
  rw [pay2_at]
  pointwise [k0_pay25]
  rw [hw, mask_bot, mask_select n q j.val r.val hn hq j.isLt r.isLt]

/-- The quotient stored. -/
theorem pay1_at (a : Vec Ideal S256x64 .f32) (l : Vec Ideal S256x1 .f32) (r : Fin 256) (d : Fin 64) :
    k0_pay1 a l (ix4 0 0 r d) = Ideal.div (a (ix2 r d)) (l (ix2 r 0)) := by
  pointwise [k0_pay1]

section Point

variable (i : grid0.Coords) (q : ℕ) (h : Fin 8) (x0 : Vec Ideal S1x1x256x64 .bf16) (x1 : Vec Ideal S1x1x16x64x512 .bf16) (x2 : Vec Ideal S1x1x8192x64 .bf16) (x3 : Vec Ideal S1x256x128 .f32) (x4 : Vec Ideal S1x1x16x1x512 .f32)

/-- The running sum at query row `r` of the block. -/
def cqAt (x3 : Vec Ideal S1x256x128 .f32) (h : Fin 8) (r : Fin 256) : EReal := x3 (ix3 0 r ⟨h.val, by omega⟩)

theorem pay2_raw (hh : (i 1).val = h.val) (k : ℕ) (hk : k < 16) (r : Fin 256) (j : Fin 512) :
    k0_pay2 (k0_pay16 x0) (k0_pay20 i x3) (ktile x1 k) (ctile x4 k) (ix2 r j) = raw x0 x1 x4 (cqAt x3 h) r ⟨k, hk⟩ j := by
  rw [pay2_at, pay20_at i x3 r h hh, ctile_at x4 k hk]
  unfold raw cqAt
  refine congrArg₂ (@HAdd.hAdd EReal EReal EReal _) (Finset.sum_congr rfl fun d _ => ?_) rfl
  rw [pay16_at, ktile_at x1 k hk]

/-- After the unmasked tiles. -/
theorem rep_chain (hh : (i 1).val = h.val) (hq : q < 32) (k : ℕ) (hk : k ≤ q / 2) :
    Rep (score x0 x1 x4 (cqAt x3 h) q) (value x2) k (chain (k0_pay16 x0) (k0_pay20 i x3) x1 x2 x4 k) := by
  induction k with
  | zero => exact rep_zero _ _
  | succ k ih =>
    refine rep_succ _ _ k _ _ _ (fun r j => ?_) (fun d j => value_at x2 d k (by omega) j) (ih (by omega))
    rw [pay2_raw i h x0 x1 x3 x4 hh k (by omega), score, dif_pos (show k < 16 by omega), if_pos (by omega)]

/-- The output block of the point `i`, row by row: numerators over denominators. -/
theorem point_value (c : Dev nD) (arg3 : Memref sig .tc .vmem S1x1x256x64 .bf16) (harg3 : arg3.IsWhole) (arg4 : Memref sig .tc .vmem S1x1x16x64x512 .bf16) (harg4 : arg4.IsWhole) (arg5 : Memref sig .tc .vmem S1x1x8192x64 .bf16) (harg5 : arg5.IsWhole) (arg6 : Memref sig .tc .vmem S1x256x128 .f32) (harg6 : arg6.IsWhole) (arg7 : Memref sig .tc .vmem S1x1x16x1x512 .f32) (harg7 : arg7.IsWhole) (arg8 : Memref sig .tc .vmem S1x1x256x64 .bf16) (harg8 : arg8.IsWhole) (arg9 : Memref sig .tc .vmem S256x1 .f32) (harg9 : arg9.IsWhole) (arg10 : Memref sig .tc .vmem S256x1 .f32) (harg10 : arg10.IsWhole) (arg11 : Memref sig .tc .vmem S256x64 .f32) (harg11 : arg11.IsWhole) (hh : (i 1).val = h.val) (hq : q < 32) (hi : (i 2).val = q)
    (h1 : (k0_t1_loop i).trips = q / 2) (h2 : (k0_t2_loop i).trips = 0)
    (h7 : k0_off7 i = ![0, 0, q / 2, 0, 0]) (h8 : k0_off8 i = ![0, 0, q / 2, 0, 0]) (h9 : k0_off9 i = ![0, 0, q / 2 * 512, 0])
    (hw : Scalar.select (Scalar.andi (Scalar.cmpi .ne (kernelRun0_A.sl.v29 i) (Scalar.subi (Scalar.extui 1#1) (Scalar.extui (Scalar.cmpi .slt 512#32 0#32)))) (Scalar.cmpi .ne (Scalar.remsi (kernelRun0_A.sl.v23 i) 512#32) 0#32)) (Scalar.subi (kernelRun0_A.sl.v24 i) 1#32) (kernelRun0_A.sl.v24 i) = BitVec.ofNat 32 (q / 2))
    (r : Fin 256) (d : Fin 64) :
    out0_A_5 c i arg3 harg3 arg4 harg4 arg5 harg5 arg6 harg6 arg7 harg7 arg8 harg8 arg9 harg9 arg10 harg10 arg11 harg11 x0 x1 x2 x3 x4 (ix4 0 0 r d)
      = Ideal.div (Flash.num (score x0 x1 x4 (cqAt x3 h) q r) (value x2 d) (q / 2 + 1)) (Flash.den (score x0 x1 x4 (cqAt x3 h) q r) (q / 2 + 1)) := by
  rw [run_value c i arg3 harg3 arg4 harg4 arg5 harg5 arg6 harg6 arg7 harg7 arg8 harg8 arg9 harg9 arg10 harg10 arg11 harg11 x0 x1 x2 x3 x4 (q / 2) (by omega) h1 h2 h7 h8 h9, pay1_at]
  have hs : ∀ (r : Fin 256) (j : Fin 512), k0_pay25 (BitVec.ofNat 32 (i 2).val) (k0_pay16 x0) (k0_pay20 i x3) (kernelRun0_A.sl.v23 i) 512#32 (kernelRun0_A.sl.v24 i) (kernelRun0_A.sl.v29 i) 1#1 (ktile x1 (q / 2)) (ctile x4 (q / 2)) (ix2 r j)
      = score x0 x1 x4 (cqAt x3 h) q r (q / 2) j := by
    intro r j
    rw [hi, pay25_at q (q / 2) hq (by omega) _ _ _ _ _ _ _ r j hw, pay2_raw i h x0 x1 x3 x4 hh (q / 2) (by omega)]
    rw [score, dif_pos (show q / 2 < 16 by omega)]
  have hR := rep_succ (score x0 x1 x4 (cqAt x3 h) q) (value x2) (q / 2) _ _ (vtile x2 (q / 2)) hs (fun d j => value_at x2 d (q / 2) (by omega) j) (rep_chain i q h x0 x1 x2 x3 x4 hh hq (q / 2) le_rfl)
  obtain ⟨_, e2, e3⟩ := hR r
  rw [e3 d, e2]

end Point

end Cert.FoxIdeal.Hand

end
-- ==== Proof.FoxValue.lean ====
module

public import proofs.«01_k».proof.Proof.FoxRow
public import proofs.«01_k».proof.Proof.Gen.FoxIdeal.Value

@[expose] public section

set_option maxRecDepth 16384

noncomputable section

namespace Cert.FoxIdeal.Hand

open Cert.FoxIdeal Cert.FoxIdeal.Gen Cert.FoxIdeal.Value Cert.AttnSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The arrays the launch finds -/

abbrev X : QkvArr := m ((c : Thread nD τ).loc main_arg0)
abbrev U : CumArr := m ((c : Thread nD τ).loc main_arg1)

theorem V_q : V m c main_v5 = transpose S2x8x8192x64 [0, 2, 1, 3] (shapeCast S2x8192x8x64 (extractStridedSlice S2x8192x512 ![0, 0, 0] (m ((c : Thread nD τ).loc main_arg0)) slices_S2x8192x1536_S2x8192x512_0_0_0) shapeCasts_S2x8192x512_S2x8192x8x64) transposes_S2x8192x8x64_S2x8x8192x64_0_2_1_3 := by
  simp only [V, hostOps0]; after_results_simp
  rfl
theorem V_k : V m c main_v10 = transpose S2x8x16x64x512 [0, 1, 2, 4, 3] (shapeCast S2x8x16x512x64 (transpose S2x8x8192x64 [0, 2, 1, 3] (shapeCast S2x8192x8x64 (extractStridedSlice S2x8192x512 ![0, 0, 512] (m ((c : Thread nD τ).loc main_arg0)) slices_S2x8192x1536_S2x8192x512_0_0_512) shapeCasts_S2x8192x512_S2x8192x8x64) transposes_S2x8192x8x64_S2x8x8192x64_0_2_1_3) shapeCasts_S2x8x8192x64_S2x8x16x512x64) transposes_S2x8x16x512x64_S2x8x16x64x512_0_1_2_4_3 := by
  simp only [V, hostOps0]; after_results_simp
  rfl
theorem V_v : V m c main_v13 = transpose S2x8x8192x64 [0, 2, 1, 3] (shapeCast S2x8192x8x64 (extractStridedSlice S2x8192x512 ![0, 0, 1024] (m ((c : Thread nD τ).loc main_arg0)) slices_S2x8192x1536_S2x8192x512_0_0_1024) shapeCasts_S2x8192x512_S2x8192x8x64) transposes_S2x8192x8x64_S2x8x8192x64_0_2_1_3 := by
  simp only [V, hostOps0]; after_results_simp
  rfl
theorem V_c : V m c main_v2 = shapeCast S2x8x16x1x512 (transpose S2x8x8192 [0, 2, 1] (extractStridedSlice S2x8192x8 ![0, 0, 0] (m ((c : Thread nD τ).loc main_arg1)) slices_S2x8192x128_S2x8192x8_0_0_0) transposes_S2x8192x8_S2x8x8192_0_2_1) shapeCasts_S2x8x8192_S2x8x16x1x512 := by
  simp only [V, hostOps0]; after_results_simp
  rfl

theorem q_at (x : Vec Ideal S2x8192x1536 .bf16) (b : Fin 2) (h : Fin 8) (q : Fin 8192) (d : Fin 64) :
    transpose S2x8x8192x64 [0, 2, 1, 3] (shapeCast S2x8192x8x64 (extractStridedSlice S2x8192x512 ![0, 0, 0] x slices_S2x8192x1536_S2x8192x512_0_0_0) shapeCasts_S2x8192x512_S2x8192x8x64) transposes_S2x8192x8x64_S2x8x8192x64_0_2_1_3 (ix4 b h q d)
      = x (ix3 b q ⟨h.val * 64 + d.val, by omega⟩) := by
  pointwise
theorem k_at (x : Vec Ideal S2x8192x1536 .bf16) (b : Fin 2) (h : Fin 8) (k : Fin 16) (d : Fin 64) (j : Fin 512) :
    transpose S2x8x16x64x512 [0, 1, 2, 4, 3] (shapeCast S2x8x16x512x64 (transpose S2x8x8192x64 [0, 2, 1, 3] (shapeCast S2x8192x8x64 (extractStridedSlice S2x8192x512 ![0, 0, 512] x slices_S2x8192x1536_S2x8192x512_0_0_512) shapeCasts_S2x8192x512_S2x8192x8x64) transposes_S2x8192x8x64_S2x8x8192x64_0_2_1_3) shapeCasts_S2x8x8192x64_S2x8x16x512x64) transposes_S2x8x16x512x64_S2x8x16x64x512_0_1_2_4_3 (ix5 b h k d j)
      = x (ix3 b (key k.val k.isLt j) ⟨512 + h.val * 64 + d.val, by omega⟩) := by
  unfold key
  pointwise
  simp only [Nat.add_assoc]
theorem v_at (x : Vec Ideal S2x8192x1536 .bf16) (b : Fin 2) (h : Fin 8) (q : Fin 8192) (d : Fin 64) :
    transpose S2x8x8192x64 [0, 2, 1, 3] (shapeCast S2x8192x8x64 (extractStridedSlice S2x8192x512 ![0, 0, 1024] x slices_S2x8192x1536_S2x8192x512_0_0_1024) shapeCasts_S2x8192x512_S2x8192x8x64) transposes_S2x8192x8x64_S2x8x8192x64_0_2_1_3 (ix4 b h q d)
      = x (ix3 b q ⟨1024 + h.val * 64 + d.val, by omega⟩) := by
  pointwise
  simp only [Nat.add_assoc]
theorem c_at (u : Vec Ideal S2x8192x128 .f32) (b : Fin 2) (h : Fin 8) (k : Fin 16) (j : Fin 512) :
    shapeCast S2x8x16x1x512 (transpose S2x8x8192 [0, 2, 1] (extractStridedSlice S2x8192x8 ![0, 0, 0] u slices_S2x8192x128_S2x8192x8_0_0_0) transposes_S2x8192x8_S2x8x8192_0_2_1) shapeCasts_S2x8x8192_S2x8x16x1x512 (ix5 b h k 0 j)
      = u (ix3 b (key k.val k.isLt j) ⟨h.val, by omega⟩) := by
  unfold key
  pointwise

/-! ## The blocks at an index: point `t` is batch `t / 256`, head `t / 32 % 8`, query tile `t % 32` -/

theorem point_facts : ∀ t : Fin cfg0.N, (grid0.coords t 1).val = t.val / 32 % 8 ∧ (grid0.coords t 2).val = t.val % 32
    ∧ win0_0.index t = ![t.val / 256, t.val / 32 % 8, t.val % 32, 0] ∧ win0_1.index t = ![t.val / 256, t.val / 32 % 8, 0, 0, 0]
    ∧ win0_2.index t = ![t.val / 256, t.val / 32 % 8, 0, 0] ∧ win0_3.index t = ![t.val / 256, t.val % 32, 0]
    ∧ win0_4.index t = ![t.val / 256, t.val / 32 % 8, 0, 0, 0] ∧ win0_5.index t = ![t.val / 256, t.val / 32 % 8, t.val % 32, 0] :=
  (by decide +kernel : ∀ t : Fin grid0.N, _)

theorem body_facts : ∀ t : Fin cfg0.N, (k0_t1_loop (grid0.coords t)).trips = t.val % 32 / 2 ∧ (k0_t2_loop (grid0.coords t)).trips = 0
    ∧ k0_off7 (grid0.coords t) = ![0, 0, t.val % 32 / 2, 0, 0] ∧ k0_off8 (grid0.coords t) = ![0, 0, t.val % 32 / 2, 0, 0]
    ∧ k0_off9 (grid0.coords t) = ![0, 0, t.val % 32 / 2 * 512, 0]
    ∧ Scalar.select (Scalar.andi (Scalar.cmpi .ne (kernelRun0_A.sl.v29 (grid0.coords t)) (Scalar.subi (Scalar.extui 1#1) (Scalar.extui (Scalar.cmpi .slt 512#32 0#32)))) (Scalar.cmpi .ne (Scalar.remsi (kernelRun0_A.sl.v23 (grid0.coords t)) 512#32) 0#32)) (Scalar.subi (kernelRun0_A.sl.v24 (grid0.coords t)) 1#32) (kernelRun0_A.sl.v24 (grid0.coords t)) = BitVec.ofNat 32 (t.val % 32 / 2) :=
  (by decide +kernel : ∀ t : Fin grid0.N, _)

theorem lt512 (t : Fin cfg0.N) : t.val < 512 := lt_of_lt_of_eq t.isLt N_0

def bat (t : Fin cfg0.N) : Fin 2 := ⟨t.val / 256, by have := lt512 t; omega⟩
def hd (t : Fin cfg0.N) : Fin 8 := ⟨t.val / 32 % 8, Nat.mod_lt _ (by decide)⟩
def qry (t : Fin cfg0.N) (r : Fin 256) : Fin 8192 := ⟨t.val % 32 * 256 + r.val, by omega⟩

theorem blk0 (t : Fin cfg0.N) (r : Fin 256) (d : Fin 64) : (iblk m c 0 t : Vec Ideal S1x1x256x64 .bf16) (ix4 0 0 r d) = X m c (ix3 (bat t) (qry t r) ⟨(hd t).val * 64 + d.val, by omega⟩) := by
  have e := (point_facts t).2.2.1
  have e0 := congrFun e 0
  have e1 := congrFun e 1
  have e2 := congrFun e 2
  have e3 := congrFun e 3
  unfold iblk
  rw [View.read_apply]
  have hi : ((cfg0.win 0).blk t).view.emb (ix4 0 0 r d) = (ix4 (bat t) (hd t) (qry t r) d : S2x8x8192x64.Idx) := by
    refine funext fun a => Fin.ext ?_
    match a with
    | ⟨0, _⟩ => show win0_0.index t 0 * 1 + 1 * 0 = t.val / 256; rw [e0]; simp
    | ⟨1, _⟩ => show win0_0.index t 1 * 1 + 1 * 0 = t.val / 32 % 8; rw [e1]; simp
    | ⟨2, _⟩ => show win0_0.index t 2 * 256 + 1 * r.val = t.val % 32 * 256 + r.val; rw [e2]; simp
    | ⟨3, _⟩ => show win0_0.index t 3 * 64 + 1 * d.val = d.val; rw [e3]; simp
  show V m c main_v5 (((cfg0.win 0).blk t).view.emb (ix4 0 0 r d)) = _
  rw [hi, V_q]
  exact q_at _ _ _ _ _

theorem blk1 (t : Fin cfg0.N) (k : Fin 16) (d : Fin 64) (j : Fin 512) : (iblk m c 1 t : Vec Ideal S1x1x16x64x512 .bf16) (ix5 0 0 k d j) = X m c (ix3 (bat t) (key k.val k.isLt j) ⟨512 + (hd t).val * 64 + d.val, by omega⟩) := by
  have e := (point_facts t).2.2.2.1
  have e0 := congrFun e 0
  have e1 := congrFun e 1
  have e2 := congrFun e 2
  have e3 := congrFun e 3
  have e4 := congrFun e 4
  unfold iblk
  rw [View.read_apply]
  have hi : ((cfg0.win 1).blk t).view.emb (ix5 0 0 k d j) = (ix5 (bat t) (hd t) k d j : S2x8x16x64x512.Idx) := by
    refine funext fun a => Fin.ext ?_
    match a with
    | ⟨0, _⟩ => show win0_1.index t 0 * 1 + 1 * 0 = t.val / 256; rw [e0]; simp
    | ⟨1, _⟩ => show win0_1.index t 1 * 1 + 1 * 0 = t.val / 32 % 8; rw [e1]; simp
    | ⟨2, _⟩ => show win0_1.index t 2 * 16 + 1 * k.val = k.val; rw [e2]; simp
    | ⟨3, _⟩ => show win0_1.index t 3 * 64 + 1 * d.val = d.val; rw [e3]; simp
    | ⟨4, _⟩ => show win0_1.index t 4 * 512 + 1 * j.val = j.val; rw [e4]; simp
  show V m c main_v10 (((cfg0.win 1).blk t).view.emb (ix5 0 0 k d j)) = _
  rw [hi, V_k]
  exact k_at _ _ _ _ _ _

theorem blk2 (t : Fin cfg0.N) (k : Fin 8192) (d : Fin 64) : (iblk m c 2 t : Vec Ideal S1x1x8192x64 .bf16) (ix4 0 0 k d) = X m c (ix3 (bat t) k ⟨1024 + (hd t).val * 64 + d.val, by omega⟩) := by
  have e := (point_facts t).2.2.2.2.1
  have e0 := congrFun e 0
  have e1 := congrFun e 1
  have e2 := congrFun e 2
  have e3 := congrFun e 3
  unfold iblk
  rw [View.read_apply]
  have hi : ((cfg0.win 2).blk t).view.emb (ix4 0 0 k d) = (ix4 (bat t) (hd t) k d : S2x8x8192x64.Idx) := by
    refine funext fun a => Fin.ext ?_
    match a with
    | ⟨0, _⟩ => show win0_2.index t 0 * 1 + 1 * 0 = t.val / 256; rw [e0]; simp
    | ⟨1, _⟩ => show win0_2.index t 1 * 1 + 1 * 0 = t.val / 32 % 8; rw [e1]; simp
    | ⟨2, _⟩ => show win0_2.index t 2 * 8192 + 1 * k.val = k.val; rw [e2]; simp
    | ⟨3, _⟩ => show win0_2.index t 3 * 64 + 1 * d.val = d.val; rw [e3]; simp
  show V m c main_v13 (((cfg0.win 2).blk t).view.emb (ix4 0 0 k d)) = _
  rw [hi, V_v]
  exact v_at _ _ _ _ _

theorem blk3 (t : Fin cfg0.N) (r : Fin 256) (n : Fin 128) : (iblk m c 3 t : Vec Ideal S1x256x128 .f32) (ix3 0 r n) = U m c (ix3 (bat t) (qry t r) n) := by
  have e := (point_facts t).2.2.2.2.2.1
  have e0 := congrFun e 0
  have e1 := congrFun e 1
  have e2 := congrFun e 2
  unfold iblk
  rw [View.read_apply]
  show V m c main_arg1 _ = _
  rw [V_main_arg1]
  refine congrArg _ (funext fun a => Fin.ext ?_)
  match a with
  | ⟨0, _⟩ => show win0_3.index t 0 * 1 + 1 * 0 = t.val / 256; rw [e0]; simp
  | ⟨1, _⟩ => show win0_3.index t 1 * 256 + 1 * r.val = t.val % 32 * 256 + r.val; rw [e1]; simp
  | ⟨2, _⟩ => show win0_3.index t 2 * 128 + 1 * n.val = n.val; rw [e2]; simp

theorem blk4 (t : Fin cfg0.N) (k : Fin 16) (j : Fin 512) : (iblk m c 4 t : Vec Ideal S1x1x16x1x512 .f32) (ix5 0 0 k 0 j) = U m c (ix3 (bat t) (key k.val k.isLt j) ⟨(hd t).val, by omega⟩) := by
  have e := (point_facts t).2.2.2.2.2.2.1
  have e0 := congrFun e 0
  have e1 := congrFun e 1
  have e2 := congrFun e 2
  have e3 := congrFun e 3
  have e4 := congrFun e 4
  unfold iblk
  rw [View.read_apply]
  have hi : ((cfg0.win 4).blk t).view.emb (ix5 0 0 k 0 j) = (ix5 (bat t) (hd t) k 0 j : S2x8x16x1x512.Idx) := by
    refine funext fun a => Fin.ext ?_
    match a with
    | ⟨0, _⟩ => show win0_4.index t 0 * 1 + 1 * 0 = t.val / 256; rw [e0]; simp
    | ⟨1, _⟩ => show win0_4.index t 1 * 1 + 1 * 0 = t.val / 32 % 8; rw [e1]; simp
    | ⟨2, _⟩ => show win0_4.index t 2 * 16 + 1 * k.val = k.val; rw [e2]; simp
    | ⟨3, _⟩ => show win0_4.index t 3 * 1 + 1 * 0 = 0; rw [e3]; simp
    | ⟨4, _⟩ => show win0_4.index t 4 * 512 + 1 * j.val = j.val; rw [e4]; simp
  show V m c main_v2 (((cfg0.win 4).blk t).view.emb (ix5 0 0 k 0 j)) = _
  rw [hi, V_c]
  exact c_at _ _ _ _ _

/-! ## The result -/

/-- A block's scores are the tiles of the formula's masked scores. -/
theorem score_eq (x0 : Vec Ideal S1x1x256x64 .bf16) (x1 : Vec Ideal S1x1x16x64x512 .bf16) (x3 : Vec Ideal S1x256x128 .f32) (x4 : Vec Ideal S1x1x16x1x512 .f32)
    (x : QkvArr) (u : CumArr) (b : Fin 2) (h : Fin 8) (q : ℕ) (hq : q < 32) (r : Fin 256)
    (e0 : ∀ d : Fin 64, x0 (ix4 0 0 r d) = x (ix3 b ⟨q * 256 + r.val, by omega⟩ ⟨h.val * 64 + d.val, by omega⟩))
    (e1 : ∀ (k : Fin 16) (d : Fin 64) (j : Fin 512), x1 (ix5 0 0 k d j) = x (ix3 b (key k.val k.isLt j) ⟨512 + h.val * 64 + d.val, by omega⟩))
    (e3 : ∀ n : Fin 128, x3 (ix3 0 r n) = u (ix3 b ⟨q * 256 + r.val, by omega⟩ n))
    (e4 : ∀ (k : Fin 16) (j : Fin 512), x4 (ix5 0 0 k 0 j) = u (ix3 b (key k.val k.isLt j) ⟨h.val, by omega⟩)) :
    score x0 x1 x4 (cqAt x3 h) q r = tiles ⊥ (causal ⟨q * 256 + r.val, by omega⟩ (foxScore x u b h ⟨q * 256 + r.val, by omega⟩)) := by
  funext k j
  unfold score tiles
  by_cases hk : k < 16
  · rw [dif_pos hk, dif_pos hk]
    unfold causal
    refine if_congr Iff.rfl ?_ rfl
    unfold raw foxScore cqAt
    rw [e3, e4, sub_eq_add_neg, sub_eq_add_neg, add_assoc]
    refine congrArg₂ (fun a b : EReal => a + b) (Finset.sum_congr rfl fun d _ => ?_) rfl
    rw [e0, e1]
  · rw [dif_neg hk, dif_neg hk]

theorem value_eq (x2 : Vec Ideal S1x1x8192x64 .bf16) (x : QkvArr) (b : Fin 2) (h : Fin 8) (d : Fin 64)
    (e2 : ∀ k : Fin 8192, x2 (ix4 0 0 k d) = x (ix3 b k ⟨1024 + h.val * 64 + d.val, by omega⟩)) :
    value x2 d = tiles 0 (foxValue x b h d) := by
  funext k j
  unfold value tiles
  by_cases hk : k < 16
  · rw [dif_pos hk, dif_pos hk]
    exact e2 _
  · rw [dif_neg hk, dif_neg hk]

/-- What point `t` leaves in the output block: the formula at the block's queries. -/
theorem out_eq (hx : ∀ (b : Fin 2) (q : Fin 8192) (n : Fin 1536), n.val < 1024 → ∃ y : ℝ, X m c (ix3 b q n) = y)
    (hu : ∀ (b : Fin 2) (q : Fin 8192) (n : Fin 128), n.val < 8 → ∃ y : ℝ, U m c (ix3 b q n) = y) (t : Fin cfg0.N) (r : Fin 256) (d : Fin 64) :
    outsAt0 m c t (ix4 0 0 r d) = fox (X m c) (U m c) (bat t) (hd t) (qry t r) d := by
  obtain ⟨p1, p2, -⟩ := point_facts t
  obtain ⟨b1, b2, b3, b4, b5, b6⟩ := body_facts t
  have hq : t.val % 32 < 32 := Nat.mod_lt _ (by decide)
  unfold outsAt0
  rw [point_value (grid0.coords t) (t.val % 32) (hd t) _ _ _ _ _ c _ _ _ _ _ _ _ _ _ _ _ _ _ _ _ _ _ _ p1 hq p2 b1 b2 b3 b4 b5 b6 r d]
  rw [score_eq _ _ _ _ (X m c) (U m c) (bat t) (hd t) (t.val % 32) hq r (fun d => blk0 m c t r d) (fun k d j => blk1 m c t k d j) (fun n => blk3 m c t r n) (fun k j => blk4 m c t k j),
    value_eq _ (X m c) (bat t) (hd t) d (fun k => blk2 m c t k d)]
  exact causal_point _ _ (fun k => foxScore_real _ _ _ _ _ _ hx hu) _ hq r

/-- The formula as an array. -/
def G (x : QkvArr) (u : CumArr) : (⟨4, ![2, 8, 8192, 64]⟩ : Shape).Idx → EReal := fun i => fox x u (i 0) (i 1) (i 2) (i 3)

theorem emb5 (t : Fin cfg0.N) (r : Fin 256) (d : Fin 64) : ((cfg0.win 5).blk t).view.emb (ix4 0 0 r d) = (ix4 (bat t) (hd t) (qry t r) d : S2x8x8192x64.Idx) := by
  have e := (point_facts t).2.2.2.2.2.2.2
  have e0 := congrFun e 0
  have e1 := congrFun e 1
  have e2 := congrFun e 2
  have e3 := congrFun e 3
  refine funext fun a => Fin.ext ?_
  match a with
  | ⟨0, _⟩ => show win0_5.index t 0 * 1 + 1 * 0 = t.val / 256; rw [e0]; simp
  | ⟨1, _⟩ => show win0_5.index t 1 * 1 + 1 * 0 = t.val / 32 % 8; rw [e1]; simp
  | ⟨2, _⟩ => show win0_5.index t 2 * 256 + 1 * r.val = t.val % 32 * 256 + r.val; rw [e2]; simp
  | ⟨3, _⟩ => show win0_5.index t 3 * 64 + 1 * d.val = d.val; rw [e3]; simp

/-- The result's blocks cover its array. -/
theorem cover (i : S2x8x8192x64.Idx) : ∃ t : Fin cfg0.N, (cfg0.win 5).flush t = true ∧ i ∈ ((cfg0.win 5).blk t).view.set := by
  have h0 : (i 0 : ℕ) < 2 := (i 0).isLt
  have h1 : (i 1 : ℕ) < 8 := (i 1).isLt
  have h2 : (i 2 : ℕ) < 8192 := (i 2).isLt
  have h3 : (i 3 : ℕ) < 64 := (i 3).isLt
  have hN : cfg0.N = 512 := N_0
  have ht : (i 0 : ℕ) * 256 + (i 1 : ℕ) * 32 + (i 2 : ℕ) / 256 < cfg0.N := by omega
  refine ⟨⟨_, ht⟩, flush0_5 _, ?_⟩
  have e : i = ((cfg0.win 5).blk ⟨_, ht⟩).view.emb (ix4 0 0 (⟨(i 2 : ℕ) % 256, Nat.mod_lt _ (by decide)⟩ : Fin 256) (⟨(i 3 : ℕ), h3⟩ : Fin 64)) := by
    rw [emb5]
    refine funext fun a => Fin.ext ?_
    match a with
    | ⟨0, _⟩ => show (i 0 : ℕ) = ((i 0 : ℕ) * 256 + (i 1 : ℕ) * 32 + (i 2 : ℕ) / 256) / 256; omega
    | ⟨1, _⟩ => show (i 1 : ℕ) = ((i 0 : ℕ) * 256 + (i 1 : ℕ) * 32 + (i 2 : ℕ) / 256) / 32 % 8; omega
    | ⟨2, _⟩ => show (i 2 : ℕ) = ((i 0 : ℕ) * 256 + (i 1 : ℕ) * 32 + (i 2 : ℕ) / 256) % 32 * 256 + (i 2 : ℕ) % 256; omega
    | ⟨3, _⟩ => rfl
  exact Eq.mpr (congrArg (· ∈ _) e) (View.emb_mem_set _ _)

/-- The result array after the run is the formula of the two arguments. -/
theorem result_eq (hx : ∀ (b : Fin 2) (q : Fin 8192) (n : Fin 1536), n.val < 1024 → ∃ y : ℝ, X m c (ix3 b q n) = y)
    (hu : ∀ (b : Fin 2) (q : Fin 8192) (n : Fin 128), n.val < 8 → ∃ y : ℝ, U m c (ix3 b q n) = y) :
    (dats m 0 c).arrAt 5 cfg0.N = G (X m c) (U m c) := by
  refine (dats m 0 c).arrAt_eq_of_cover 5 (G (X m c) (U m c)) (fun t _ => ?_) cover
  rw [flushed5]
  have key : ∀ y : S1x1x256x64.Idx, outsAt0 m c t y = G (X m c) (U m c) (((cfg0.win 5).blk t).view.emb y) := by
    intro y
    have hy : y = ix4 0 0 (y 2) (y 3) := by
      refine funext fun a => Fin.ext ?_
      have h0 : (y 0 : ℕ) < 1 := (y 0).isLt
      have h1 : (y 1 : ℕ) < 1 := (y 1).isLt
      match a with
      | ⟨0, _⟩ => show (y 0 : ℕ) = 0; omega
      | ⟨1, _⟩ => show (y 1 : ℕ) = 0; omega
      | ⟨2, _⟩ => rfl
      | ⟨3, _⟩ => rfl
    have he : ((cfg0.win 5).blk t).view.emb y = (ix4 (bat t) (hd t) (qry t (y 2)) (y 3) : S2x8x8192x64.Idx) :=
      (congrArg ((cfg0.win 5).blk t).view.emb hy).trans (emb5 t (y 2) (y 3))
    rw [he]
    exact (congrArg (outsAt0 m c t) hy).trans (out_eq m c hx hu t (y 2) (y 3))
  exact funext key

end Cert.FoxIdeal.Hand

end
-- ==== Proof.FoxRef.lean ====
module

public import proofs.«01_k».proof.Proof.Gen.FoxRefIdeal.Run
public import proofs.«01_k».proof.Proof.AttnSpec

@[expose] public section

set_option maxRecDepth 16384

noncomputable section

namespace Cert.FoxRefIdeal.Hand

open Cert.FoxRefIdeal Cert.FoxRefIdeal.Gen Cert.FoxRefIdeal.Value Cert.AttnSpec Idealize.ShloMosaic Idealize.ShloMosaic.TcCoe Idealize.SL.Sem

section Terms

variable {F : FTy → Type} [FloatOps F]

/-- The masked scores of all queries and keys. -/
def scores (x : FVec F S2x8192x1536 .bf16) (u : FVec F S2x8192x128 .f32) : FVec F S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (subf (addf (Host.dotGeneral dot_S2x8192x8x64_S2x8192x8x64_S2x8x8192x8192_3_3_1_1_02_02 none (extf .f32 (shapeCast _ (extractStridedSlice S2x8192x1x8x64 ![0, 0, 0, 0, 0] (shapeCast _ x shapeCasts_S2x8192x1536_S2x8192x3x8x64) slices_S2x8192x3x8x64_S2x8192x1x8x64_0_0_0_0_0) shapeCasts_S2x8192x1x8x64_S2x8192x8x64) bitsLt_bf16_f32) (extf .f32 (shapeCast _ (extractStridedSlice S2x8192x1x8x64 ![0, 0, 1, 0, 0] (shapeCast _ x shapeCasts_S2x8192x1536_S2x8192x3x8x64) slices_S2x8192x3x8x64_S2x8192x1x8x64_0_0_1_0_0) shapeCasts_S2x8192x1x8x64_S2x8192x8x64) bitsLt_bf16_f32)) (broadcastInDim S2x8x8192x8192 ![0, 1, 2, 3] bcast_S2x8x8192x1_S2x8x8192x8192_0_1_2_3 (broadcastInDim S2x8x8192x1 ![0, 1, 2] bcast_S2x8x8192_S2x8x8192x1_0_1_2 (transpose S2x8x8192 [0, 2, 1] (extractStridedSlice S2x8192x8 ![0, 0, 0] u slices_S2x8192x128_S2x8192x8_0_0_0) transposes_S2x8192x8_S2x8x8192_0_2_1)))) (broadcastInDim S2x8x8192x8192 ![0, 1, 2, 3] bcast_S2x8x1x8192_S2x8x8192x8192_0_1_2_3 (broadcastInDim S2x8x1x8192 ![0, 1, 3] bcast_S2x8x8192_S2x8x1x8192_0_1_3 (transpose S2x8x8192 [0, 2, 1] (extractStridedSlice S2x8192x8 ![0, 0, 0] u slices_S2x8192x128_S2x8192x8_0_0_0) transposes_S2x8192x8_S2x8x8192_0_2_1)))) (broadcastInDim S2x8x8192x8192 ![] bcast_S_S2x8x8192x8192 (id (constant S_ .f32 0xFF800000#32)))

/-- The values. -/
def vals (x : FVec F S2x8192x1536 .bf16) : FVec F S2x8192x8x64 .f32 :=
  extf .f32 (shapeCast _ (extractStridedSlice S2x8192x1x8x64 ![0, 0, 2, 0, 0] (shapeCast _ x shapeCasts_S2x8192x1536_S2x8192x3x8x64) slices_S2x8192x3x8x64_S2x8192x1x8x64_0_0_2_0_0) shapeCasts_S2x8192x1x8x64_S2x8192x8x64) bitsLt_bf16_f32

/-- The greatest score of every query. -/
def top (s : FVec F S2x8x8192x8192 .f32) : FVec F S2x8x8192 .f32 :=
  Host.reduce FloatOps.maximumf s (constant S_ .f32 0xFF800000#32) reducesTo_S2x8x8192x8192_S2x8x8192_d3 h_S_

/-- The exponentials of the scores less their greatest. -/
def weights (s : FVec F S2x8x8192x8192 .f32) (w : FVec F S2x8x8192 .f32) : FVec F S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) w))))

/-- The sum of every query's weights. -/
def total (e : FVec F S2x8x8192x8192 .f32) : FVec F S2x8x8192 .f32 :=
  Host.reduceAdd e (constant S_ .f32 0x00000000#32) reducesTo_S2x8x8192x8192_S2x8x8192_d3 h_S_

/-- The weights divided by their sum. -/
def shares (e : FVec F S2x8x8192x8192 .f32) (z : FVec F S2x8x8192 .f32) : FVec F S2x8x8192x8192 .f32 :=
  Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2 z))

/-- The shares times the values. -/
def mixed (p : FVec F S2x8x8192x8192 .f32) (v : FVec F S2x8192x8x64 .f32) : FVec F S2x8x8192x64 .bf16 :=
  truncf .bf16 (Host.dotGeneral dot_S2x8x8192x8192_S2x8192x8x64_S2x8x8192x64_3_1_2_3_01_02 none p v) bitsLt_bf16_f32

/-- The softmax of the scores times the values. -/
def soft (s : FVec F S2x8x8192x8192 .f32) (v : FVec F S2x8192x8x64 .f32) : FVec F S2x8x8192x64 .bf16 :=
  mixed (shares (weights s (top s)) (total (weights s (top s)))) v

theorem result_split (m : (ℓ : Loc nD τ sig) → Buf (Elt F) ℓ) (c : Dev nD) :
    res_main_v38 m c = soft (scores (m ((c.tc : Thread nD τ).loc main_arg0)) (m ((c.tc : Thread nD τ).loc main_arg1))) (vals (m ((c.tc : Thread nD τ).loc main_arg0))) := rfl

end Terms

theorem vals_at (x : QkvArr) (b : Fin 2) (h : Fin 8) (k : Fin 8192) (d : Fin 64) : vals (F := Ideal) x (ix4 b k h d) = foxValue x b h d k := by
  unfold vals foxValue
  pointwise

theorem scores_at (x : QkvArr) (u : CumArr) (b : Fin 2) (h : Fin 8) (q k : Fin 8192) : scores (F := Ideal) x u (ix4 b h q k) = causal q (foxScore x u b h q) k := by
  unfold scores causal foxScore
  pointwise
  rw [sle_select _ _ (by omega) (by omega)]
  split
  · rfl
  · exact ninf

theorem top_at (s : FVec Ideal S2x8x8192x8192 .f32) (b : Fin 2) (h : Fin 8) (q : Fin 8192) :
    top (F := Ideal) s (ix3 b h q) = Finset.univ.fold max (⊥ : EReal) fun k => s (ix4 b h q k) := by
  unfold top
  pointwise
  rw [ninf]

theorem weights_at (s : FVec Ideal S2x8x8192x8192 .f32) (w : FVec Ideal S2x8x8192 .f32) (b : Fin 2) (h : Fin 8) (q k : Fin 8192) :
    weights (F := Ideal) s w (ix4 b h q k) = Ideal.exp (s (ix4 b h q k) - w (ix3 b h q)) := by
  unfold weights
  pointwise
  rw [ninf, bot_sup_eq]

theorem total_at (e : FVec Ideal S2x8x8192x8192 .f32) (b : Fin 2) (h : Fin 8) (q : Fin 8192) :
    total (F := Ideal) e (ix3 b h q) = (∑ k, e (ix4 b h q k) : EReal) := by
  unfold total
  pointwise

theorem shares_at (e : FVec Ideal S2x8x8192x8192 .f32) (z : FVec Ideal S2x8x8192 .f32) (b : Fin 2) (h : Fin 8) (q k : Fin 8192) :
    shares (F := Ideal) e z (ix4 b h q k) = Ideal.div (e (ix4 b h q k)) (z (ix3 b h q)) := by
  unfold shares
  pointwise

theorem mixed_at (p : FVec Ideal S2x8x8192x8192 .f32) (v : FVec Ideal S2x8192x8x64 .f32) (b : Fin 2) (h : Fin 8) (q : Fin 8192) (d : Fin 64) :
    mixed (F := Ideal) p v (ix4 b h q d) = (∑ k, @HMul.hMul EReal EReal EReal _ (p (ix4 b h q k)) (v (ix4 b k h d)) : EReal) := by
  unfold mixed
  pointwise

theorem soft_at (s : FVec Ideal S2x8x8192x8192 .f32) (v : FVec Ideal S2x8192x8x64 .f32) (b : Fin 2) (h : Fin 8) (q : Fin 8192) (d : Fin 64) :
    soft (F := Ideal) s v (ix4 b h q d) = attn (fun k => s (ix4 b h q k)) (fun k => v (ix4 b k h d)) := by
  unfold soft attn
  rw [mixed_at]
  have e : ∀ k, weights (F := Ideal) s (top s) (ix4 b h q k) = Ideal.exp (s (ix4 b h q k) - Finset.univ.fold max (⊥ : EReal) fun k => s (ix4 b h q k)) :=
    fun k => (weights_at s (top s) b h q k).trans (by rw [top_at])
  have z : total (F := Ideal) (weights s (top s)) (ix3 b h q) = (∑ k, Ideal.exp (s (ix4 b h q k) - Finset.univ.fold max (⊥ : EReal) fun k => s (ix4 b h q k)) : EReal) :=
    (total_at _ b h q).trans (Finset.sum_congr rfl fun k _ => e k)
  exact Finset.sum_congr rfl fun k _ => congrArg (fun y : EReal => y * (v (ix4 b k h d) : EReal)) ((shares_at _ _ b h q k).trans (congrArg₂ Ideal.div (e k) z))

/-- The reference's result read at an index is the plain formula of its arguments. -/
theorem result_eq (m : (ℓ : Loc nD τ sig) → Buf (Elt Ideal) ℓ) (c : Dev nD) (b : Fin 2) (h : Fin 8) (q : Fin 8192) (d : Fin 64) (x : QkvArr) (u : CumArr)
    (h0 : m ((c.tc : Thread nD τ).loc main_arg0) = x) (h1 : m ((c.tc : Thread nD τ).loc main_arg1) = u) :
    (res_out0 m c : (⟨4, ![2, 8, 8192, 64]⟩ : Shape).Idx → EReal) (ix4 b h q d) = fox x u b h q d := by
  show res_main_v38 m c (ix4 b h q d) = _
  rw [result_split, h0, h1, soft_at, fox]
  exact congrArg₂ attn (funext fun k => scores_at x u b h q k) (funext fun k => vals_at x b h k d)

end Cert.FoxRefIdeal.Hand

end
-- ==== Proof.FoxClaims.lean ====
module

public import proofs.«01_k».proof.Defs
public import proofs.«01_k».proof.Proof.Gen.Fox.Frame
public import proofs.«01_k».proof.Proof.Gen.FoxIdeal.Frame
public import proofs.«01_k».proof.Proof.FoxValue
public import proofs.«01_k».proof.Proof.FoxRef
public import Idealize.ShloMosaic.Lib.Quiescent
public import Idealize.ShloMosaic.Lib.ReduceAll

/-! The claims about the forgetting attention. -/

@[expose] public section

set_option maxRecDepth 16384

noncomputable section

namespace Cert.FoxClaims

open Idealize.ShloMosaic Idealize.ShloMosaic.TcCoe Idealize.SL.Sem Cert.AttnSpec

/-- The kernel runs, leaves its arguments and ends with every counter at zero. -/
theorem frame_p : Cert.quiescent_Fox := fun m ρ _ => Cert.Fox.Gen.frame m ρ

/-- So does its idealization. -/
theorem frame_pi : Cert.quiescent_FoxIdeal := fun m ρ _ => Cert.FoxIdeal.Gen.frame m ρ

/-- So does the reference, which declares no counter. -/
theorem frame_ri : Cert.quiescent_FoxRefIdeal := fun m ρ _ =>
  (θ_run Cert.FoxRefIdeal.defs _ _).mono (fun r h => ⟨fun c => (h c).2,
      Idealize.ShloMosaic.sem_eq_zero_of_no_sems (by decide) r.2⟩)
    (Cert.FoxRefIdeal.Value.run (F := Ideal) m ρ)

/-- The mask's constant stands for minus infinity, as the table of named constants says. -/
theorem preserves : Cert.preserves_Fox_FoxIdeal :=
  IdealRules.named_const.statement Cert.FoxIdeal.κ "mask" .f32 0xF149F2CA#32 (⊥ : EReal) rfl

section Finite

open Cert.Pre_finite_qk_cum Cert.Pre_finite_qk_cum.Facts

variable [Cert.Pre_finite_qk_cum.Facts]

theorem qk_cmp (x : FVec Ideal S2x8192x1536 .bf16) (b : Fin 2) (q : Fin 8192) (n : Fin 1024) :
    cmpf .olt (Host.absf (extf .f32 (extractStridedSlice S2x8192x1024 ![0, 0, 0] x slices_S2x8192x1536_S2x8192x1024_0_0_0) bitsLt_bf16_f32)) (broadcastInDim S2x8192x1024 ![] bcast_S_S2x8192x1024 (constant (F := Ideal) S_ .f32 0x7F800000#32)) (ix3 b q n)
      = Ideal.cmp .olt (max (x (ix3 b q ⟨n.val, by omega⟩)) (-(x (ix3 b q ⟨n.val, by omega⟩)))) (Ideal.ofBits .f32 0x7F800000#32) := by
  pointwise
  rfl

theorem cum_cmp (u : FVec Ideal S2x8192x128 .f32) (b : Fin 2) (q : Fin 8192) (n : Fin 8) :
    cmpf .olt (Host.absf (extractStridedSlice S2x8192x8 ![0, 0, 0] u slices_S2x8192x128_S2x8192x8_0_0_0)) (broadcastInDim S2x8192x8 ![] bcast_S_S2x8192x8 (constant (F := Ideal) S_ .f32 0x7F800000#32)) (ix3 b q n)
      = Ideal.cmp .olt (max (u (ix3 b q ⟨n.val, by omega⟩)) (-(u (ix3 b q ⟨n.val, by omega⟩)))) (Ideal.ofBits .f32 0x7F800000#32) := by
  pointwise
  rfl

/-- The precondition's function is one: the queries, the keys and the cumulative sums are real. -/
theorem finite (x : QkvArr) (u : CumArr) (e : Cert.Pre_finite_qk_cum.fn (F := Ideal) x u = fun _ => 1#1) :
    (∀ (b : Fin 2) (q : Fin 8192) (n : Fin 1536), n.val < 1024 → ∃ y : ℝ, x (ix3 b q n) = y)
      ∧ (∀ (b : Fin 2) (q : Fin 8192) (n : Fin 128), n.val < 8 → ∃ y : ℝ, u (ix3 b q n) = y) := by
  obtain ⟨e1, e2⟩ := IntOp.andi_eq_one.1 (congrFun e ix0)
  refine ⟨fun b q n hn => real_of_cmp _ ?_, fun b q n hn => real_of_cmp _ ?_⟩
  · exact (qk_cmp x b q ⟨n.val, hn⟩).symm.trans (Host.reduce_andi_all _ _ _ _ _ e1 (ix3 b q ⟨n.val, hn⟩))
  · exact (cum_cmp u b q ⟨n.val, hn⟩).symm.trans (Host.reduce_andi_all _ _ _ _ _ e2 (ix3 b q ⟨n.val, hn⟩))

/-- The idealization runs so under the precondition too. -/
theorem frame_pi_pre : Cert.quiescent_FoxIdeal_pre_finite_qk_cum := fun m ρ _ => Cert.FoxIdeal.Gen.frame m ρ

/-- So does the reference. -/
theorem frame_ri_pre : Cert.quiescent_FoxRefIdeal_pre_finite_qk_cum := fun m ρ _ => frame_ri m ρ trivial

/-- From equal arguments with real queries, keys and cumulative sums the kernel and the reference end with the same array. -/
theorem algebraic : Cert.algebraic_FoxIdeal_FoxRefIdeal_pre_finite_qk_cum := fun m ρ m' ρ' hpre hag =>
  ⟨fun c => Cert.FoxIdeal.Hand.G (Cert.FoxIdeal.Hand.X m c) (Cert.FoxIdeal.Hand.U m c),
    (θ_run _ _ _).mono (fun _ h c => ⟨(h c).1.trans (Cert.FoxIdeal.Hand.result_eq m c (finite _ _ (hpre c)).1 (finite _ _ (hpre c)).2), (h c).2⟩)
      (Cert.FoxIdeal.Value.run_blocks m ρ),
    (θ_run _ _ _).mono (fun _ h c => ⟨(h c).1.trans (by
        obtain ⟨h0, h1⟩ := hag c
        funext j
        idx_vars j
        exact Cert.FoxRefIdeal.Hand.result_eq m' c _ _ _ _ _ _ h0 h1), (h c).2⟩)
      (Cert.FoxRefIdeal.Value.run m' ρ')⟩

end Finite

end Cert.FoxClaims

end
-- ==== Proof.MlaBody.lean ====
module

public import proofs.«01_k».proof.Proof.Gen.MlaIdeal.Value
public import Idealize.ShloMosaic.Lib.Pointwise
public import Idealize.ShloMosaic.Lib.LoopRemainder

@[expose] public section

set_option maxRecDepth 16384

noncomputable section

namespace Cert.MlaIdeal.Hand

open Cert.MlaIdeal Cert.MlaIdeal.Gen Cert.MlaIdeal.Value Idealize.ShloMosaic Idealize.ShloMosaic.TcCoe Idealize.SL.Sem

/-! ## What one grid point of the latent attention leaves in its output block -/

section Body

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A buffer whose last store filled it reads that store's payload. -/
theorem read_full {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩), View.canon_cons_unit_zero h]

/-- So does a whole load of it. -/
theorem readCov_full {sig : RefSig} {κ : Kind} {sp : Space} {S : Shape} {e : EltTy} {Val : EltTy → Type} [∀ e, Nonempty (Val e)]
    (v : View sig κ sp S e) {off off' : Fin S.rank → Nat} (h : off = fun _ => 0) (h' : off' = fun _ => 0)
    (inb : ∀ a, off a + S.size a ≤ S.size a) (inb' : ∀ a, off' a + S.size a ≤ S.size a) (w : S.Idx → Val e) (L : List (View.Piece Val S e)) :
    v.readCov ((⟨Rect.unit off S.size inb, w⟩ : View.Piece Val S e) :: L) (Rect.unit off' S.size inb').toLoadRect = w := by
  rw [View.readCov_eq_canon_ld _ _ _ (fun y => ⟨_, List.mem_cons_self, View.mem_set_unit_zero h inb y⟩), View.canon_cons_unit_zero h, View.ld_unit_zero h']

variable {F : FTy → Type} [FloatOps F] [Named F]

/-- The greatest scores, the denominators and the numerators of a block of query rows. -/
abbrev St (F : FTy → Type) := Vec F S256x1 .f32 × Vec F S256x1 .f32 × Vec F S256x64 .f32

/-- The greatest scores after one more tile of scores. -/
def newMax (s : FVec F S256x512 .f32) (m : Vec F S256x1 .f32) : FVec F S256x1 .f32 :=
  maximumf m (shapeCast S256x1 (multiReduction .maximumf [1] S256 s 0xFF800000#32 reduces_S256x512_S256 (.inl rfl) rfl) shapeCasts_S256_S256x1)

/-- The tile's weights against the greatest scores so far. -/
def wts (s : FVec F S256x512 .f32) (m : Vec F S256x1 .f32) : FVec F S256x512 .f32 :=
  exp (subf s (broadcastTo S256x512 (newMax s m) broadcasts_S256x1_S256x512))

/-- The factor that brings the sums so far to the new greatest scores. -/
def rescale (s : FVec F S256x512 .f32) (m : Vec F S256x1 .f32) : FVec F S256x1 .f32 :=
  exp (subf m (newMax s m))

/-- The state after one more tile of scores and values. -/
def upd (s : FVec F S256x512 .f32) (v : Vec F S1x1x512x64 .bf16) (st : St F) : St F :=
  (k0_pay3 (newMax s st.1), k0_pay1 (wts s st.1) (mulf (rescale s st.1) st.2.1), k0_pay2 (k0_pay24 v) (rescale s st.1) (wts s st.1) st.2.2)

/-- The state before the first tile. -/
def st0 : St F := (k0_pay18, k0_pay19, k0_pay20)

variable (𝒱 : Variants) (c : Dev nD) (bd : Option 𝒱.V) (i : grid0.Coords) (arg3 : Memref sig .tc .vmem S1x1x256x128 .bf16) (harg3 : arg3.IsWhole) (arg4 : Memref sig .tc .vmem S1x1x16x128x512 .bf16) (harg4 : arg4.IsWhole) (arg5 : Memref sig .tc .vmem S1x1x8192x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (arg2 : BitVec 32) (v1 : FVec F S256x128 .bf16) (v31 : BitVec 32) (X_arg4 : BufTy.Contents (Elt F) arg4.view.ty) (X_arg5 : BufTy.Contents (Elt F) arg5.view.ty)

/-- One trip of the loop updates the state by its tile. -/
theorem trip_read (k : Fin (k0_t1_loop i).trips) (f9 g9 : BufTy.Contents (Elt F) arg7.view.ty) (f10 g10 : BufTy.Contents (Elt F) arg8.view.ty) (f11 g11 : BufTy.Contents (Elt F) arg9.view.ty) (L9 L10 : List (View.Piece (Elt F) S256x1 .f32)) (L11 : List (View.Piece (Elt F) S256x64 .f32)) :
    let T := tripL_k0_t1 (F := F) 𝒱 c bd i arg3 harg3 arg4 harg4 arg5 harg5 arg6 harg6 arg7 harg7 arg8 harg8 arg9 harg9 arg2 v1 v31 X_arg4 X_arg5 k f9 f10 f11
    ((arg7.view.read (Elt F) (arg7.view.writes (Elt F) g9 (T.1 ++ L9)), arg8.view.read (Elt F) (arg8.view.writes (Elt F) g10 (T.2.1 ++ L10)), arg9.view.read (Elt F) (arg9.view.writes (Elt F) g11 (T.2.2 ++ L11))) : St F)
      = upd (k0_pay5 v1 (View.ld (arg4.view.read (Elt F) X_arg4) (Rect.unit (s := S1x1x16x128x512) (k0_off1 i k) S1x1x1x128x512.size (k0_off1_inb i k))))
          (View.ld (arg5.view.read (Elt F) X_arg5) (Rect.unit (s := S1x1x8192x64) (k0_off2 i k) S1x1x512x64.size (k0_off2_inb i k)))
          (arg7.view.read (Elt F) f9, arg8.view.read (Elt F) f10, arg9.view.read (Elt F) f11) := by
  intro T
  have hT : T = tripL_k0_t1 (F := F) 𝒱 c bd i arg3 harg3 arg4 harg4 arg5 harg5 arg6 harg6 arg7 harg7 arg8 harg8 arg9 harg9 arg2 v1 v31 X_arg4 X_arg5 k f9 f10 f11 := rfl
  unfold tripL_k0_t1 trip_k0_t1 at hT
  dsimp only at hT
  rw [hT]
  simp only [List.cons_append, List.nil_append]
  rw [read_full arg7.view _ hz2, read_full arg8.view _ hz2, read_full arg9.view _ hz2]
  sl_unfold_words
  simp only [View.readAt_eq_ld, View.ld_unit_zero (S := S256x1) hz2, View.ld_unit_zero (S := S256x64) hz2]
  rfl

/-- Key tile `k` of the keys in their tiles. -/
def ktile (x : Vec F S1x1x16x128x512 .bf16) (k : ℕ) : Vec F S1x1x1x128x512 .bf16 :=
  View.ld x (Rect.unit (s := S1x1x16x128x512) ![0, 0, k % 16, 0, 0] S1x1x1x128x512.size (by intro a; fin_cases a <;> simp [S1x1x16x128x512, S1x1x1x128x512] <;> omega))

/-- Tile `k` of the values. -/
def vtile (x : Vec F S1x1x8192x64 .bf16) (k : ℕ) : Vec F S1x1x512x64 .bf16 :=
  View.ld x (Rect.unit (s := S1x1x8192x64) ![0, 0, k % 16 * 512, 0] S1x1x512x64.size (by intro a; fin_cases a <;> simp [S1x1x8192x64, S1x1x512x64] <;> omega))

/-- A load at an equal corner is the same load. -/
theorem ld_congr {S : Shape} {e : EltTy} {Val : EltTy → Type} (x : S.Idx → Val e) {off off' : Fin S.rank → Nat} {size : Fin S.rank → Nat}
    (inb : ∀ a, off a + size a ≤ S.size a) (inb' : ∀ a, off' a + size a ≤ S.size a) (h : off = off') :
    View.ld x (Rect.unit off size inb) = View.ld x (Rect.unit off' size inb') := by
  subst h; rfl

theorem ktile_eq (x : Vec F S1x1x16x128x512 .bf16) {off : Fin 5 → Nat} (k : ℕ) (hk : k < 16) (inb) (h : off = ![0, 0, k, 0, 0]) :
    View.ld x (Rect.unit (s := S1x1x16x128x512) off S1x1x1x128x512.size inb) = ktile x k := by
  exact ld_congr x _ _ (h.trans (by rw [Nat.mod_eq_of_lt hk]))

theorem vtile_eq (x : Vec F S1x1x8192x64 .bf16) {off : Fin 4 → Nat} (k : ℕ) (hk : k < 16) (inb) (h : off = ![0, 0, k * 512, 0]) :
    View.ld x (Rect.unit (s := S1x1x8192x64) off S1x1x512x64.size inb) = vtile x k := by
  exact ld_congr x _ _ (h.trans (by rw [Nat.mod_eq_of_lt hk]))

/-- The state before tile `k`, all tiles before it unmasked. -/
def chain (v1 : FVec F S256x128 .bf16) (x1 : Vec F S1x1x16x128x512 .bf16) (x2 : Vec F S1x1x8192x64 .bf16) : ℕ → St F
  | 0 => st0
  | k + 1 => upd (k0_pay5 v1 (ktile x1 k)) (vtile x2 k) (chain v1 x1 x2 k)

theorem iv_small : ∀ k : Fin 16, (Scf.iv 0#32 1#32 k.val).toNat = k.val ∧ (Scf.iv 0#32 1#32 k.val * 512#32).toNat = k.val * 512 := by decide +kernel

theorem off1_eq (k : Fin (k0_t1_loop i).trips) (hk : k.val < 16) : k0_off1 i k = ![0, 0, k.val, 0, 0] := by
  have h := (iv_small ⟨k.val, hk⟩).1
  show ![0, 0, (Scf.iv 0#32 1#32 k.val).toNat, 0, 0] = _
  rw [h]

theorem off2_eq (k : Fin (k0_t1_loop i).trips) (hk : k.val < 16) : k0_off2 i k = ![0, 0, k.val * 512, 0] := by
  have h := (iv_small ⟨k.val, hk⟩).2
  show ![0, 0, (Scf.iv 0#32 1#32 k.val * 512#32).toNat, 0] = _
  rw [h]

/-- What the buffers read after `k` trips of the loop over the unmasked tiles. -/
theorem pb_read (ht : (k0_t1_loop i).trips ≤ 15) (G9 : BufTy.Contents (Elt F) arg7.view.ty) (G10 : BufTy.Contents (Elt F) arg8.view.ty) (G11 : BufTy.Contents (Elt F) arg9.view.ty)
    (hG : ((arg7.view.read (Elt F) G9, arg8.view.read (Elt F) G10, arg9.view.read (Elt F) G11) : St F) = st0) (k : ℕ) (hk : k ≤ (k0_t1_loop i).trips) :
    let P := pb_k0_t1 (F := F) 𝒱 c bd i arg3 harg3 arg4 harg4 arg5 harg5 arg6 harg6 arg7 harg7 arg8 harg8 arg9 harg9 arg2 v1 v31 X_arg4 X_arg5 G9 G10 G11 k
    ((arg7.view.read (Elt F) (arg7.view.writes (Elt F) G9 P.1), arg8.view.read (Elt F) (arg8.view.writes (Elt F) G10 P.2.1), arg9.view.read (Elt F) (arg9.view.writes (Elt F) G11 P.2.2)) : St F)
      = chain v1 (arg4.view.read (Elt F) X_arg4) (arg5.view.read (Elt F) X_arg5) k := by
  induction k with
  | zero => exact hG
  | succ k ih =>
    have h := ih (by omega)
    have hs := pb_k0_t1_succ (F := F) 𝒱 c bd i arg3 harg3 arg4 harg4 arg5 harg5 arg6 harg6 arg7 harg7 arg8 harg8 arg9 harg9 arg2 v1 v31 X_arg4 X_arg5 G9 G10 G11 ⟨k, by omega⟩
    intro P
    have hP : P = _ := hs
    rw [hP]
    refine (trip_read (F := F) 𝒱 c bd i arg3 harg3 arg4 harg4 arg5 harg5 arg6 harg6 arg7 harg7 arg8 harg8 arg9 harg9 arg2 v1 v31 X_arg4 X_arg5 ⟨k, by omega⟩ _ G9 _ G10 _ G11 _ _ _).trans ?_
    dsimp only at h
    rw [h]
    rw [ktile_eq _ k (by omega) _ (off1_eq i ⟨k, by omega⟩ (by show k < 16; omega)),
      vtile_eq _ k (by omega) _ (off2_eq i ⟨k, by omega⟩ (by show k < 16; omega))]
    rfl

end Body

section Run

variable {F : FTy → Type} [FloatOps F] [Named F]

/-- A whole load after some stores reads what they leave. -/
theorem readCov_whole {sig : RefSig} {κ : Kind} {sp : Space} {S : Shape} {e : EltTy} {Val : EltTy → Type} [∀ e, Nonempty (Val e)]
    (v : View sig κ sp S e) {off : Fin S.rank → Nat} (h : off = fun _ => 0) (inb : ∀ a, off a + S.size a ≤ S.size a) (L L' : List (View.Piece Val S e)) :
    v.readCov (L ++ L') (Rect.unit off S.size inb).toLoadRect = v.read Val (v.writes Val (v.writes Val v.junk L') L) := by
  unfold View.readCov
  rw [View.readAt_eq_ld, View.ld_unit_zero h, View.writes_append]

variable (c : Dev nD) (i : grid0.Coords) (arg3 : Memref sig .tc .vmem S1x1x256x128 .bf16) (harg3 : arg3.IsWhole) (arg4 : Memref sig .tc .vmem S1x1x16x128x512 .bf16) (harg4 : arg4.IsWhole) (arg5 : Memref sig .tc .vmem S1x1x8192x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole)
variable (x0 : Vec F S1x1x256x128 .bf16) (x1 : Vec F S1x1x16x128x512 .bf16) (x2 : Vec F S1x1x8192x64 .bf16)

/-- The state after the loops over the unmasked tiles. -/
theorem loops_read (n : ℕ) (hn : n ≤ 15) (h1 : (k0_t1_loop i).trips = n) (h2 : (k0_t2_loop i).trips = 0) :
    ((kernelRun0_A.sl.v57 c i arg3 harg3 arg4 harg4 arg5 harg5 arg6 harg6 arg7 harg7 arg8 harg8 arg9 harg9 x0 x1 x2, kernelRun0_A.sl.v66 c i arg3 harg3 arg4 harg4 arg5 harg5 arg6 harg6 arg7 harg7 arg8 harg8 arg9 harg9 x0 x1 x2, kernelRun0_A.sl.v74 c i arg3 harg3 arg4 harg4 arg5 harg5 arg6 harg6 arg7 harg7 arg8 harg8 arg9 harg9 x0 x1 x2) : St F)
      = chain (k0_pay17 x0) x1 x2 n := by
  unfold kernelRun0_A.sl.v57 kernelRun0_A.sl.v66 kernelRun0_A.sl.v74
  rw [show Scf.trips (k0_t2_loop i).lb (k0_t2_loop i).ub (k0_t2_loop i).st = 0 from h2]
  rw [pb_k0_t2.eq_1]
  dsimp only
  simp only [List.nil_append]
  rw [readCov_whole _ hz2, readCov_whole _ hz2, readCov_whole _ hz2]
  refine (pb_read (F := F) Variants.none c none i arg3 harg3 arg4 harg4 arg5 harg5 arg6 harg6 arg7 harg7 arg8 harg8 arg9 harg9 _ _ _ _ _ (by rw [h1]; exact hn) _ _ _ ?_ _ le_rfl).trans ?_
  · unfold kernelRun0_A.sl.HS0_1 kernelRun0_A.sl.HS1_1 kernelRun0_A.sl.HS2_1
    rw [read_full arg7.view _ hz2, read_full arg8.view _ hz2, read_full arg9.view _ hz2]
    rfl
  · rw [h1, harg4.read_unread, harg5.read_unread]
    unfold kernelRun0_A.sl.r
    simp only [View.readAt_eq_ld, harg3.read_unread, View.ld_unit_zero (S := S1x1x256x128) hz4]

/-- The output block after the run: the quotient of the last state. -/
theorem run_value (n : ℕ) (hn : n ≤ 15) (h1 : (k0_t1_loop i).trips = n) (h2 : (k0_t2_loop i).trips = 0)
    (h5 : k0_off5 i = ![0, 0, n, 0, 0]) (h6 : k0_off6 i = ![0, 0, n * 512, 0]) :
    let st : St F := upd (k0_pay23 (BitVec.ofNat 32 (i 2).val) (k0_pay17 x0) (kernelRun0_A.sl.v31 i) (ktile x1 n))
      (vtile x2 n) (chain (k0_pay17 x0) x1 x2 n)
    out0_A_3 c i arg3 harg3 arg4 harg4 arg5 harg5 arg6 harg6 arg7 harg7 arg8 harg8 arg9 harg9 x0 x1 x2 = k0_pay4 st.2.2 st.2.1 := by
  intro st
  have hl := loops_read c i arg3 harg3 arg4 harg4 arg5 harg5 arg6 harg6 arg7 harg7 arg8 harg8 arg9 harg9 x0 x1 x2 n hn h1 h2
  unfold out0_A_3 kernelRun0_A
  dsimp only
  rw [read_full VO0_3 _ hz4]
  unfold kernelRun0_A.sl.v86 kernelRun0_A.sl.v87
  unfold kernelRun0_A.sl.HS1_1_1 kernelRun0_A.sl.HS2_1_1
  rw [readCov_full _ hz2 hz2, readCov_full _ hz2 hz2]
  unfold kernelRun0_A.sl.r_1 kernelRun0_A.sl.r_3 kernelRun0_A.sl.r_4 kernelRun0_A.sl.r_5 kernelRun0_A.sl.r
  simp only [View.readAt_eq_ld, harg3.read_unread, harg4.read_unread, harg5.read_unread, View.ld_unit_zero (S := S1x1x256x128) hz4]
  rw [ktile_eq _ n (by omega) _ h5, vtile_eq _ n (by omega) _ h6]
  rw [show kernelRun0_A.sl.v57 c i arg3 harg3 arg4 harg4 arg5 harg5 arg6 harg6 arg7 harg7 arg8 harg8 arg9 harg9 x0 x1 x2 = _ from congrArg (fun t : St F => t.1) hl, show kernelRun0_A.sl.v66 c i arg3 harg3 arg4 harg4 arg5 harg5 arg6 harg6 arg7 harg7 arg8 harg8 arg9 harg9 x0 x1 x2 = _ from congrArg (fun t : St F => t.2.1) hl, show kernelRun0_A.sl.v74 c i arg3 harg3 arg4 harg4 arg5 harg5 arg6 harg6 arg7 harg7 arg8 harg8 arg9 harg9 x0 x1 x2 = _ from congrArg (fun t : St F => t.2.2) hl]
  rfl

end Run

end Cert.MlaIdeal.Hand

end
-- ==== Proof.MlaRow.lean ====
module

public import proofs.«01_k».proof.Proof.MlaBody
public import proofs.«01_k».proof.Proof.AttnSpec

@[expose] public section

set_option maxRecDepth 16384

noncomputable section

namespace Cert.MlaIdeal.Hand

open Cert.MlaIdeal Cert.MlaIdeal.Gen Cert.MlaIdeal.Value Cert.AttnSpec Idealize.ShloMosaic Idealize.ShloMosaic.TcCoe Idealize.SL.Sem

/-! ## The state of a grid point, one query row at a time -/

theorem mask_bot : Named.named (F := Ideal) κ "mask" (φ := .f32) 0xF149F2CA#32 = (⊥ : EReal) :=
  IdealRules.named_const.ideal_named_scalar _ _ _ _ rfl

/-- Row `r` of the state is the running maximum, denominator and numerators of the scores `S r`. -/
def Rep (S : Fin 256 → ℕ → Fin 512 → EReal) (W : Fin 64 → ℕ → Fin 512 → EReal) (k : ℕ) (st : St Ideal) : Prop :=
  ∀ r, st.1 (ix2 r 0) = Flash.mx (S r) k ∧ st.2.1 (ix2 r 0) = Flash.den (S r) k ∧ ∀ d, st.2.2 (ix2 r d) = Flash.num (S r) (W d) k

theorem rep_zero (S : Fin 256 → ℕ → Fin 512 → EReal) (W : Fin 64 → ℕ → Fin 512 → EReal) : Rep S W 0 st0 := by
  intro r
  refine ⟨?_, ?_, fun d => ?_⟩
  · show k0_pay18 (ix2 r 0) = _
    pointwise [k0_pay18]
    rw [mask_bot]; rfl
  · show k0_pay19 (ix2 r 0) = _
    pointwise [k0_pay19]
    rfl
  · show k0_pay20 (ix2 r d) = _
    pointwise [k0_pay20]
    rfl

theorem newMax_at (s : FVec Ideal S256x512 .f32) (m : Vec Ideal S256x1 .f32) (r : Fin 256) :
    newMax s m (ix2 r 0) = max (m (ix2 r 0) : EReal) (Finset.univ.fold max ⊥ fun j : Fin 512 => (s (ix2 r j) : EReal)) := by
  pointwise [newMax]
  simp only [ninf]

theorem wts_at (s : FVec Ideal S256x512 .f32) (m : Vec Ideal S256x1 .f32) (r : Fin 256) (j : Fin 512) :
    wts s m (ix2 r j) = Ideal.exp ((s (ix2 r j) : EReal) - (newMax s m (ix2 r 0) : EReal)) := by
  rw [newMax_at]
  pointwise [wts, newMax]
  simp only [ninf]

theorem rescale_at (s : FVec Ideal S256x512 .f32) (m : Vec Ideal S256x1 .f32) (r : Fin 256) :
    rescale s m (ix2 r 0) = Ideal.exp ((m (ix2 r 0) : EReal) - (newMax s m (ix2 r 0) : EReal)) := by
  rw [newMax_at]
  pointwise [rescale, newMax]
  simp only [ninf]

theorem pay3_at (m : FVec Ideal S256x1 .f32) (r : Fin 256) : k0_pay3 m (ix2 r 0) = m (ix2 r 0) := by
  pointwise [k0_pay3]

theorem pay1_at (p : FVec Ideal S256x512 .f32) (a l : FVec Ideal S256x1 .f32) (r : Fin 256) :
    k0_pay1 p (mulf a l) (ix2 r 0) = @HAdd.hAdd EReal EReal EReal _ (@HMul.hMul EReal EReal EReal _ (a (ix2 r 0)) (l (ix2 r 0))) (∑ j : Fin 512, (p (ix2 r j) : EReal)) := by
  pointwise [k0_pay1]

theorem pay2_at (v : Vec Ideal S1x1x512x64 .bf16) (a : FVec Ideal S256x1 .f32) (p : FVec Ideal S256x512 .f32) (n : Vec Ideal S256x64 .f32) (r : Fin 256) (d : Fin 64) :
    k0_pay2 (k0_pay24 v) a p n (ix2 r d) = @HAdd.hAdd EReal EReal EReal _ (@HMul.hMul EReal EReal EReal _ (a (ix2 r 0)) (n (ix2 r d))) (∑ j : Fin 512, (p (ix2 r j) : EReal) * v (ix4 0 0 j d)) := by
  pointwise [k0_pay2, k0_pay24]

/-- One more tile. -/
theorem rep_succ (S : Fin 256 → ℕ → Fin 512 → EReal) (W : Fin 64 → ℕ → Fin 512 → EReal) (k : ℕ) (st : St Ideal)
    (s : FVec Ideal S256x512 .f32) (v : Vec Ideal S1x1x512x64 .bf16)
    (hs : ∀ r j, s (ix2 r j) = S r k j) (hv : ∀ d j, v (ix4 0 0 j d) = W d k j) (h : Rep S W k st) : Rep S W (k + 1) (upd s v st) := by
  intro r
  obtain ⟨h1, h2, h3⟩ := h r
  have e : newMax s st.1 (ix2 r 0) = Flash.mx (S r) (k + 1) := by
    rw [newMax_at, h1, Flash.mx]
    simp only [hs]
  refine ⟨(pay3_at _ r).trans e, ?_, fun d => ?_⟩
  · show k0_pay1 (wts s st.1) (mulf (rescale s st.1) st.2.1) (ix2 r 0) = _
    rw [pay1_at, rescale_at, e, h1, h2, Flash.den]
    simp only [wts_at, e, hs]
  · show k0_pay2 (k0_pay24 v) (rescale s st.1) (wts s st.1) st.2.2 (ix2 r d) = _
    rw [pay2_at, rescale_at, e, h1, h3, Flash.num]
    simp only [wts_at, e, hs, hv]

/-- The score of query row `r` and lane `j` of tile `k`, before the mask. -/
def raw (x0 : Vec Ideal S1x1x256x128 .bf16) (x1 : Vec Ideal S1x1x16x128x512 .bf16) (r : Fin 256) (k : Fin 16) (j : Fin 512) : EReal :=
  ∑ d : Fin 128, (x0 (ix4 0 0 r d) : EReal) * x1 (ix5 0 0 k d j)

/-- The masked score of query row `r` of the block at `q`. -/
def score (x0 : Vec Ideal S1x1x256x128 .bf16) (x1 : Vec Ideal S1x1x16x128x512 .bf16)
    (q : ℕ) (r : Fin 256) (k : ℕ) (j : Fin 512) : EReal :=
  if h : k < 16 then if k * 512 + j.val ≤ q * 256 + r.val then raw x0 x1 r ⟨k, h⟩ j else ⊥ else ⊥

def value (x2 : Vec Ideal S1x1x8192x64 .bf16) (d : Fin 64) (k : ℕ) (j : Fin 512) : EReal :=
  if h : k < 16 then x2 (ix4 0 0 ⟨k * 512 + j.val, by omega⟩ d) else 0

theorem ktile_at (x : Vec Ideal S1x1x16x128x512 .bf16) (k : ℕ) (hk : k < 16) (d : Fin 128) (j : Fin 512) : ktile x k (ix5 0 0 0 d j) = x (ix5 0 0 ⟨k, hk⟩ d j) := by
  unfold ktile View.ld
  refine congrArg x (funext fun a => Fin.ext ?_)
  match a with
  | ⟨0, _⟩ => rfl
  | ⟨1, _⟩ => rfl
  | ⟨2, _⟩ => show k % 16 + 1 * 0 = k; omega
  | ⟨3, _⟩ => show 0 + 1 * d.val = d.val; omega
  | ⟨4, _⟩ => show 0 + 1 * j.val = j.val; omega

theorem vtile_at (x : Vec Ideal S1x1x8192x64 .bf16) (k : ℕ) (hk : k < 16) (d : Fin 64) (j : Fin 512) : vtile x k (ix4 0 0 j d) = x (ix4 0 0 ⟨k * 512 + j.val, by omega⟩ d) := by
  unfold vtile View.ld
  refine congrArg x (funext fun a => Fin.ext ?_)
  match a with
  | ⟨0, _⟩ => rfl
  | ⟨1, _⟩ => rfl
  | ⟨2, _⟩ => show k % 16 * 512 + 1 * j.val = k * 512 + j.val; rw [Nat.mod_eq_of_lt hk]; omega
  | ⟨3, _⟩ => show 0 + 1 * d.val = d.val; omega

/-- The value tile's entries. -/
theorem value_at (x2 : Vec Ideal S1x1x8192x64 .bf16) (d : Fin 64) (k : ℕ) (hk : k < 16) (j : Fin 512) : vtile x2 k (ix4 0 0 j d) = value x2 d k j := by
  rw [vtile_at _ _ hk, value, dif_pos hk]

theorem pay17_at (x0 : Vec Ideal S1x1x256x128 .bf16) (r : Fin 256) (d : Fin 128) : k0_pay17 x0 (ix2 r d) = x0 (ix4 0 0 r d) := by
  pointwise [k0_pay17]

/-- The scores of an unmasked tile. -/
theorem pay5_at (v1 : FVec Ideal S256x128 .bf16) (a : Vec Ideal S1x1x1x128x512 .bf16) (r : Fin 256) (j : Fin 512) :
    k0_pay5 v1 a (ix2 r j) = (∑ d : Fin 128, (v1 (ix2 r d) : EReal) * a (ix5 0 0 0 d j)) := by
  pointwise [k0_pay5]

/-- The scores of the last, masked tile. -/
theorem pay23_at (q n : ℕ) (hq : q < 32) (hn : n < 16) (v1 : FVec Ideal S256x128 .bf16) (a : Vec Ideal S1x1x1x128x512 .bf16) (r : Fin 256) (j : Fin 512) :
    k0_pay23 (BitVec.ofNat 32 q) v1 (BitVec.ofNat 32 n) a (ix2 r j) = if n * 512 + j.val ≤ q * 256 + r.val then k0_pay5 v1 a (ix2 r j) else ⊥ := by
  rw [pay5_at]
  pointwise [k0_pay23]
  rw [mask_bot, mask_select n q j.val r.val hn hq j.isLt r.isLt]

/-- The quotient stored. -/
theorem pay4_at (a : Vec Ideal S256x64 .f32) (l : Vec Ideal S256x1 .f32) (r : Fin 256) (d : Fin 64) :
    k0_pay4 a l (ix4 0 0 r d) = Ideal.div (a (ix2 r d)) (l (ix2 r 0)) := by
  pointwise [k0_pay4]

section Point

variable (i : grid0.Coords) (q : ℕ) (x0 : Vec Ideal S1x1x256x128 .bf16) (x1 : Vec Ideal S1x1x16x128x512 .bf16) (x2 : Vec Ideal S1x1x8192x64 .bf16)

theorem pay5_raw (k : ℕ) (hk : k < 16) (r : Fin 256) (j : Fin 512) :
    k0_pay5 (k0_pay17 x0) (ktile x1 k) (ix2 r j) = raw x0 x1 r ⟨k, hk⟩ j := by
  rw [pay5_at]
  unfold raw
  refine Finset.sum_congr rfl fun d _ => ?_
  rw [pay17_at, ktile_at x1 k hk]

/-- After the unmasked tiles. -/
theorem rep_chain (hq : q < 32) (k : ℕ) (hk : k ≤ q / 2) :
    Rep (score x0 x1 q) (value x2) k (chain (k0_pay17 x0) x1 x2 k) := by
  induction k with
  | zero => exact rep_zero _ _
  | succ k ih =>
    refine rep_succ _ _ k _ _ _ (fun r j => ?_) (fun d j => value_at x2 d k (by omega) j) (ih (by omega))
    rw [pay5_raw x0 x1 k (by omega), score, dif_pos (show k < 16 by omega), if_pos (by omega)]

/-- The output block of the point `i`, row by row: numerators over denominators. -/
theorem point_value (c : Dev nD) (arg3 : Memref sig .tc .vmem S1x1x256x128 .bf16) (harg3 : arg3.IsWhole) (arg4 : Memref sig .tc .vmem S1x1x16x128x512 .bf16) (harg4 : arg4.IsWhole) (arg5 : Memref sig .tc .vmem S1x1x8192x64 .bf16) (harg5 : arg5.IsWhole) (arg6 : Memref sig .tc .vmem S1x1x256x64 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S256x64 .f32) (harg9 : arg9.IsWhole) (hq : q < 32) (hi : (i 2).val = q)
    (h1 : (k0_t1_loop i).trips = q / 2) (h2 : (k0_t2_loop i).trips = 0)
    (h5 : k0_off5 i = ![0, 0, q / 2, 0, 0]) (h6 : k0_off6 i = ![0, 0, q / 2 * 512, 0]) (hw : kernelRun0_A.sl.v31 i = BitVec.ofNat 32 (q / 2))
    (r : Fin 256) (d : Fin 64) :
    out0_A_3 c i arg3 harg3 arg4 harg4 arg5 harg5 arg6 harg6 arg7 harg7 arg8 harg8 arg9 harg9 x0 x1 x2 (ix4 0 0 r d)
      = Ideal.div (Flash.num (score x0 x1 q r) (value x2 d) (q / 2 + 1)) (Flash.den (score x0 x1 q r) (q / 2 + 1)) := by
  rw [run_value c i arg3 harg3 arg4 harg4 arg5 harg5 arg6 harg6 arg7 harg7 arg8 harg8 arg9 harg9 x0 x1 x2 (q / 2) (by omega) h1 h2 h5 h6, pay4_at]
  have hs : ∀ (r : Fin 256) (j : Fin 512), k0_pay23 (BitVec.ofNat 32 (i 2).val) (k0_pay17 x0) (kernelRun0_A.sl.v31 i) (ktile x1 (q / 2)) (ix2 r j)
      = score x0 x1 q r (q / 2) j := by
    intro r j
    rw [hi, hw, pay23_at q (q / 2) hq (by omega) _ _ r j, pay5_raw x0 x1 (q / 2) (by omega)]
    rw [score, dif_pos (show q / 2 < 16 by omega)]
  have hR := rep_succ (score x0 x1 q) (value x2) (q / 2) _ _ (vtile x2 (q / 2)) hs (fun d j => value_at x2 d (q / 2) (by omega) j) (rep_chain q x0 x1 x2 hq (q / 2) le_rfl)
  obtain ⟨_, e2, e3⟩ := hR r
  rw [e3 d, e2]

end Point

end Cert.MlaIdeal.Hand

end
-- ==== Proof.MlaSpec.lean ====
module

public import proofs.«01_k».proof.Proof.AttnSpec

/-! The latent attention's formula. -/

@[expose] public section

noncomputable section

namespace Cert.AttnSpec

open Idealize.ShloMosaic

abbrev MqArr := (⟨3, ![2, 8192, 768]⟩ : Shape).Idx → EReal
abbrev MkArr := (⟨3, ![2, 8192, 512]⟩ : Shape).Idx → EReal
abbrev MkrArr := (⟨3, ![2, 8192, 256]⟩ : Shape).Idx → EReal

/-- Feature `d` of head `h`'s query `q`: 64 plain ones, then the two halves of 16 rotated ones. -/
def mlaQuery (x : MqArr) (b : Fin 2) (h : Fin 8) (q : Fin 8192) (d : Fin 96) : EReal :=
  if _ : d.val < 64 then x (ix3 b q ⟨h.val * 64 + d.val, by omega⟩)
  else if _ : d.val < 80 then x (ix3 b q ⟨512 + (h.val * 16 + (d.val - 64)), by omega⟩)
  else x (ix3 b q ⟨640 + (h.val * 16 + (d.val - 80)), by omega⟩)

/-- Feature `d` of head `h`'s key `k`, the rotated ones from their own array. -/
def mlaKey (y : MkArr) (z : MkrArr) (b : Fin 2) (h : Fin 8) (k : Fin 8192) (d : Fin 96) : EReal :=
  if _ : d.val < 64 then y (ix3 b k ⟨h.val * 64 + d.val, by omega⟩)
  else if _ : d.val < 80 then z (ix3 b k ⟨h.val * 16 + (d.val - 64), by omega⟩)
  else z (ix3 b k ⟨128 + (h.val * 16 + (d.val - 80)), by omega⟩)

/-- The latent attention's score of key `k` for query `q`. -/
def mlaScore (x : MqArr) (y : MkArr) (z : MkrArr) (b : Fin 2) (h : Fin 8) (q k : Fin 8192) : EReal :=
  ∑ d : Fin 96, mlaQuery x b h q d * mlaKey y z b h k d

/-- The score is real where the queries and the keys are. -/
theorem mlaScore_real (x : MqArr) (y : MkArr) (z : MkrArr) (b : Fin 2) (h : Fin 8) (q k : Fin 8192) (hx : ∀ i, ∃ a : ℝ, x i = a) (hy : ∀ i, ∃ a : ℝ, y i = a) (hz : ∀ i, ∃ a : ℝ, z i = a) :
    ∃ a : ℝ, mlaScore x y z b h q k = a := by
  refine dot_real _ _ (fun d => ?_) (fun d => ?_)
  · unfold mlaQuery
    split
    · exact hx _
    · split <;> exact hx _
  · unfold mlaKey
    split
    · exact hy _
    · split <;> exact hz _

/-- Its value of key `k`, feature `d`. -/
def mlaValue (v : MkArr) (b : Fin 2) (h : Fin 8) (d : Fin 64) (k : Fin 8192) : EReal := v (ix3 b k ⟨h.val * 64 + d.val, by omega⟩)

/-- The latent attention's output. -/
def mla (x : MqArr) (y : MkArr) (z : MkrArr) (v : MkArr) (b : Fin 2) (h : Fin 8) (q : Fin 8192) (d : Fin 64) : EReal :=
  attn (causal q (mlaScore x y z b h q)) (mlaValue v b h d)

/-- A sum over 128 features whose last 32 products are zero is the sum over the first 96. -/
theorem sum_padded (f : Fin 128 → EReal) (g : Fin 96 → EReal) (h : ∀ d : Fin 96, f ⟨d.val, by omega⟩ = g d) (h0 : ∀ d : Fin 128, 96 ≤ d.val → f d = 0) :
    ∑ d, f d = ∑ d, g d := by
  have e : ∑ d : Fin (96 + 32), f d = ∑ d : Fin 96, f (Fin.castAdd 32 d) + ∑ d : Fin 32, f (Fin.natAdd 96 d) := Fin.sum_univ_add _
  refine e.trans ?_
  have z : ∑ d : Fin 32, f (Fin.natAdd 96 d) = 0 := Finset.sum_eq_zero fun d _ => h0 _ (Nat.le_add_right 96 d.val)
  rw [z, add_zero]
  exact Finset.sum_congr rfl fun d _ => h d

end Cert.AttnSpec

end
-- ==== Proof.MlaHost.lean ====
module

public import proofs.«01_k».proof.Proof.MlaRow
public import proofs.«01_k».proof.Proof.MlaSpec
public import proofs.«01_k».proof.Proof.Gen.MlaIdeal.Value

@[expose] public section

set_option maxRecDepth 16384

noncomputable section

namespace Cert.MlaIdeal.Hand

open Cert.MlaIdeal Cert.MlaIdeal.Gen Cert.MlaIdeal.Value Cert.AttnSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The arrays the launch finds -/

abbrev XQ : MqArr := m ((c : Thread nD τ).loc main_arg0)
abbrev XK : MkArr := m ((c : Thread nD τ).loc main_arg1)
abbrev XR : MkrArr := m ((c : Thread nD τ).loc main_arg2)
abbrev XV : MkArr := m ((c : Thread nD τ).loc main_arg3)

theorem V_q : V m c main_v8 = transpose S2x8x8192x128 [0, 2, 1, 3] (concatenate S2x8192x8x128 3 [⟨S2x8192x8x64, shapeCast S2x8192x8x64 (extractStridedSlice S2x8192x512 ![0, 0, 0] (m ((c : Thread nD τ).loc main_arg0)) slices_S2x8192x768_S2x8192x512_0_0_0) shapeCasts_S2x8192x512_S2x8192x8x64⟩, ⟨S2x8192x8x16, shapeCast S2x8192x8x16 (extractStridedSlice S2x8192x128 ![0, 0, 512] (m ((c : Thread nD τ).loc main_arg0)) slices_S2x8192x768_S2x8192x128_0_0_512) shapeCasts_S2x8192x128_S2x8192x8x16⟩, ⟨S2x8192x8x16, shapeCast S2x8192x8x16 (extractStridedSlice S2x8192x128 ![0, 0, 640] (m ((c : Thread nD τ).loc main_arg0)) slices_S2x8192x768_S2x8192x128_0_0_640) shapeCasts_S2x8192x128_S2x8192x8x16⟩, ⟨S2x8192x8x32, (broadcastInDim S2x8192x8x32 ![] bcast_S_S2x8192x8x32 (constant (F := Ideal) S_ .bf16 0x0000#16 : FVec Ideal S_ .bf16) : FVec Ideal S2x8192x8x32 .bf16)⟩] concatenates_S2x8192x8x64_S2x8192x8x16_S2x8192x8x16_S2x8192x8x32_S2x8192x8x128_d3) transposes_S2x8192x8x128_S2x8x8192x128_0_2_1_3 := by
  simp only [V, hostOps0]; after_results_simp
  rfl
theorem V_k : V m c main_v18 = transpose S2x8x16x128x512 [0, 1, 2, 4, 3] (shapeCast S2x8x16x512x128 (transpose S2x8x8192x128 [0, 2, 1, 3] (concatenate S2x8192x8x128 3 [⟨S2x8192x8x64, shapeCast S2x8192x8x64 (m ((c : Thread nD τ).loc main_arg1)) shapeCasts_S2x8192x512_S2x8192x8x64⟩, ⟨S2x8192x8x16, shapeCast S2x8192x8x16 (extractStridedSlice S2x8192x128 ![0, 0, 0] (m ((c : Thread nD τ).loc main_arg2)) slices_S2x8192x256_S2x8192x128_0_0_0) shapeCasts_S2x8192x128_S2x8192x8x16⟩, ⟨S2x8192x8x16, shapeCast S2x8192x8x16 (extractStridedSlice S2x8192x128 ![0, 0, 128] (m ((c : Thread nD τ).loc main_arg2)) slices_S2x8192x256_S2x8192x128_0_0_128) shapeCasts_S2x8192x128_S2x8192x8x16⟩, ⟨S2x8192x8x32, (broadcastInDim S2x8192x8x32 ![] bcast_S_S2x8192x8x32 (constant (F := Ideal) S_ .bf16 0x0000#16 : FVec Ideal S_ .bf16) : FVec Ideal S2x8192x8x32 .bf16)⟩] concatenates_S2x8192x8x64_S2x8192x8x16_S2x8192x8x16_S2x8192x8x32_S2x8192x8x128_d3) transposes_S2x8192x8x128_S2x8x8192x128_0_2_1_3) shapeCasts_S2x8x8192x128_S2x8x16x512x128) transposes_S2x8x16x512x128_S2x8x16x128x512_0_1_2_4_3 := by
  simp only [V, hostOps0]; after_results_simp
  rfl
theorem V_v : V m c main_v20 = transpose S2x8x8192x64 [0, 2, 1, 3] (shapeCast S2x8192x8x64 (m ((c : Thread nD τ).loc main_arg3)) shapeCasts_S2x8192x512_S2x8192x8x64) transposes_S2x8192x8x64_S2x8x8192x64_0_2_1_3 := by
  simp only [V, hostOps0]; after_results_simp
  rfl

/-- A query's features, zero past the 96th. -/
def padQuery (x : MqArr) (b : Fin 2) (h : Fin 8) (q : Fin 8192) (d : Fin 128) : EReal := if e : d.val < 96 then mlaQuery x b h q ⟨d.val, e⟩ else 0

/-- A key's features, zero past the 96th. -/
def padKey (y : MkArr) (z : MkrArr) (b : Fin 2) (h : Fin 8) (k : Fin 8192) (d : Fin 128) : EReal := if e : d.val < 96 then mlaKey y z b h k ⟨d.val, e⟩ else 0

theorem qcat_at (x : Vec Ideal S2x8192x768 .bf16) (b : Fin 2) (h : Fin 8) (q : Fin 8192) (d : Fin 128) :
    (concatenate S2x8192x8x128 3 [⟨S2x8192x8x64, shapeCast S2x8192x8x64 (extractStridedSlice S2x8192x512 ![0, 0, 0] x slices_S2x8192x768_S2x8192x512_0_0_0) shapeCasts_S2x8192x512_S2x8192x8x64⟩, ⟨S2x8192x8x16, shapeCast S2x8192x8x16 (extractStridedSlice S2x8192x128 ![0, 0, 512] x slices_S2x8192x768_S2x8192x128_0_0_512) shapeCasts_S2x8192x128_S2x8192x8x16⟩, ⟨S2x8192x8x16, shapeCast S2x8192x8x16 (extractStridedSlice S2x8192x128 ![0, 0, 640] x slices_S2x8192x768_S2x8192x128_0_0_640) shapeCasts_S2x8192x128_S2x8192x8x16⟩, ⟨S2x8192x8x32, (broadcastInDim S2x8192x8x32 ![] bcast_S_S2x8192x8x32 (constant (F := Ideal) S_ .bf16 0x0000#16 : FVec Ideal S_ .bf16) : FVec Ideal S2x8192x8x32 .bf16)⟩] concatenates_S2x8192x8x64_S2x8192x8x16_S2x8192x8x16_S2x8192x8x32_S2x8192x8x128_d3) (ix4 b q h d) = padQuery x b h q d := by
  unfold padQuery mlaQuery
  pointwise
  by_cases c1 : d.val < 64
  · rw [dif_pos c1, dif_pos (show d.val < 96 by omega), dif_pos c1]
  · rw [dif_neg c1]
    by_cases c2 : d.val < 80
    · rw [dif_pos (show d.val - 64 < 16 by omega), dif_pos (show d.val < 96 by omega), dif_neg c1, dif_pos c2]
    · rw [dif_neg (show ¬ d.val - 64 < 16 by omega)]
      by_cases c3 : d.val < 96
      · rw [dif_pos (show d.val - 64 - 16 < 16 by omega), dif_pos c3, dif_neg c1, dif_neg c2]
        refine congrArg x (congrArg (ix3 b q) (Fin.ext ?_))
        dsimp only
        omega
      · rw [dif_neg (show ¬ d.val - 64 - 16 < 16 by omega), dif_neg c3]

theorem kcat_at (y : Vec Ideal S2x8192x512 .bf16) (z : Vec Ideal S2x8192x256 .bf16) (b : Fin 2) (h : Fin 8) (q : Fin 8192) (d : Fin 128) :
    (concatenate S2x8192x8x128 3 [⟨S2x8192x8x64, shapeCast S2x8192x8x64 y shapeCasts_S2x8192x512_S2x8192x8x64⟩, ⟨S2x8192x8x16, shapeCast S2x8192x8x16 (extractStridedSlice S2x8192x128 ![0, 0, 0] z slices_S2x8192x256_S2x8192x128_0_0_0) shapeCasts_S2x8192x128_S2x8192x8x16⟩, ⟨S2x8192x8x16, shapeCast S2x8192x8x16 (extractStridedSlice S2x8192x128 ![0, 0, 128] z slices_S2x8192x256_S2x8192x128_0_0_128) shapeCasts_S2x8192x128_S2x8192x8x16⟩, ⟨S2x8192x8x32, (broadcastInDim S2x8192x8x32 ![] bcast_S_S2x8192x8x32 (constant (F := Ideal) S_ .bf16 0x0000#16 : FVec Ideal S_ .bf16) : FVec Ideal S2x8192x8x32 .bf16)⟩] concatenates_S2x8192x8x64_S2x8192x8x16_S2x8192x8x16_S2x8192x8x32_S2x8192x8x128_d3) (ix4 b q h d) = padKey y z b h q d := by
  unfold padKey mlaKey
  pointwise
  by_cases c1 : d.val < 64
  · rw [dif_pos c1, dif_pos (show d.val < 96 by omega), dif_pos c1]
  · rw [dif_neg c1]
    by_cases c2 : d.val < 80
    · rw [dif_pos (show d.val - 64 < 16 by omega), dif_pos (show d.val < 96 by omega), dif_neg c1, dif_pos c2]
    · rw [dif_neg (show ¬ d.val - 64 < 16 by omega)]
      by_cases c3 : d.val < 96
      · rw [dif_pos (show d.val - 64 - 16 < 16 by omega), dif_pos c3, dif_neg c1, dif_neg c2]
        refine congrArg z (congrArg (ix3 b q) (Fin.ext ?_))
        dsimp only
        omega
      · rw [dif_neg (show ¬ d.val - 64 - 16 < 16 by omega), dif_neg c3]

theorem heads_at (a : Vec Ideal S2x8192x8x128 .bf16) (b : Fin 2) (h : Fin 8) (q : Fin 8192) (d : Fin 128) :
    transpose S2x8x8192x128 [0, 2, 1, 3] a transposes_S2x8192x8x128_S2x8x8192x128_0_2_1_3 (ix4 b h q d) = a (ix4 b q h d) := by
  pointwise

theorem tiled_at (a : Vec Ideal S2x8x8192x128 .bf16) (b : Fin 2) (h : Fin 8) (k : Fin 16) (d : Fin 128) (j : Fin 512) :
    transpose S2x8x16x128x512 [0, 1, 2, 4, 3] (shapeCast S2x8x16x512x128 a shapeCasts_S2x8x8192x128_S2x8x16x512x128) transposes_S2x8x16x512x128_S2x8x16x128x512_0_1_2_4_3 (ix5 b h k d j) = a (ix4 b h (key k.val k.isLt j) d) := by
  unfold key
  pointwise

theorem q_at (x : Vec Ideal S2x8192x768 .bf16) (b : Fin 2) (h : Fin 8) (q : Fin 8192) (d : Fin 128) :
    transpose S2x8x8192x128 [0, 2, 1, 3] (concatenate S2x8192x8x128 3 [⟨S2x8192x8x64, shapeCast S2x8192x8x64 (extractStridedSlice S2x8192x512 ![0, 0, 0] x slices_S2x8192x768_S2x8192x512_0_0_0) shapeCasts_S2x8192x512_S2x8192x8x64⟩, ⟨S2x8192x8x16, shapeCast S2x8192x8x16 (extractStridedSlice S2x8192x128 ![0, 0, 512] x slices_S2x8192x768_S2x8192x128_0_0_512) shapeCasts_S2x8192x128_S2x8192x8x16⟩, ⟨S2x8192x8x16, shapeCast S2x8192x8x16 (extractStridedSlice S2x8192x128 ![0, 0, 640] x slices_S2x8192x768_S2x8192x128_0_0_640) shapeCasts_S2x8192x128_S2x8192x8x16⟩, ⟨S2x8192x8x32, (broadcastInDim S2x8192x8x32 ![] bcast_S_S2x8192x8x32 (constant (F := Ideal) S_ .bf16 0x0000#16 : FVec Ideal S_ .bf16) : FVec Ideal S2x8192x8x32 .bf16)⟩] concatenates_S2x8192x8x64_S2x8192x8x16_S2x8192x8x16_S2x8192x8x32_S2x8192x8x128_d3) transposes_S2x8192x8x128_S2x8x8192x128_0_2_1_3 (ix4 b h q d)
      = padQuery x b h q d :=
  (heads_at _ b h q d).trans (qcat_at x b h q d)

theorem k_at (y : Vec Ideal S2x8192x512 .bf16) (z : Vec Ideal S2x8192x256 .bf16) (b : Fin 2) (h : Fin 8) (k : Fin 16) (d : Fin 128) (j : Fin 512) :
    transpose S2x8x16x128x512 [0, 1, 2, 4, 3] (shapeCast S2x8x16x512x128 (transpose S2x8x8192x128 [0, 2, 1, 3] (concatenate S2x8192x8x128 3 [⟨S2x8192x8x64, shapeCast S2x8192x8x64 y shapeCasts_S2x8192x512_S2x8192x8x64⟩, ⟨S2x8192x8x16, shapeCast S2x8192x8x16 (extractStridedSlice S2x8192x128 ![0, 0, 0] z slices_S2x8192x256_S2x8192x128_0_0_0) shapeCasts_S2x8192x128_S2x8192x8x16⟩, ⟨S2x8192x8x16, shapeCast S2x8192x8x16 (extractStridedSlice S2x8192x128 ![0, 0, 128] z slices_S2x8192x256_S2x8192x128_0_0_128) shapeCasts_S2x8192x128_S2x8192x8x16⟩, ⟨S2x8192x8x32, (broadcastInDim S2x8192x8x32 ![] bcast_S_S2x8192x8x32 (constant (F := Ideal) S_ .bf16 0x0000#16 : FVec Ideal S_ .bf16) : FVec Ideal S2x8192x8x32 .bf16)⟩] concatenates_S2x8192x8x64_S2x8192x8x16_S2x8192x8x16_S2x8192x8x32_S2x8192x8x128_d3) transposes_S2x8192x8x128_S2x8x8192x128_0_2_1_3) shapeCasts_S2x8x8192x128_S2x8x16x512x128) transposes_S2x8x16x512x128_S2x8x16x128x512_0_1_2_4_3 (ix5 b h k d j)
      = padKey y z b h (key k.val k.isLt j) d :=
  (tiled_at _ b h k d j).trans ((heads_at _ b h _ d).trans (kcat_at y z b h _ d))

theorem v_at (v : Vec Ideal S2x8192x512 .bf16) (b : Fin 2) (h : Fin 8) (k : Fin 8192) (d : Fin 64) :
    transpose S2x8x8192x64 [0, 2, 1, 3] (shapeCast S2x8192x8x64 v shapeCasts_S2x8192x512_S2x8192x8x64) transposes_S2x8192x8x64_S2x8x8192x64_0_2_1_3 (ix4 b h k d)
      = mlaValue v b h d k := by
  unfold mlaValue
  pointwise

/-- The keys the launch finds, read at an index. -/
theorem keys_at (b : Fin 2) (h : Fin 8) (k : Fin 16) (d : Fin 128) (j : Fin 512) :
    V m c main_v18 (ix5 b h k d j) = padKey (XK m c) (XR m c) b h (key k.val k.isLt j) d :=
  (congrFun (V_k m c) (ix5 b h k d j)).trans (k_at _ _ b h k d j)

/-- The queries the launch finds. -/
theorem queries_at (b : Fin 2) (h : Fin 8) (q : Fin 8192) (d : Fin 128) :
    V m c main_v8 (ix4 b h q d) = padQuery (XQ m c) b h q d :=
  (congrFun (V_q m c) (ix4 b h q d)).trans (q_at _ b h q d)

/-- The values the launch finds. -/
theorem values_at (b : Fin 2) (h : Fin 8) (k : Fin 8192) (d : Fin 64) :
    V m c main_v20 (ix4 b h k d) = mlaValue (XV m c) b h d k :=
  (congrFun (V_v m c) (ix4 b h k d)).trans (v_at _ b h k d)

end Cert.MlaIdeal.Hand

end
-- ==== Proof.MlaValue.lean ====
module

public import proofs.«01_k».proof.Proof.MlaHost
public import proofs.«01_k».proof.Proof.MlaSpec
public import proofs.«01_k».proof.Proof.Gen.MlaIdeal.Value

@[expose] public section

set_option maxRecDepth 16384

noncomputable section

namespace Cert.MlaIdeal.Hand

open Cert.MlaIdeal Cert.MlaIdeal.Gen Cert.MlaIdeal.Value Cert.AttnSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The blocks at an index: point `t` is batch `t / 256`, head `t / 32 % 8`, query tile `t % 32` -/

theorem point_facts : ∀ t : Fin cfg0.N, (grid0.coords t 2).val = t.val % 32
    ∧ win0_0.index t = ![t.val / 256, t.val / 32 % 8, t.val % 32, 0] ∧ win0_1.index t = ![t.val / 256, t.val / 32 % 8, 0, 0, 0]
    ∧ win0_2.index t = ![t.val / 256, t.val / 32 % 8, 0, 0] ∧ win0_3.index t = ![t.val / 256, t.val / 32 % 8, t.val % 32, 0] :=
  (by decide +kernel : ∀ t : Fin grid0.N, _)

theorem body_facts : ∀ t : Fin cfg0.N, (k0_t1_loop (grid0.coords t)).trips = t.val % 32 / 2 ∧ (k0_t2_loop (grid0.coords t)).trips = 0
    ∧ k0_off5 (grid0.coords t) = ![0, 0, t.val % 32 / 2, 0, 0] ∧ k0_off6 (grid0.coords t) = ![0, 0, t.val % 32 / 2 * 512, 0]
    ∧ kernelRun0_A.sl.v31 (grid0.coords t) = BitVec.ofNat 32 (t.val % 32 / 2) :=
  (by decide +kernel : ∀ t : Fin grid0.N, _)

theorem lt512 (t : Fin cfg0.N) : t.val < 512 := lt_of_lt_of_eq t.isLt N_0

def bat (t : Fin cfg0.N) : Fin 2 := ⟨t.val / 256, by have := lt512 t; omega⟩
def hd (t : Fin cfg0.N) : Fin 8 := ⟨t.val / 32 % 8, Nat.mod_lt _ (by decide)⟩
def qry (t : Fin cfg0.N) (r : Fin 256) : Fin 8192 := ⟨t.val % 32 * 256 + r.val, by omega⟩

theorem blk0 (t : Fin cfg0.N) (r : Fin 256) (d : Fin 128) : (iblk m c 0 t : Vec Ideal S1x1x256x128 .bf16) (ix4 0 0 r d) = padQuery (XQ m c) (bat t) (hd t) (qry t r) d := by
  have e := (point_facts t).2.1
  have e0 := congrFun e 0
  have e1 := congrFun e 1
  have e2 := congrFun e 2
  have e3 := congrFun e 3
  unfold iblk
  rw [View.read_apply]
  have hi : ((cfg0.win 0).blk t).view.emb (ix4 0 0 r d) = (ix4 (bat t) (hd t) (qry t r) d : S2x8x8192x128.Idx) := by
    refine funext fun a => Fin.ext ?_
    match a with
    | ⟨0, _⟩ => show win0_0.index t 0 * 1 + 1 * 0 = t.val / 256; rw [e0]; simp
    | ⟨1, _⟩ => show win0_0.index t 1 * 1 + 1 * 0 = t.val / 32 % 8; rw [e1]; simp
    | ⟨2, _⟩ => show win0_0.index t 2 * 256 + 1 * r.val = t.val % 32 * 256 + r.val; rw [e2]; simp
    | ⟨3, _⟩ => show win0_0.index t 3 * 128 + 1 * d.val = d.val; rw [e3]; simp
  exact (congrArg (V m c main_v8) hi).trans (queries_at m c (bat t) (hd t) (qry t r) d)

theorem index1 (t : Fin cfg0.N) (k : Fin 16) (d : Fin 128) (j : Fin 512) :
    ((cfg0.win 1).blk t).view.emb (ix5 0 0 k d j) = (ix5 (bat t) (hd t) k d j : S2x8x16x128x512.Idx) := by
  have e := (point_facts t).2.2.1
  have e0 := congrFun e 0
  have e1 := congrFun e 1
  have e2 := congrFun e 2
  have e3 := congrFun e 3
  have e4 := congrFun e 4
  refine funext fun a => Fin.ext ?_
  match a with
  | ⟨0, _⟩ => show win0_1.index t 0 * 1 + 1 * 0 = t.val / 256; rw [e0]; simp
  | ⟨1, _⟩ => show win0_1.index t 1 * 1 + 1 * 0 = t.val / 32 % 8; rw [e1]; simp
  | ⟨2, _⟩ => show win0_1.index t 2 * 16 + 1 * k.val = k.val; rw [e2]; simp
  | ⟨3, _⟩ => show win0_1.index t 3 * 128 + 1 * d.val = d.val; rw [e3]; simp
  | ⟨4, _⟩ => show win0_1.index t 4 * 512 + 1 * j.val = j.val; rw [e4]; simp

theorem read1 (f : Vec Ideal S2x8x16x128x512 .bf16) (t : Fin cfg0.N) (k : Fin 16) (d : Fin 128) (j : Fin 512) :
    (((cfg0.win 1).blk t).view.read (Elt Ideal) f : Vec Ideal S1x1x16x128x512 .bf16) (ix5 0 0 k d j) = f (ix5 (bat t) (hd t) k d j) := by
  rw [View.read_apply]
  exact congrArg f (index1 t k d j)

theorem blk1 (t : Fin cfg0.N) (k : Fin 16) (d : Fin 128) (j : Fin 512) : (iblk m c 1 t : Vec Ideal S1x1x16x128x512 .bf16) (ix5 0 0 k d j) = padKey (XK m c) (XR m c) (bat t) (hd t) (key k.val k.isLt j) d := by
  unfold iblk
  refine Eq.trans ?_ (keys_at m c (bat t) (hd t) k d j)
  exact read1 (V m c main_v18) t k d j

theorem blk2 (t : Fin cfg0.N) (k : Fin 8192) (d : Fin 64) : (iblk m c 2 t : Vec Ideal S1x1x8192x64 .bf16) (ix4 0 0 k d) = mlaValue (XV m c) (bat t) (hd t) d k := by
  have e := (point_facts t).2.2.2.1
  have e0 := congrFun e 0
  have e1 := congrFun e 1
  have e2 := congrFun e 2
  have e3 := congrFun e 3
  unfold iblk
  rw [View.read_apply]
  have hi : ((cfg0.win 2).blk t).view.emb (ix4 0 0 k d) = (ix4 (bat t) (hd t) k d : S2x8x8192x64.Idx) := by
    refine funext fun a => Fin.ext ?_
    match a with
    | ⟨0, _⟩ => show win0_2.index t 0 * 1 + 1 * 0 = t.val / 256; rw [e0]; simp
    | ⟨1, _⟩ => show win0_2.index t 1 * 1 + 1 * 0 = t.val / 32 % 8; rw [e1]; simp
    | ⟨2, _⟩ => show win0_2.index t 2 * 8192 + 1 * k.val = k.val; rw [e2]; simp
    | ⟨3, _⟩ => show win0_2.index t 3 * 64 + 1 * d.val = d.val; rw [e3]; simp
  exact (congrArg (V m c main_v20) hi).trans (values_at m c (bat t) (hd t) k d)

/-! ## The result -/

/-- A block's scores are the tiles of the formula's masked scores. -/
theorem score_eq (x0 : Vec Ideal S1x1x256x128 .bf16) (x1 : Vec Ideal S1x1x16x128x512 .bf16)
    (x : MqArr) (y : MkArr) (z : MkrArr) (b : Fin 2) (h : Fin 8) (q : ℕ) (hq : q < 32) (r : Fin 256)
    (e0 : ∀ d : Fin 128, x0 (ix4 0 0 r d) = padQuery x b h ⟨q * 256 + r.val, by omega⟩ d)
    (e1 : ∀ (k : Fin 16) (d : Fin 128) (j : Fin 512), x1 (ix5 0 0 k d j) = padKey y z b h (key k.val k.isLt j) d) :
    score x0 x1 q r = tiles ⊥ (causal ⟨q * 256 + r.val, by omega⟩ (mlaScore x y z b h ⟨q * 256 + r.val, by omega⟩)) := by
  funext k j
  unfold score tiles
  by_cases hk : k < 16
  · rw [dif_pos hk, dif_pos hk]
    unfold causal
    refine if_congr Iff.rfl ?_ rfl
    unfold raw mlaScore
    refine sum_padded _ _ (fun d => ?_) (fun d hd => ?_)
    · rw [e0, e1, padQuery, padKey, dif_pos d.isLt, dif_pos d.isLt]
    · rw [e0, e1, padQuery, padKey, dif_neg (by omega), zero_mul]
  · rw [dif_neg hk, dif_neg hk]

theorem value_eq (x2 : Vec Ideal S1x1x8192x64 .bf16) (v : MkArr) (b : Fin 2) (h : Fin 8) (d : Fin 64)
    (e2 : ∀ k : Fin 8192, x2 (ix4 0 0 k d) = mlaValue v b h d k) :
    value x2 d = tiles 0 (mlaValue v b h d) := by
  funext k j
  unfold value tiles
  by_cases hk : k < 16
  · rw [dif_pos hk, dif_pos hk]
    exact e2 _
  · rw [dif_neg hk, dif_neg hk]

/-- What point `t` leaves in the output block: the formula at the block's queries. -/
theorem out_eq (hx : ∀ i, ∃ a : ℝ, XQ m c i = a) (hy : ∀ i, ∃ a : ℝ, XK m c i = a) (hz : ∀ i, ∃ a : ℝ, XR m c i = a) (t : Fin cfg0.N) (r : Fin 256) (d : Fin 64) :
    outsAt0 m c t (ix4 0 0 r d) = mla (XQ m c) (XK m c) (XR m c) (XV m c) (bat t) (hd t) (qry t r) d := by
  obtain ⟨p2, -⟩ := point_facts t
  obtain ⟨b1, b2, b3, b4, b5⟩ := body_facts t
  have hq : t.val % 32 < 32 := Nat.mod_lt _ (by decide)
  unfold outsAt0
  rw [point_value (grid0.coords t) (t.val % 32) _ _ _ c _ _ _ _ _ _ _ _ _ _ _ _ _ _ hq p2 b1 b2 b3 b4 b5 r d]
  rw [score_eq _ _ (XQ m c) (XK m c) (XR m c) (bat t) (hd t) (t.val % 32) hq r (fun d => blk0 m c t r d) (fun k d j => blk1 m c t k d j),
    value_eq _ (XV m c) (bat t) (hd t) d (fun k => blk2 m c t k d)]
  exact causal_point _ _ (fun k => mlaScore_real _ _ _ _ _ _ _ hx hy hz) _ hq r

/-- The formula as an array. -/
def G (x : MqArr) (y : MkArr) (z : MkrArr) (v : MkArr) : (⟨4, ![2, 8, 8192, 64]⟩ : Shape).Idx → EReal := fun i => mla x y z v (i 0) (i 1) (i 2) (i 3)

theorem emb3 (t : Fin cfg0.N) (r : Fin 256) (d : Fin 64) : ((cfg0.win 3).blk t).view.emb (ix4 0 0 r d) = (ix4 (bat t) (hd t) (qry t r) d : S2x8x8192x64.Idx) := by
  have e := (point_facts t).2.2.2.2
  have e0 := congrFun e 0
  have e1 := congrFun e 1
  have e2 := congrFun e 2
  have e3 := congrFun e 3
  refine funext fun a => Fin.ext ?_
  match a with
  | ⟨0, _⟩ => show win0_3.index t 0 * 1 + 1 * 0 = t.val / 256; rw [e0]; simp
  | ⟨1, _⟩ => show win0_3.index t 1 * 1 + 1 * 0 = t.val / 32 % 8; rw [e1]; simp
  | ⟨2, _⟩ => show win0_3.index t 2 * 256 + 1 * r.val = t.val % 32 * 256 + r.val; rw [e2]; simp
  | ⟨3, _⟩ => show win0_3.index t 3 * 64 + 1 * d.val = d.val; rw [e3]; simp

/-- The result's blocks cover its array. -/
theorem cover (i : S2x8x8192x64.Idx) : ∃ t : Fin cfg0.N, (cfg0.win 3).flush t = true ∧ i ∈ ((cfg0.win 3).blk t).view.set := by
  have h0 : (i 0 : ℕ) < 2 := (i 0).isLt
  have h1 : (i 1 : ℕ) < 8 := (i 1).isLt
  have h2 : (i 2 : ℕ) < 8192 := (i 2).isLt
  have h3 : (i 3 : ℕ) < 64 := (i 3).isLt
  have hN : cfg0.N = 512 := N_0
  have ht : (i 0 : ℕ) * 256 + (i 1 : ℕ) * 32 + (i 2 : ℕ) / 256 < cfg0.N := by omega
  refine ⟨⟨_, ht⟩, flush0_3 _, ?_⟩
  have e : i = ((cfg0.win 3).blk ⟨_, ht⟩).view.emb (ix4 0 0 (⟨(i 2 : ℕ) % 256, Nat.mod_lt _ (by decide)⟩ : Fin 256) (⟨(i 3 : ℕ), h3⟩ : Fin 64)) := by
    rw [emb3]
    refine funext fun a => Fin.ext ?_
    match a with
    | ⟨0, _⟩ => show (i 0 : ℕ) = ((i 0 : ℕ) * 256 + (i 1 : ℕ) * 32 + (i 2 : ℕ) / 256) / 256; omega
    | ⟨1, _⟩ => show (i 1 : ℕ) = ((i 0 : ℕ) * 256 + (i 1 : ℕ) * 32 + (i 2 : ℕ) / 256) / 32 % 8; omega
    | ⟨2, _⟩ => show (i 2 : ℕ) = ((i 0 : ℕ) * 256 + (i 1 : ℕ) * 32 + (i 2 : ℕ) / 256) % 32 * 256 + (i 2 : ℕ) % 256; omega
    | ⟨3, _⟩ => rfl
  exact Eq.mpr (congrArg (· ∈ _) e) (View.emb_mem_set _ _)

/-- The result array after the run is the formula of the four arguments. -/
theorem result_eq (hx : ∀ i, ∃ a : ℝ, XQ m c i = a) (hy : ∀ i, ∃ a : ℝ, XK m c i = a) (hz : ∀ i, ∃ a : ℝ, XR m c i = a) :
    (dats m 0 c).arrAt 3 cfg0.N = G (XQ m c) (XK m c) (XR m c) (XV m c) := by
  refine (dats m 0 c).arrAt_eq_of_cover 3 (G (XQ m c) (XK m c) (XR m c) (XV m c)) (fun t _ => ?_) cover
  rw [flushed3]
  have key : ∀ y : S1x1x256x64.Idx, outsAt0 m c t y = G (XQ m c) (XK m c) (XR m c) (XV m c) (((cfg0.win 3).blk t).view.emb y) := by
    intro y
    have hyy : y = ix4 0 0 (y 2) (y 3) := by
      refine funext fun a => Fin.ext ?_
      have h0 : (y 0 : ℕ) < 1 := (y 0).isLt
      have h1 : (y 1 : ℕ) < 1 := (y 1).isLt
      match a with
      | ⟨0, _⟩ => show (y 0 : ℕ) = 0; omega
      | ⟨1, _⟩ => show (y 1 : ℕ) = 0; omega
      | ⟨2, _⟩ => rfl
      | ⟨3, _⟩ => rfl
    have he : ((cfg0.win 3).blk t).view.emb y = (ix4 (bat t) (hd t) (qry t (y 2)) (y 3) : S2x8x8192x64.Idx) :=
      (congrArg ((cfg0.win 3).blk t).view.emb hyy).trans (emb3 t (y 2) (y 3))
    rw [he]
    exact (congrArg (outsAt0 m c t) hyy).trans (out_eq m c hx hy hz t (y 2) (y 3))
  exact funext key

end Cert.MlaIdeal.Hand

end
-- ==== Proof.MlaRef.lean ====
module

public import proofs.«01_k».proof.Proof.Gen.MlaRefIdeal.Run
public import proofs.«01_k».proof.Proof.MlaSpec

@[expose] public section

set_option maxRecDepth 16384

noncomputable section

namespace Cert.MlaRefIdeal.Hand

open Cert.MlaRefIdeal Cert.MlaRefIdeal.Gen Cert.MlaRefIdeal.Value Cert.AttnSpec Idealize.ShloMosaic Idealize.ShloMosaic.TcCoe Idealize.SL.Sem

section Terms

variable {F : FTy → Type} [FloatOps F]

/-- The queries, their three parts joined. -/
def queries (x : FVec F S2x8192x768 .bf16) : FVec F S2x8192x8x96 .bf16 :=
  concatenate S2x8192x8x96 3 [⟨S2x8192x8x64, shapeCast _ (extractStridedSlice S2x8192x512 ![0, 0, 0] x slices_S2x8192x768_S2x8192x512_0_0_0) shapeCasts_S2x8192x512_S2x8192x8x64⟩, ⟨S2x8192x8x16, shapeCast _ (extractStridedSlice S2x8192x128 ![0, 0, 512] x slices_S2x8192x768_S2x8192x128_0_0_512) shapeCasts_S2x8192x128_S2x8192x8x16⟩, ⟨S2x8192x8x16, shapeCast _ (extractStridedSlice S2x8192x128 ![0, 0, 640] x slices_S2x8192x768_S2x8192x128_0_0_640) shapeCasts_S2x8192x128_S2x8192x8x16⟩] concatenates_S2x8192x8x64_S2x8192x8x16_S2x8192x8x16_S2x8192x8x96_d3

/-- The keys, their three parts joined. -/
def keys (y : FVec F S2x8192x512 .bf16) (z : FVec F S2x8192x256 .bf16) : FVec F S2x8192x8x96 .bf16 :=
  concatenate S2x8192x8x96 3 [⟨S2x8192x8x64, shapeCast _ y shapeCasts_S2x8192x512_S2x8192x8x64⟩, ⟨S2x8192x8x16, shapeCast _ (extractStridedSlice S2x8192x128 ![0, 0, 0] z slices_S2x8192x256_S2x8192x128_0_0_0) shapeCasts_S2x8192x128_S2x8192x8x16⟩, ⟨S2x8192x8x16, shapeCast _ (extractStridedSlice S2x8192x128 ![0, 0, 128] z slices_S2x8192x256_S2x8192x128_0_0_128) shapeCasts_S2x8192x128_S2x8192x8x16⟩] concatenates_S2x8192x8x64_S2x8192x8x16_S2x8192x8x16_S2x8192x8x96_d3

/-- The masked scores of all queries and keys. -/
def scores (a b : FVec F S2x8192x8x96 .bf16) : FVec F S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S2x8192x8x96_S2x8192x8x96_S2x8x8192x8192_3_3_1_1_02_02 none (extf .f32 a bitsLt_bf16_f32) (extf .f32 b bitsLt_bf16_f32)) (broadcastInDim S2x8x8192x8192 ![] bcast_S_S2x8x8192x8192 (id (constant S_ .f32 0xFF800000#32)))

/-- The values. -/
def vals (v : FVec F S2x8192x512 .bf16) : FVec F S2x8192x8x64 .f32 :=
  extf .f32 (shapeCast _ v shapeCasts_S2x8192x512_S2x8192x8x64) bitsLt_bf16_f32

/-- The greatest score of every query. -/
def top (s : FVec F S2x8x8192x8192 .f32) : FVec F S2x8x8192 .f32 :=
  Host.reduce FloatOps.maximumf s (constant S_ .f32 0xFF800000#32) reducesTo_S2x8x8192x8192_S2x8x8192_d3 h_S_

/-- The exponentials of the scores less their greatest. -/
def weights (s : FVec F S2x8x8192x8192 .f32) (w : FVec F S2x8x8192 .f32) : FVec F S2x8x8192x8192 .f32 :=
  Host.exp (subf s (broadcastInDim S2x8x8192x8192 ![0, 1, 2, 3] bcast_S2x8x8192x1_S2x8x8192x8192_0_1_2_3 (broadcastInDim S2x8x8192x1 ![0, 1, 2] bcast_S2x8x8192_S2x8x8192x1_0_1_2 (maximumf (broadcastInDim S2x8x8192 ![] bcast_S_S2x8x8192 (constant S_ .f32 0xFF800000#32)) w))))

/-- The sum of every query's weights. -/
def total (e : FVec F S2x8x8192x8192 .f32) : FVec F S2x8x8192 .f32 :=
  Host.reduceAdd e (constant S_ .f32 0x00000000#32) reducesTo_S2x8x8192x8192_S2x8x8192_d3 h_S_

/-- The weights divided by their sum. -/
def shares (e : FVec F S2x8x8192x8192 .f32) (z : FVec F S2x8x8192 .f32) : FVec F S2x8x8192x8192 .f32 :=
  Host.divf e (broadcastInDim S2x8x8192x8192 ![0, 1, 2, 3] bcast_S2x8x8192x1_S2x8x8192x8192_0_1_2_3 (broadcastInDim S2x8x8192x1 ![0, 1, 2] bcast_S2x8x8192_S2x8x8192x1_0_1_2 z))

/-- The shares times the values. -/
def mixed (p : FVec F S2x8x8192x8192 .f32) (v : FVec F S2x8192x8x64 .f32) : FVec F S2x8x8192x64 .bf16 :=
  truncf .bf16 (Host.dotGeneral dot_S2x8x8192x8192_S2x8192x8x64_S2x8x8192x64_3_1_2_3_01_02 none p v) bitsLt_bf16_f32

/-- The softmax of the scores times the values. -/
def soft (s : FVec F S2x8x8192x8192 .f32) (v : FVec F S2x8192x8x64 .f32) : FVec F S2x8x8192x64 .bf16 :=
  mixed (shares (weights s (top s)) (total (weights s (top s)))) v

theorem result_split (m : (ℓ : Loc nD τ sig) → Buf (Elt F) ℓ) (c : Dev nD) :
    res_main_v37 m c = soft (scores (queries (m ((c.tc : Thread nD τ).loc main_arg0))) (keys (m ((c.tc : Thread nD τ).loc main_arg1)) (m ((c.tc : Thread nD τ).loc main_arg2)))) (vals (m ((c.tc : Thread nD τ).loc main_arg3))) := rfl

end Terms

theorem vals_at (v : MkArr) (b : Fin 2) (h : Fin 8) (k : Fin 8192) (d : Fin 64) : vals (F := Ideal) v (ix4 b k h d) = mlaValue v b h d k := by
  unfold vals mlaValue
  pointwise

theorem queries_at (x : MqArr) (b : Fin 2) (h : Fin 8) (q : Fin 8192) (d : Fin 96) : queries (F := Ideal) x (ix4 b q h d) = mlaQuery x b h q d := by
  unfold queries mlaQuery
  pointwise
  by_cases c1 : d.val < 64
  · rw [dif_pos c1, dif_pos c1]
  · rw [dif_neg c1, dif_neg c1]
    by_cases c2 : d.val < 80
    · rw [dif_pos (show d.val - 64 < 16 by omega), dif_pos c2]
    · rw [dif_neg (show ¬ d.val - 64 < 16 by omega), dif_neg c2]
      refine congrArg x (congrArg (ix3 b q) (Fin.ext ?_))
      dsimp only
      omega

theorem keys_at (y : MkArr) (z : MkrArr) (b : Fin 2) (h : Fin 8) (q : Fin 8192) (d : Fin 96) : keys (F := Ideal) y z (ix4 b q h d) = mlaKey y z b h q d := by
  unfold keys mlaKey
  pointwise
  by_cases c1 : d.val < 64
  · rw [dif_pos c1, dif_pos c1]
  · rw [dif_neg c1, dif_neg c1]
    by_cases c2 : d.val < 80
    · rw [dif_pos (show d.val - 64 < 16 by omega), dif_pos c2]
    · rw [dif_neg (show ¬ d.val - 64 < 16 by omega), dif_neg c2]
      refine congrArg z (congrArg (ix3 b q) (Fin.ext ?_))
      dsimp only
      omega

theorem scores_at (s t : FVec Ideal S2x8192x8x96 .bf16) (b : Fin 2) (h : Fin 8) (q k : Fin 8192) : scores (F := Ideal) s t (ix4 b h q k) = causal q (fun k => ∑ d : Fin 96, @HMul.hMul EReal EReal EReal _ (s (ix4 b q h d)) (t (ix4 b k h d))) k := by
  unfold scores causal
  pointwise
  rw [sle_select _ _ (by omega) (by omega)]
  split
  · rfl
  · exact ninf

theorem top_at (s : FVec Ideal S2x8x8192x8192 .f32) (b : Fin 2) (h : Fin 8) (q : Fin 8192) :
    top (F := Ideal) s (ix3 b h q) = Finset.univ.fold max (⊥ : EReal) fun k => s (ix4 b h q k) := by
  unfold top
  pointwise
  rw [ninf]

theorem weights_at (s : FVec Ideal S2x8x8192x8192 .f32) (w : FVec Ideal S2x8x8192 .f32) (b : Fin 2) (h : Fin 8) (q k : Fin 8192) :
    weights (F := Ideal) s w (ix4 b h q k) = Ideal.exp (s (ix4 b h q k) - w (ix3 b h q)) := by
  unfold weights
  pointwise
  rw [ninf, bot_sup_eq]

theorem total_at (e : FVec Ideal S2x8x8192x8192 .f32) (b : Fin 2) (h : Fin 8) (q : Fin 8192) :
    total (F := Ideal) e (ix3 b h q) = (∑ k, e (ix4 b h q k) : EReal) := by
  unfold total
  pointwise

theorem shares_at (e : FVec Ideal S2x8x8192x8192 .f32) (z : FVec Ideal S2x8x8192 .f32) (b : Fin 2) (h : Fin 8) (q k : Fin 8192) :
    shares (F := Ideal) e z (ix4 b h q k) = Ideal.div (e (ix4 b h q k)) (z (ix3 b h q)) := by
  unfold shares
  pointwise

theorem mixed_at (p : FVec Ideal S2x8x8192x8192 .f32) (v : FVec Ideal S2x8192x8x64 .f32) (b : Fin 2) (h : Fin 8) (q : Fin 8192) (d : Fin 64) :
    mixed (F := Ideal) p v (ix4 b h q d) = (∑ k, @HMul.hMul EReal EReal EReal _ (p (ix4 b h q k)) (v (ix4 b k h d)) : EReal) := by
  unfold mixed
  pointwise

theorem soft_at (s : FVec Ideal S2x8x8192x8192 .f32) (v : FVec Ideal S2x8192x8x64 .f32) (b : Fin 2) (h : Fin 8) (q : Fin 8192) (d : Fin 64) :
    soft (F := Ideal) s v (ix4 b h q d) = attn (fun k => s (ix4 b h q k)) (fun k => v (ix4 b k h d)) := by
  unfold soft attn
  rw [mixed_at]
  have e : ∀ k, weights (F := Ideal) s (top s) (ix4 b h q k) = Ideal.exp (s (ix4 b h q k) - Finset.univ.fold max (⊥ : EReal) fun k => s (ix4 b h q k)) :=
    fun k => (weights_at s (top s) b h q k).trans (by rw [top_at])
  have z : total (F := Ideal) (weights s (top s)) (ix3 b h q) = (∑ k, Ideal.exp (s (ix4 b h q k) - Finset.univ.fold max (⊥ : EReal) fun k => s (ix4 b h q k)) : EReal) :=
    (total_at _ b h q).trans (Finset.sum_congr rfl fun k _ => e k)
  exact Finset.sum_congr rfl fun k _ => congrArg (fun y : EReal => y * (v (ix4 b k h d) : EReal)) ((shares_at _ _ b h q k).trans (congrArg₂ Ideal.div (e k) z))

/-- The reference's result read at an index is the plain formula of its arguments. -/
theorem result_eq (m : (ℓ : Loc nD τ sig) → Buf (Elt Ideal) ℓ) (c : Dev nD) (b : Fin 2) (h : Fin 8) (q : Fin 8192) (d : Fin 64) (x : MqArr) (y : MkArr) (z : MkrArr) (v : MkArr)
    (h0 : m ((c.tc : Thread nD τ).loc main_arg0) = x) (h1 : m ((c.tc : Thread nD τ).loc main_arg1) = y) (h2 : m ((c.tc : Thread nD τ).loc main_arg2) = z) (h3 : m ((c.tc : Thread nD τ).loc main_arg3) = v) :
    (res_out0 m c : (⟨4, ![2, 8, 8192, 64]⟩ : Shape).Idx → EReal) (ix4 b h q d) = mla x y z v b h q d := by
  show res_main_v37 m c (ix4 b h q d) = _
  rw [result_split, h0, h1, h2, h3, soft_at, mla]
  refine congrArg₂ attn (funext fun k => (scores_at _ _ b h q k).trans ?_) (funext fun k => vals_at v b h k d)
  exact congrArg (fun s => causal q s k) (funext fun k => Finset.sum_congr rfl fun d _ => congrArg₂ (fun a b : EReal => a * b) (queries_at x b h q d) (keys_at y z b h k d))

end Cert.MlaRefIdeal.Hand

end
-- ==== Proof.MlaClaims.lean ====
module

public import proofs.«01_k».proof.Defs
public import proofs.«01_k».proof.Proof.Gen.Mla.Frame
public import proofs.«01_k».proof.Proof.Gen.MlaIdeal.Frame
public import proofs.«01_k».proof.Proof.MlaValue
public import proofs.«01_k».proof.Proof.MlaRef
public import Idealize.ShloMosaic.Lib.Quiescent
public import Idealize.ShloMosaic.Lib.ReduceAll

/-! The claims about the latent attention. -/

@[expose] public section

set_option maxRecDepth 16384

noncomputable section

namespace Cert.MlaClaims

open Idealize.ShloMosaic Idealize.ShloMosaic.TcCoe Idealize.SL.Sem Cert.AttnSpec

/-- The kernel runs, leaves its arguments and ends with every counter at zero. -/
theorem frame_p : Cert.quiescent_Mla := fun m ρ _ => Cert.Mla.Gen.frame m ρ

/-- So does its idealization. -/
theorem frame_pi : Cert.quiescent_MlaIdeal := fun m ρ _ => Cert.MlaIdeal.Gen.frame m ρ

/-- So does the reference, which declares no counter. -/
theorem frame_ri : Cert.quiescent_MlaRefIdeal := fun m ρ _ =>
  (θ_run Cert.MlaRefIdeal.defs _ _).mono (fun r h => ⟨fun c => (h c).2,
      Idealize.ShloMosaic.sem_eq_zero_of_no_sems (by decide) r.2⟩)
    (Cert.MlaRefIdeal.Value.run (F := Ideal) m ρ)

/-- The mask's constant stands for minus infinity, as the table of named constants says. -/
theorem preserves : Cert.preserves_Mla_MlaIdeal :=
  IdealRules.named_const.statement Cert.MlaIdeal.κ "mask" .f32 0xF149F2CA#32 (⊥ : EReal) rfl

section Finite

open Cert.Pre_finite_qk Cert.Pre_finite_qk.Facts

variable [Cert.Pre_finite_qk.Facts]

theorem query_cmp (x : FVec Ideal S2x8192x768 .bf16) (b : Fin 2) (q : Fin 8192) (n : Fin 768) :
    cmpf .olt (Host.absf (extf .f32 x bitsLt_bf16_f32)) (broadcastInDim S2x8192x768 ![] bcast_S_S2x8192x768 (constant (F := Ideal) S_ .f32 0x7F800000#32)) (ix3 b q n)
      = Ideal.cmp .olt (max (x (ix3 b q n)) (-(x (ix3 b q n)))) (Ideal.ofBits .f32 0x7F800000#32) := by
  pointwise
  rfl

theorem nope_cmp (y : FVec Ideal S2x8192x512 .bf16) (b : Fin 2) (q : Fin 8192) (n : Fin 512) :
    cmpf .olt (Host.absf (extf .f32 y bitsLt_bf16_f32)) (broadcastInDim S2x8192x512 ![] bcast_S_S2x8192x512 (constant (F := Ideal) S_ .f32 0x7F800000#32)) (ix3 b q n)
      = Ideal.cmp .olt (max (y (ix3 b q n)) (-(y (ix3 b q n)))) (Ideal.ofBits .f32 0x7F800000#32) := by
  pointwise
  rfl

theorem rope_cmp (z : FVec Ideal S2x8192x256 .bf16) (b : Fin 2) (q : Fin 8192) (n : Fin 256) :
    cmpf .olt (Host.absf (extf .f32 z bitsLt_bf16_f32)) (broadcastInDim S2x8192x256 ![] bcast_S_S2x8192x256 (constant (F := Ideal) S_ .f32 0x7F800000#32)) (ix3 b q n)
      = Ideal.cmp .olt (max (z (ix3 b q n)) (-(z (ix3 b q n)))) (Ideal.ofBits .f32 0x7F800000#32) := by
  pointwise
  rfl

/-- The precondition's function is one: the queries and the keys are real. -/
theorem finite (x : MqArr) (y : MkArr) (z : MkrArr) (v : MkArr) (e : Cert.Pre_finite_qk.fn (F := Ideal) x y z v = fun _ => 1#1) :
    (∀ i, ∃ a : ℝ, x i = a) ∧ (∀ i, ∃ a : ℝ, y i = a) ∧ (∀ i, ∃ a : ℝ, z i = a) := by
  obtain ⟨e12, e3⟩ := IntOp.andi_eq_one.1 (congrFun e ix0)
  obtain ⟨e1, e2⟩ := IntOp.andi_eq_one.1 e12
  refine ⟨fun i => ?_, fun i => ?_, fun i => ?_⟩
  · idx_vars i
    exact real_of_cmp _ ((query_cmp x _ _ _).symm.trans (Host.reduce_andi_all _ _ _ _ _ e1 _))
  · idx_vars i
    exact real_of_cmp _ ((nope_cmp y _ _ _).symm.trans (Host.reduce_andi_all _ _ _ _ _ e2 _))
  · idx_vars i
    exact real_of_cmp _ ((rope_cmp z _ _ _).symm.trans (Host.reduce_andi_all _ _ _ _ _ e3 _))

/-- The idealization runs so under the precondition too. -/
theorem frame_pi_pre : Cert.quiescent_MlaIdeal_pre_finite_qk := fun m ρ _ => Cert.MlaIdeal.Gen.frame m ρ

/-- So does the reference. -/
theorem frame_ri_pre : Cert.quiescent_MlaRefIdeal_pre_finite_qk := fun m ρ _ => frame_ri m ρ trivial

/-- From equal arguments with real queries and keys the kernel and the reference end with the same array. -/
theorem algebraic : Cert.algebraic_MlaIdeal_MlaRefIdeal_pre_finite_qk := fun m ρ m' ρ' hpre hag =>
  ⟨fun c => Cert.MlaIdeal.Hand.G (Cert.MlaIdeal.Hand.XQ m c) (Cert.MlaIdeal.Hand.XK m c) (Cert.MlaIdeal.Hand.XR m c) (Cert.MlaIdeal.Hand.XV m c),
    (θ_run _ _ _).mono (fun _ h c => ⟨(h c).1.trans (by
        obtain ⟨hx, hy, hz⟩ := finite _ _ _ _ (hpre c)
        exact Cert.MlaIdeal.Hand.result_eq m c hx hy hz), (h c).2⟩)
      (Cert.MlaIdeal.Value.run_blocks m ρ),
    (θ_run _ _ _).mono (fun _ h c => ⟨(h c).1.trans (by
        obtain ⟨h0, h1, h2, h3⟩ := hag c
        funext j
        idx_vars j
        exact Cert.MlaRefIdeal.Hand.result_eq m' c _ _ _ _ _ _ _ _ h0 h1 h2 h3), (h c).2⟩)
      (Cert.MlaRefIdeal.Value.run m' ρ')⟩

end Finite

end Cert.MlaClaims

end
-- ==== Proof.MoeBody.lean ====
module

public import proofs.«01_k».proof.Proof.Gen.MoeIdeal.Value
public import Idealize.ShloMosaic.Lib.Pointwise
public import Idealize.ShloMosaic.Lib.Tactic

@[expose] public section

set_option maxRecDepth 16384

noncomputable section

namespace Cert.MoeIdeal.Hand

open Cert.MoeIdeal Cert.MoeIdeal.Gen Idealize.ShloMosaic Idealize.ShloMosaic.TcCoe Idealize.SL.Sem

/-! ## What one grid point of the expert kernel leaves in its accumulator and in its output block -/

section Body

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S1024x1024 .f32) (h2 : a2.IsWhole) (a3 : Memref sig .tc .vmem S1024x1024 .bf16) (h3 : a3.IsWhole)
  (a4 : Memref sig .tc .vmem S1024x128 .f32) (h4 : a4.IsWhole) (a5 : Memref sig .tc .vmem S1x1024x256 .bf16) (h5 : a5.IsWhole)
  (a6 : Memref sig .tc .vmem S1x1024x256 .bf16) (h6 : a6.IsWhole) (a7 : Memref sig .tc .vmem S1x256x1024 .bf16) (h7 : a7.IsWhole)
  (a8 : Memref sig .tc .vmem S1x1024 .f32) (h8 : a8.IsWhole) (a9 : Memref sig .tc .vmem S1024x1024 .f32) (h9 : a9.IsWhole)
  (a10 : Memref sig .tc .vmem S1024x1024 .f32) (h10 : a10.IsWhole)
  (x0 : Vec F S1024x1024 .f32) (x1 : Vec F S1024x1024 .bf16) (x2 : Vec F S1024x128 .f32) (x3 x4 : Vec F S1x1024x256 .bf16)
  (x5 : Vec F S1x256x1024 .bf16) (x6 : Vec F S1x1024 .f32) (acc : Vec F S1024x1024 .f32)

/-- The first expert's point: the accumulator is the expert's product added to the zero block. -/
theorem acc_first (hc0 : cond0_0 i) (hc1 : ¬cond0_1 i) :
    sout0_A_0 c i a2 h2 a3 h3 a4 h4 a5 h5 a6 h6 a7 h7 a8 h8 a9 h9 a10 h10 hc0 hc1 x0 x1 x2 x3 x4 x5 x6
      = k0_pay3 i x1 x3 x4 x2 k0_pay2 x5 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S1024x1024) hz2, View.readCov_unit_zero (S := S1024x1024) _ hz2]
  simp only [View.readAt_eq_ld, h2.read_unread, h3.read_unread, h4.read_unread, h5.read_unread, h6.read_unread, h7.read_unread, h8.read_unread, h10.read_unread,
    View.ld_unit_zero (S := S1024x1024) hz2, View.ld_unit_zero (S := S1024x128) hz2, View.ld_unit_zero (S := S1x1024x256) hz3, View.ld_unit_zero (S := S1x256x1024) hz3]

/-- A middle expert's point: the accumulator grows by the expert's product. -/
theorem acc_mid (hc0 : ¬cond0_0 i) (hc1 : ¬cond0_1 i) :
    sout0_B_0 c i a2 h2 a3 h3 a4 h4 a5 h5 a6 h6 a7 h7 a8 h8 a9 h9 a10 h10 hc0 hc1 x0 x1 x2 x3 x4 x5 x6 acc
      = k0_pay3 i x1 x3 x4 x2 acc x5 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 acc)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h10.read_unread,
    View.ld_unit_zero (S := S1024x1024) hz2, View.ld_unit_zero (S := S1024x128) hz2, View.ld_unit_zero (S := S1x1024x256) hz3, View.ld_unit_zero (S := S1x256x1024) hz3]

/-- The last expert's point: the output block is the normalised sum of the residual and the grown accumulator. -/
theorem out_last (hc0 : ¬cond0_0 i) (hc1 : cond0_1 i) :
    out0_C_7 c i a2 h2 a3 h3 a4 h4 a5 h5 a6 h6 a7 h7 a8 h8 a9 h9 a10 h10 hc0 hc1 x0 x1 x2 x3 x4 x5 x6 acc
      = k0_pay1 x0 (k0_pay3 i x1 x3 x4 x2 acc x5) x6 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 acc)]
  unfold kernelRun0_C
  dsimp only
  sl_unfold_words
  rw [View.canon_unit_zero hz2]
  try rw [View.readCov_unit_zero (S := S1024x1024) _ hz2]
  simp only [View.readAt_eq_ld, h2.read_unread, h3.read_unread, h4.read_unread, h5.read_unread, h6.read_unread, h7.read_unread, h8.read_unread, h10.read_unread,
    View.ld_unit_zero (S := S1024x1024) hz2, View.ld_unit_zero (S := S1024x128) hz2, View.ld_unit_zero (S := S1x1024x256) hz3, View.ld_unit_zero (S := S1x256x1024) hz3, View.ld_unit_zero (S := S1x1024) hz2]

end Body

/-! ## The payloads at an index -/

theorem pay2_apply (r d : Fin 1024) : k0_pay2 (F := Ideal) (ix2 r d) = 0 := by
  pointwise [k0_pay2]

/-- The one-hot pick of a lane: the sum over the lanes of the lane's value where its number is the expert's, else zero. -/
theorem pick_lane (e : ℕ) (he : e < 128) (v : Fin 128 → EReal) :
    (∑ x : Fin 128, Scalar.select (IntOp.cmpi CmpIPredicate.eq (BitVec.ofNat 32 ↑x) (BitVec.ofNat 32 e)) (v x) 0) = v ⟨e, he⟩ := by
  rw [Finset.sum_eq_single ⟨e, he⟩]
  · simp [Scalar.select, IntOp.cmpi]
  · intro x _ hx
    have hne : (BitVec.ofNat 32 ↑x) ≠ (BitVec.ofNat 32 e) := by
      intro h
      apply hx
      have := congrArg BitVec.toNat h
      simp only [BitVec.toNat_ofNat] at this
      apply Fin.ext
      have := x.isLt
      simp only
      omega
    have hb : (BitVec.ofNat 32 ↑x == BitVec.ofNat 32 e) = false := beq_eq_false_iff_ne.mpr hne
    simp [Scalar.select, IntOp.cmpi, hb]
  · intro h; exact absurd (Finset.mem_univ _) h

theorem pay3_apply (i : grid0.Coords) (v3 : Vec Ideal S1024x1024 .bf16) (v4 : Vec Ideal S1x1024x256 .bf16) (v7 : Vec Ideal S1x1024x256 .bf16) (v10 : Vec Ideal S1024x128 .f32) (v24 : Vec Ideal S1024x1024 .f32) (v25 : Vec Ideal S1x256x1024 .bf16) (r d : Fin 1024) (he : (i 1).val < 128) :
    k0_pay3 i v3 v4 v7 v10 v24 v25 (ix2 r d)
      = v24 (ix2 r d) + ∑ f : Fin 256, (((∑ k : Fin 1024, v3 (ix2 r k) * v4 (ix3 0 k f)) * Ideal.logistic (∑ k : Fin 1024, v3 (ix2 r k) * v4 (ix3 0 k f)) *
          ∑ k : Fin 1024, v3 (ix2 r k) * v7 (ix3 0 k f)) * v10 (ix2 r ⟨(i 1).val, he⟩)) * v25 (ix3 0 f d) := by
  have hp := pick_lane (i 1).val he (fun x => v10 (ix2 r x))
  pointwise [k0_pay3]
  dsimp only at hp
  rw [hp]

theorem pay1_apply (v35 : Vec Ideal S1024x1024 .f32) (v36 : Vec Ideal S1024x1024 .f32) (v38 : Vec Ideal S1x1024 .f32) (r d : Fin 1024) :
    k0_pay1 v35 v36 v38 (ix2 r d) = (v35 (ix2 r d) + v36 (ix2 r d)) *
        Ideal.rsqrt
          (Ideal.div (∑ k : Fin 1024, (v35 (ix2 r k) + v36 (ix2 r k)) * (v35 (ix2 r k) + v36 (ix2 r k)))
              (Ideal.ofBits FTy.f32 1149239296#32) +
            Ideal.ofBits FTy.f32 897988541#32) *
      v38 (ix2 0 d) := by
  pointwise [k0_pay1]

end Cert.MoeIdeal.Hand

end
-- ==== Proof.MoeSpec.lean ====
module

public import Idealize.ShloMosaic.Lib.Pointwise

@[expose] public section

noncomputable section

namespace Cert.MoeSpec

open Idealize.ShloMosaic

/-! ## The expert layer and the final normalisation, as plain formulas on extended reals

The arrays are read at their indices: the residual `x`, the normalised tokens `h`, the combine weights `w` (one lane
an expert), the experts' gate, up and down matrices `a`, `b`, `d`, and the final gain `g`. -/

abbrev TokArr := (⟨2, ![16384, 1024]⟩ : Shape).Idx → EReal
abbrev CombArr := (⟨2, ![16384, 128]⟩ : Shape).Idx → EReal
abbrev UpArr := (⟨3, ![32, 1024, 256]⟩ : Shape).Idx → EReal
abbrev DownArr := (⟨3, ![32, 256, 1024]⟩ : Shape).Idx → EReal
abbrev GainArr := (⟨1, ![1024]⟩ : Shape).Idx → EReal

variable (x h : TokArr) (w : CombArr) (a b : UpArr) (d : DownArr) (g : GainArr)

/-- The weighted hidden value of expert `e` at token `r`, feature `f`: silu of the gate times the up projection, times
    the token's combine weight for the expert. -/
def weighted (r : Fin 16384) (e : Fin 32) (f : Fin 256) : EReal :=
  (((∑ k : Fin 1024, h (ix2 r k) * a (ix3 e k f)) * Ideal.logistic (∑ k : Fin 1024, h (ix2 r k) * a (ix3 e k f)) *
    ∑ k : Fin 1024, h (ix2 r k) * b (ix3 e k f)) * w (ix2 r ⟨e.val, by omega⟩))

/-- Expert `e`'s part of the layer's output at token `r`, column `j`. -/
def expert (r : Fin 16384) (j : Fin 1024) (e : Fin 32) : EReal :=
  ∑ f : Fin 256, weighted h w a b r e f * d (ix3 e f j)

/-- The same by the expert's number, zero past the last expert. -/
def expertN (r : Fin 16384) (j : Fin 1024) (n : ℕ) : EReal :=
  if hn : n < 32 then expert h w a b d r j ⟨n, hn⟩ else 0

/-- The residual stream after the experts. -/
def stream (r : Fin 16384) (j : Fin 1024) : EReal := x (ix2 r j) + ∑ e : Fin 32, expert h w a b d r j e

/-- The final normalised row: each entry over the root of the row's mean square plus the small constant, times the gain. -/
def normed (r : Fin 16384) (j : Fin 1024) : EReal :=
  stream x h w a b d r j *
      Ideal.rsqrt (Ideal.div (∑ k : Fin 1024, stream x h w a b d r k * stream x h w a b d r k) (Ideal.ofBits FTy.f32 1149239296#32)
        + Ideal.ofBits FTy.f32 897988541#32) * g (ix1 j)

/-- The sum of the first 32 numbered parts is the sum over the experts. -/
theorem sum_expertN (r : Fin 16384) (j : Fin 1024) :
    ∑ n ∈ Finset.range 32, expertN h w a b d r j n = ∑ e : Fin 32, expert h w a b d r j e := by
  rw [Finset.sum_range]
  exact Finset.sum_congr rfl fun e _ => dif_pos e.isLt

end Cert.MoeSpec

end
-- ==== Proof.MoeValue.lean ====
module

public import proofs.«01_k».proof.Proof.MoeBody
public import proofs.«01_k».proof.Proof.MoeSpec

@[expose] public section

set_option maxRecDepth 16384

noncomputable section

namespace Cert.MoeIdeal.Hand

open Cert.MoeIdeal Cert.MoeIdeal.Gen Cert.MoeSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The arrays the launch finds -/

abbrev X : TokArr := m ((c : Thread nD τ).loc main_arg0)
abbrev H : TokArr := m ((c : Thread nD τ).loc main_arg1)
abbrev W : CombArr := m ((c : Thread nD τ).loc main_arg2)
abbrev A : UpArr := m ((c : Thread nD τ).loc main_arg3)
abbrev B : UpArr := m ((c : Thread nD τ).loc main_arg4)
abbrev D : DownArr := m ((c : Thread nD τ).loc main_arg5)
abbrev G : GainArr := m ((c : Thread nD τ).loc main_arg6)

theorem V_gate : V m c main_v0 = (truncf (F := Ideal) .bf16 (m ((c : Thread nD τ).loc main_arg3) : FVec Ideal S32x1024x256 .f32) bitsLt_bf16_f32 : FVec Ideal S32x1024x256 .bf16) := by
  simp only [V, hostOps0]; after_results_simp
theorem V_up : V m c main_v1 = (truncf (F := Ideal) .bf16 (m ((c : Thread nD τ).loc main_arg4) : FVec Ideal S32x1024x256 .f32) bitsLt_bf16_f32 : FVec Ideal S32x1024x256 .bf16) := by
  simp only [V, hostOps0]; after_results_simp
theorem V_down : V m c main_v2 = (truncf (F := Ideal) .bf16 (m ((c : Thread nD τ).loc main_arg5) : FVec Ideal S32x256x1024 .f32) bitsLt_bf16_f32 : FVec Ideal S32x256x1024 .bf16) := by
  simp only [V, hostOps0]; after_results_simp
theorem V_gain : V m c main_v3 = shapeCast S1x1024 (m ((c : Thread nD τ).loc main_arg6)) shapeCasts_S1024_S1x1024 := by
  simp only [V, hostOps0]; after_results_simp
  rfl

/-! ## The blocks at an index: point `t` is token tile `t / 32`, expert `t % 32` -/

theorem point_facts : ∀ t : Fin cfg0.N, (grid0.coords t 1).val = t.val % 32
    ∧ win0_0.index t = ![t.val / 32, 0] ∧ win0_1.index t = ![t.val / 32, 0] ∧ win0_2.index t = ![t.val / 32, 0]
    ∧ win0_3.index t = ![t.val % 32, 0, 0] ∧ win0_4.index t = ![t.val % 32, 0, 0] ∧ win0_5.index t = ![t.val % 32, 0, 0]
    ∧ win0_6.index t = ![0, 0] :=
  (by decide +kernel : ∀ t : Fin grid0.N, _)

theorem lt512 (t : Fin cfg0.N) : t.val < 512 := lt_of_lt_of_eq t.isLt N_0

/-- Row `r` of point `t`'s token tile. -/
def row (t : Fin cfg0.N) (r : Fin 1024) : Fin 16384 := ⟨t.val / 32 * 1024 + r.val, by have := lt512 t; omega⟩
/-- Point `t`'s expert. -/
def exp (t : Fin cfg0.N) : Fin 32 := ⟨t.val % 32, Nat.mod_lt _ (by decide)⟩

theorem blk0 (t : Fin cfg0.N) (r k : Fin 1024) : (iblk m c 0 t : Vec Ideal S1024x1024 .f32) (ix2 r k) = X m c (ix2 (row t r) k) := by
  obtain ⟨-, e, -⟩ := point_facts t
  unfold iblk
  rw [View.read_apply]
  show V m c main_arg0 _ = _
  rw [V_main_arg0]
  refine congrArg _ (funext fun a => Fin.ext ?_)
  have e0 := congrFun e 0
  have e1 := congrFun e 1
  match a with
  | ⟨0, _⟩ => show win0_0.index t 0 * 1024 + 1 * r.val = t.val / 32 * 1024 + r.val; rw [e0]; simp
  | ⟨1, _⟩ => show win0_0.index t 1 * 1024 + 1 * k.val = k.val; rw [e1]; simp

theorem blk1 (t : Fin cfg0.N) (r k : Fin 1024) : (iblk m c 1 t : Vec Ideal S1024x1024 .bf16) (ix2 r k) = H m c (ix2 (row t r) k) := by
  obtain ⟨-, -, e, -⟩ := point_facts t
  unfold iblk
  rw [View.read_apply]
  show V m c main_arg1 _ = _
  rw [V_main_arg1]
  refine congrArg _ (funext fun a => Fin.ext ?_)
  have e0 := congrFun e 0
  have e1 := congrFun e 1
  match a with
  | ⟨0, _⟩ => show win0_1.index t 0 * 1024 + 1 * r.val = t.val / 32 * 1024 + r.val; rw [e0]; simp
  | ⟨1, _⟩ => show win0_1.index t 1 * 1024 + 1 * k.val = k.val; rw [e1]; simp

theorem blk2 (t : Fin cfg0.N) (r : Fin 1024) (k : Fin 128) : (iblk m c 2 t : Vec Ideal S1024x128 .f32) (ix2 r k) = W m c (ix2 (row t r) k) := by
  obtain ⟨-, -, -, e, -⟩ := point_facts t
  unfold iblk
  rw [View.read_apply]
  show V m c main_arg2 _ = _
  rw [V_main_arg2]
  refine congrArg _ (funext fun a => Fin.ext ?_)
  have e0 := congrFun e 0
  have e1 := congrFun e 1
  match a with
  | ⟨0, _⟩ => show win0_2.index t 0 * 1024 + 1 * r.val = t.val / 32 * 1024 + r.val; rw [e0]; simp
  | ⟨1, _⟩ => show win0_2.index t 1 * 128 + 1 * k.val = k.val; rw [e1]; simp

theorem blk3 (t : Fin cfg0.N) (k : Fin 1024) (f : Fin 256) : (iblk m c 3 t : Vec Ideal S1x1024x256 .bf16) (ix3 0 k f) = A m c (ix3 (exp t) k f) := by
  obtain ⟨-, -, -, -, e, -⟩ := point_facts t
  unfold iblk
  rw [View.read_apply]
  show V m c main_v0 _ = _
  rw [V_gate]
  show m ((c : Thread nD τ).loc main_arg3) _ = _
  refine congrArg _ (funext fun a => Fin.ext ?_)
  have e0 := congrFun e 0
  have e1 := congrFun e 1
  have e2 := congrFun e 2
  match a with
  | ⟨0, _⟩ => show win0_3.index t 0 * 1 + 1 * 0 = t.val % 32; rw [e0]; simp
  | ⟨1, _⟩ => show win0_3.index t 1 * 1024 + 1 * k.val = k.val; rw [e1]; simp
  | ⟨2, _⟩ => show win0_3.index t 2 * 256 + 1 * f.val = f.val; rw [e2]; simp

theorem blk4 (t : Fin cfg0.N) (k : Fin 1024) (f : Fin 256) : (iblk m c 4 t : Vec Ideal S1x1024x256 .bf16) (ix3 0 k f) = B m c (ix3 (exp t) k f) := by
  obtain ⟨-, -, -, -, -, e, -⟩ := point_facts t
  unfold iblk
  rw [View.read_apply]
  show V m c main_v1 _ = _
  rw [V_up]
  show m ((c : Thread nD τ).loc main_arg4) _ = _
  refine congrArg _ (funext fun a => Fin.ext ?_)
  have e0 := congrFun e 0
  have e1 := congrFun e 1
  have e2 := congrFun e 2
  match a with
  | ⟨0, _⟩ => show win0_4.index t 0 * 1 + 1 * 0 = t.val % 32; rw [e0]; simp
  | ⟨1, _⟩ => show win0_4.index t 1 * 1024 + 1 * k.val = k.val; rw [e1]; simp
  | ⟨2, _⟩ => show win0_4.index t 2 * 256 + 1 * f.val = f.val; rw [e2]; simp

theorem blk5 (t : Fin cfg0.N) (f : Fin 256) (k : Fin 1024) : (iblk m c 5 t : Vec Ideal S1x256x1024 .bf16) (ix3 0 f k) = D m c (ix3 (exp t) f k) := by
  obtain ⟨-, -, -, -, -, -, e, -⟩ := point_facts t
  unfold iblk
  rw [View.read_apply]
  show V m c main_v2 _ = _
  rw [V_down]
  show m ((c : Thread nD τ).loc main_arg5) _ = _
  refine congrArg _ (funext fun a => Fin.ext ?_)
  have e0 := congrFun e 0
  have e1 := congrFun e 1
  have e2 := congrFun e 2
  match a with
  | ⟨0, _⟩ => show win0_5.index t 0 * 1 + 1 * 0 = t.val % 32; rw [e0]; simp
  | ⟨1, _⟩ => show win0_5.index t 1 * 256 + 1 * f.val = f.val; rw [e1]; simp
  | ⟨2, _⟩ => show win0_5.index t 2 * 1024 + 1 * k.val = k.val; rw [e2]; simp

theorem blk6 (t : Fin cfg0.N) (k : Fin 1024) : (iblk m c 6 t : Vec Ideal S1x1024 .f32) (ix2 0 k) = G m c (ix1 k) := by
  obtain ⟨-, -, -, -, -, -, -, e⟩ := point_facts t
  have e0 := congrFun e 0
  have e1 := congrFun e 1
  unfold iblk
  rw [View.read_apply]
  have hi : ((cfg0.win 6).blk t).view.emb (ix2 0 k) = (ix2 0 k : S1x1024.Idx) := by
    refine funext fun a => Fin.ext ?_
    match a with
    | ⟨0, _⟩ => show win0_6.index t 0 * 1 + 1 * 0 = 0; rw [e0]; simp
    | ⟨1, _⟩ => show win0_6.index t 1 * 1024 + 1 * k.val = k.val; rw [e1]; simp
  show V m c main_v3 (((cfg0.win 6).blk t).view.emb (ix2 0 k)) = _
  rw [hi, V_gain]
  have : ∀ g : Vec Ideal S1024 .f32, shapeCast S1x1024 g shapeCasts_S1024_S1x1024 (ix2 0 k) = g (ix1 k) := by
    intro g; pointwise
  exact this _

/-! ## The accumulator after a point -/

/-- A step whose blocks' entries are the arrays' at token `R` and expert `e`: the accumulator's entry grows by the
    expert's part. -/
theorem step_of (i : grid0.Coords) (v3 : Vec Ideal S1024x1024 .bf16) (v4 v7 : Vec Ideal S1x1024x256 .bf16) (v10 : Vec Ideal S1024x128 .f32)
    (v24 : Vec Ideal S1024x1024 .f32) (v25 : Vec Ideal S1x256x1024 .bf16) (r j : Fin 1024)
    (h : TokArr) (w : CombArr) (a b : UpArr) (d : DownArr) (R : Fin 16384) (e : Fin 32) (he : (i 1).val = e.val)
    (e3 : ∀ k : Fin 1024, v3 (ix2 r k) = h (ix2 R k)) (e4 : ∀ (k : Fin 1024) (f : Fin 256), v4 (ix3 0 k f) = a (ix3 e k f))
    (e7 : ∀ (k : Fin 1024) (f : Fin 256), v7 (ix3 0 k f) = b (ix3 e k f)) (e10 : ∀ k : Fin 128, v10 (ix2 r k) = w (ix2 R k))
    (e25 : ∀ f : Fin 256, v25 (ix3 0 f j) = d (ix3 e f j)) :
    k0_pay3 i v3 v4 v7 v10 v24 v25 (ix2 r j) = v24 (ix2 r j) + expert h w a b d R j e := by
  have hv : (i 1).val < 128 := by omega
  rw [pay3_apply _ _ _ _ _ _ _ _ _ hv]
  simp only [e3, e4, e7, e10, e25]
  have hx : (⟨(i 1).val, hv⟩ : Fin 128) = ⟨e.val, by omega⟩ := Fin.ext he
  rw [hx]
  rfl

/-- One point's step: the accumulator's entry grows by the point's expert's part. -/
theorem step_apply (t : Fin cfg0.N) (acc : Vec Ideal S1024x1024 .f32) (r j : Fin 1024) :
    k0_pay3 (grid0.coords t) (iblk m c 1 t) (iblk m c 3 t) (iblk m c 4 t) (iblk m c 2 t) acc (iblk m c 5 t) (ix2 r j)
      = acc (ix2 r j) + expertN (H m c) (W m c) (A m c) (B m c) (D m c) (row t r) j (t.val % 32) := by
  have hl : t.val % 32 < 32 := Nat.mod_lt _ (by decide)
  unfold expertN
  rw [dif_pos hl]
  exact step_of _ _ _ _ _ _ _ r j _ _ _ _ _ (row t r) (exp t) (point_facts t).1 (blk1 m c t r) (blk3 m c t) (blk4 m c t) (blk2 m c t r)
    (fun f => blk5 m c t f j)

/-- After point `t` the accumulator holds the parts of the experts up to the point's. -/
theorem acc_eq : ∀ (n : ℕ) (hn : n < cfg0.N), n % 32 ≠ 31 → ∀ r j : Fin 1024,
    (outsAt0 m c n hn).2 (ix2 r j) = ∑ e ∈ Finset.range (n % 32 + 1), expertN (H m c) (W m c) (A m c) (B m c) (D m c) (row ⟨n, hn⟩ r) j e := by
  intro n
  induction n with
  | zero =>
    intro hn _ r j
    rw [outsAt0_A m c ⟨0, hn⟩ rfl (by dsimp only; omega)]
    dsimp only
    rw [acc_first, step_apply, pay2_apply, zero_add]
    simp
  | succ n ih =>
    intro hn h31 r j
    by_cases h0 : (n + 1) % 32 = 0
    · rw [outsAt0_A m c ⟨n + 1, hn⟩ h0 h31]
      dsimp only
      rw [acc_first, step_apply, pay2_apply, zero_add]
      dsimp only
      rw [h0]
      simp
    · rw [outsAt0_B m c ⟨n + 1, hn⟩ h0 h31]
      dsimp only
      rw [acc_mid, step_apply]
      have hn' : n < cfg0.N := Nat.lt_of_succ_lt hn
      have hm : (n + 1) % 32 = n % 32 + 1 := by omega
      have hr : row ⟨n + 1, hn⟩ r = row ⟨n, hn'⟩ r := by
        apply Fin.ext; show (n + 1) / 32 * 1024 + r.val = n / 32 * 1024 + r.val
        have : (n + 1) / 32 = n / 32 := by omega
        rw [this]
      show (outsAt0 m c n _).2 (ix2 r j) + _ = _
      rw [ih hn' (by omega)]
      dsimp only
      rw [hm, Finset.sum_range_succ _ (n % 32 + 1), hr]

/-- A last expert's point leaves the normalised rows in the output block. -/
theorem out_eq (t : Fin cfg0.N) (h31 : t.val % 32 = 31) (r j : Fin 1024) :
    (outsAt0 m c t.val t.isLt).1 (ix2 r j) = normed (X m c) (H m c) (W m c) (A m c) (B m c) (D m c) (G m c) (row t r) j := by
  obtain ⟨n, hn⟩ := t
  dsimp only at h31
  obtain ⟨n, rfl⟩ : ∃ k, n = k + 1 := ⟨n - 1, by omega⟩
  have hn' : n < cfg0.N := Nat.lt_of_succ_lt hn
  have hm : n % 32 = 30 := by omega
  have hr : ∀ r, row ⟨n + 1, hn⟩ r = row ⟨n, hn'⟩ r := fun r => by
    apply Fin.ext; show (n + 1) / 32 * 1024 + r.val = n / 32 * 1024 + r.val
    have : (n + 1) / 32 = n / 32 := by omega
    rw [this]
  have hacc : ∀ k : Fin 1024, k0_pay3 (grid0.coords ⟨n + 1, hn⟩) (iblk m c 1 ⟨n + 1, hn⟩) (iblk m c 3 ⟨n + 1, hn⟩) (iblk m c 4 ⟨n + 1, hn⟩) (iblk m c 2 ⟨n + 1, hn⟩)
      (outsAt0 m c n hn').2 (iblk m c 5 ⟨n + 1, hn⟩) (ix2 r k) = ∑ e : Fin 32, expert (H m c) (W m c) (A m c) (B m c) (D m c) (row ⟨n + 1, hn⟩ r) k e := by
    intro k
    rw [step_apply, acc_eq m c n hn' (by omega), ← sum_expertN]
    dsimp only
    rw [hm, h31, hr]
    exact (Finset.sum_range_succ _ 31).symm
  rw [outsAt0_C m c ⟨n + 1, hn⟩ (by dsimp only; omega) h31]
  dsimp only
  rw [out_last, pay1_apply]
  unfold normed stream
  show (_ + k0_pay3 _ _ _ _ _ (outsAt0 m c n hn').2 _ (ix2 r j)) * _ * _ = _
  rw [hacc j, blk0, blk6]
  have hs : ∀ k : Fin 1024, @HAdd.hAdd EReal EReal EReal _ ((iblk m c 0 ⟨n + 1, hn⟩ : Vec Ideal S1024x1024 .f32) (ix2 r k))
      (k0_pay3 (grid0.coords ⟨n + 1, hn⟩) (iblk m c 1 ⟨n + 1, hn⟩) (iblk m c 3 ⟨n + 1, hn⟩) (iblk m c 4 ⟨n + 1, hn⟩) (iblk m c 2 ⟨n + 1, hn⟩)
      (outsAt0 m c n hn').2 (iblk m c 5 ⟨n + 1, hn⟩) (ix2 r k))
      = X m c (ix2 (row ⟨n + 1, hn⟩ r) k) + ∑ e : Fin 32, expert (H m c) (W m c) (A m c) (B m c) (D m c) (row ⟨n + 1, hn⟩ r) k e :=
    fun k => by rw [hacc k, blk0]
  congr 5
  exact Finset.sum_congr rfl fun k _ => congrArg₂ (· * ·) (hs k) (hs k)

/-- The result array after the run: the normalised rows of the stream. -/
theorem result_eq (r : Fin 16384) (j : Fin 1024) :
    (Value.G7 m c : TokArr) (ix2 r j) = normed (X m c) (H m c) (W m c) (A m c) (B m c) (D m c) (G m c) r j := by
  have hp : Value.pt7Of (ix2 r j) < cfg0.N := by
    rw [show cfg0.N = 512 from N_0]
    show 32 * (1 * (r.val / 1024 - 0) + 1 * (j.val / 1024 - 0)) + 31 < 512
    omega
  have hpt : Value.pt7Of (ix2 r j) = 32 * (r.val / 1024) + 31 := by
    show 32 * (1 * (r.val / 1024 - 0) + 1 * (j.val / 1024 - 0)) + 31 = _
    omega
  show (Value.G7 m c) (ix2 r j) = _
  unfold Value.G7
  rw [dif_pos hp]
  have hs := Value.outsAt0_sweep m c (Value.pt7Of (ix2 r j)) hp
  rw [← hs]
  have hl : Value.loc7Of (ix2 r j) = (ix2 ⟨r.val % 1024, Nat.mod_lt _ (by decide)⟩ j : S1024x1024.Idx) := by
    funext a; apply Fin.ext
    match a with
    | ⟨0, _⟩ => rfl
    | ⟨1, _⟩ => show j.val % 1024 = j.val; omega
  rw [hl, out_eq m c ⟨Value.pt7Of (ix2 r j), hp⟩ (by dsimp only; rw [hpt]; omega)]
  congr 1
  apply Fin.ext
  show Value.pt7Of (ix2 r j) / 32 * 1024 + r.val % 1024 = r.val
  rw [hpt]; omega

end Cert.MoeIdeal.Hand

end
-- ==== Proof.MoeRef.lean ====
module

public import proofs.«01_k».proof.Proof.Gen.MoeRefIdeal.Run
public import proofs.«01_k».proof.Proof.MoeSpec

@[expose] public section

set_option maxRecDepth 16384

noncomputable section

namespace Cert.MoeRefIdeal.Hand

open Cert.MoeRefIdeal Cert.MoeRefIdeal.Gen Cert.MoeRefIdeal.Value Cert.MoeSpec Idealize.ShloMosaic Idealize.ShloMosaic.TcCoe Idealize.SL.Sem

variable (m : (ℓ : Loc nD τ sig) → Buf (Elt Ideal) ℓ) (c : Dev nD)

set_option maxHeartbeats 2000000 in
/-- The reference's result read at an index is the plain formula of its arguments. -/
theorem result_eq (r : Fin 16384) (j : Fin 1024) (x h : TokArr) (w : CombArr) (a b : UpArr) (d : DownArr) (g : GainArr)
    (h0 : m ((c.tc : Thread nD τ).loc main_arg0) = x) (h1 : m ((c.tc : Thread nD τ).loc main_arg1) = h)
    (h2 : m ((c.tc : Thread nD τ).loc main_arg2) = w) (h3 : m ((c.tc : Thread nD τ).loc main_arg3) = a)
    (h4 : m ((c.tc : Thread nD τ).loc main_arg4) = b) (h5 : m ((c.tc : Thread nD τ).loc main_arg5) = d)
    (h6 : m ((c.tc : Thread nD τ).loc main_arg6) = g) :
    (res_out0 m c : TokArr) (ix2 r j) = normed x h w a b d g r j := by
  show res_main_v23 m c (ix2 r j) = _
  unfold res_main_v23 normed stream expert weighted Ideal.logistic
  simp only [h0, h1, h2, h3, h4, h5, h6]
  pointwise

end Cert.MoeRefIdeal.Hand

end
-- ==== Proof.MoeClaims.lean ====
module

public import proofs.«01_k».proof.Defs
public import proofs.«01_k».proof.Proof.Gen.Moe.Frame
public import proofs.«01_k».proof.Proof.Gen.MoeIdeal.Frame
public import proofs.«01_k».proof.Proof.MoeValue
public import proofs.«01_k».proof.Proof.MoeRef
public import Idealize.ShloMosaic.Lib.Quiescent

/-! The claims about the mixture of experts. -/

@[expose] public section

set_option maxRecDepth 16384

noncomputable section

namespace Cert.MoeClaims

open Idealize.ShloMosaic Idealize.SL.Sem

/-- The kernel runs, leaves its arguments and ends with every counter at zero. -/
theorem frame_p : Cert.quiescent_Moe := fun m ρ _ => Cert.Moe.Gen.frame m ρ

/-- So does its idealization. -/
theorem frame_pi : Cert.quiescent_MoeIdeal := fun m ρ _ => Cert.MoeIdeal.Gen.frame m ρ

/-- So does the reference, which declares no counter. -/
theorem frame_ri : Cert.quiescent_MoeRefIdeal := fun m ρ _ =>
  (θ_run Cert.MoeRefIdeal.defs _ _).mono (fun r h => ⟨fun c => (h c).2,
      Idealize.ShloMosaic.sem_eq_zero_of_no_sems (by decide) r.2⟩)
    (Cert.MoeRefIdeal.Value.run (F := Ideal) m ρ)

/-- No operation was replaced. -/
theorem preserves : Cert.preserves_Moe_MoeIdeal := trivial

/-- From equal arguments the kernel and the reference end with the same array. -/
theorem algebraic : Cert.algebraic_MoeIdeal_MoeRefIdeal := fun m ρ m' ρ' _ hag =>
  ⟨fun c => Cert.MoeIdeal.Value.G7 m c, Cert.MoeIdeal.Value.run m ρ,
    (θ_run _ _ _).mono (fun _ h c => ⟨(h c).1.trans (by
        obtain ⟨h0, h1, h2, h3, h4, h5, h6⟩ := hag c
        funext j
        idx_vars j
        exact (Cert.MoeRefIdeal.Hand.result_eq m' c _ _ _ _ _ _ _ _ _ h0 h1 h2 h3 h4 h5 h6).trans
          (Cert.MoeIdeal.Hand.result_eq m c _ _).symm), (h c).2⟩)
      (Cert.MoeRefIdeal.Value.run m' ρ')⟩

end Cert.MoeClaims

end
-- ==== Proof.MergeSpec.lean ====
module

public import Idealize.ShloMosaic.Lib.Pointwise

@[expose] public section

noncomputable section

namespace Cert.MergeSpec

open Idealize.ShloMosaic

/-! ## The gated sum of the three attentions and the second normalisation, as plain formulas on extended reals

Every formula is about one token: `x` is its residual row, `oa`, `ob`, `oc` its three attention rows, `g` the first
gain, `wm` and `bm` the gates' weights and biases (three groups of 1024 columns), `wa`, `wb`, `wc` the three output
projections, `wo` the last projection and `g'` the second gain. -/

/-- A row over the root of its mean square plus the small constant, times the gain; `len` is the row's length. -/
def rmsRow {n : ℕ} (len : EReal) (v g : Fin n → EReal) (j : Fin n) : EReal :=
  v j * Ideal.rsqrt (Ideal.div (∑ k : Fin n, v k * v k) len + Ideal.ofBits FTy.f32 897988541#32) * g j

/-- The same with 1024 entries. -/
abbrev norm1024 : (Fin 1024 → EReal) → (Fin 1024 → EReal) → Fin 1024 → EReal := rmsRow (Ideal.ofBits FTy.f32 1149239296#32)

/-- Column `j` of the gates' group `i`. -/
def col (i : Fin 3) (j : Fin 1024) : Fin 3072 := ⟨i.val * 1024 + j.val, by omega⟩

/-- The gate's argument. -/
def gateArg (h : Fin 1024 → EReal) (wm : Fin 1024 → Fin 3072 → EReal) (bm : Fin 3072 → EReal) (i : Fin 3) (j : Fin 1024) : EReal :=
  (∑ k : Fin 1024, h k * wm k (col i j)) + bm (col i j)

/-- One attention's part: its gate times its projected row. -/
def branch (h : Fin 1024 → EReal) (wm : Fin 1024 → Fin 3072 → EReal) (bm : Fin 3072 → EReal) (o : Fin 512 → EReal) (w : Fin 512 → Fin 1024 → EReal)
    (i : Fin 3) (j : Fin 1024) : EReal :=
  Ideal.logistic (gateArg h wm bm i j) * ∑ k : Fin 512, o k * w k j

/-- The gated sum of the three attentions. -/
def mixed (x : Fin 1024 → EReal) (oa ob oc : Fin 512 → EReal) (g : Fin 1024 → EReal) (wm : Fin 1024 → Fin 3072 → EReal) (bm : Fin 3072 → EReal)
    (wa wb wc : Fin 512 → Fin 1024 → EReal) (j : Fin 1024) : EReal :=
  branch (norm1024 x g) wm bm oa wa 0 j + branch (norm1024 x g) wm bm ob wb 1 j + branch (norm1024 x g) wm bm oc wc 2 j

/-- The residual row after the attentions. -/
def stream (x : Fin 1024 → EReal) (oa ob oc : Fin 512 → EReal) (g : Fin 1024 → EReal) (wm : Fin 1024 → Fin 3072 → EReal) (bm : Fin 3072 → EReal)
    (wa wb wc : Fin 512 → Fin 1024 → EReal) (wo : Fin 1024 → Fin 1024 → EReal) (j : Fin 1024) : EReal :=
  x j + ∑ k : Fin 1024, mixed x oa ob oc g wm bm wa wb wc k * wo k j

theorem ext2 {a b : ℕ} {x y : (⟨2, ![a, b]⟩ : Shape).Idx} (h0 : (x 0).val = (y 0).val) (h1 : (x 1).val = (y 1).val) : x = y :=
  funext fun i => match i with | ⟨0, _⟩ => Fin.ext h0 | ⟨1, _⟩ => Fin.ext h1

theorem ext3 {a b c : ℕ} {x y : (⟨3, ![a, b, c]⟩ : Shape).Idx} (h0 : (x 0).val = (y 0).val) (h1 : (x 1).val = (y 1).val) (h2 : (x 2).val = (y 2).val) : x = y :=
  funext fun i => match i with | ⟨0, _⟩ => Fin.ext h0 | ⟨1, _⟩ => Fin.ext h1 | ⟨2, _⟩ => Fin.ext h2

abbrev TokArr := (⟨2, ![16384, 1024]⟩ : Shape).Idx → EReal
abbrev OutArr := (⟨2, ![16384, 512]⟩ : Shape).Idx → EReal
abbrev GainArr := (⟨1, ![1024]⟩ : Shape).Idx → EReal
abbrev GateArr := (⟨2, ![1024, 3072]⟩ : Shape).Idx → EReal
abbrev BiasArr := (⟨1, ![3072]⟩ : Shape).Idx → EReal
abbrev ProjArr := (⟨2, ![512, 1024]⟩ : Shape).Idx → EReal
abbrev LastArr := (⟨2, ![1024, 1024]⟩ : Shape).Idx → EReal

/-- The residual row of token `r`, from the arrays. -/
def streamOf (x : TokArr) (oa ob oc : OutArr) (g : GainArr) (wm : GateArr) (bm : BiasArr) (wa wb wc : ProjArr) (wo : LastArr) (r : Fin 16384) : Fin 1024 → EReal :=
  stream (fun k => x (ix2 r k)) (fun k => oa (ix2 r k)) (fun k => ob (ix2 r k)) (fun k => oc (ix2 r k)) (fun k => g (ix1 k))
    (fun k n => wm (ix2 k n)) (fun n => bm (ix1 n)) (fun k j => wa (ix2 k j)) (fun k j => wb (ix2 k j)) (fun k j => wc (ix2 k j)) (fun k j => wo (ix2 k j))

/-- Its normalised row. -/
def normedOf (x : TokArr) (oa ob oc : OutArr) (g : GainArr) (wm : GateArr) (bm : BiasArr) (wa wb wc : ProjArr) (wo : LastArr) (g' : GainArr) (r : Fin 16384) :
    Fin 1024 → EReal :=
  norm1024 (streamOf x oa ob oc g wm bm wa wb wc wo r) (fun k => g' (ix1 k))

end Cert.MergeSpec

end
-- ==== Proof.MergeBody.lean ====
module

public import proofs.«01_k».proof.Proof.Gen.MergeIdeal.Value
public import proofs.«01_k».proof.Proof.MergeSpec
public import Idealize.ShloMosaic.Lib.Pointwise
public import Idealize.ShloMosaic.Lib.Tactic

@[expose] public section

set_option maxRecDepth 16384

noncomputable section

namespace Cert.MergeIdeal.Hand

open Cert.MergeIdeal Cert.MergeIdeal.Gen Cert.MergeSpec Idealize.ShloMosaic Idealize.ShloMosaic.TcCoe Idealize.SL.Sem

/-! ## The payloads at an index -/

theorem pay2_at (v0 : Vec Ideal S512x1024 .f32) (v1 : Vec Ideal S1x1024 .f32) (r : Fin 512) (j : Fin 1024) :
    k0_pay2 v0 v1 (ix2 r j) = norm1024 (fun k => v0 (ix2 r k)) (fun k => v1 (ix2 0 k)) j := by
  unfold norm1024 rmsRow
  pointwise [k0_pay2]

theorem pay3_at (v0 : Vec Ideal S512x1024 .f32) (v1 : Vec Ideal S1x1024 .f32) (w : Vec Ideal S1024x1024 .bf16) (b : Vec Ideal S1x1024 .f32)
    (o : Vec Ideal S512x512 .bf16) (p : Vec Ideal S1x512x1024 .bf16) (r : Fin 512) (j : Fin 1024) :
    k0_pay3 v0 v1 w b o p (ix2 r j) = Ideal.logistic ((∑ k : Fin 1024, k0_pay2 v0 v1 (ix2 r k) * w (ix2 k j)) + b (ix2 0 j)) * ∑ k : Fin 512, o (ix2 r k) * p (ix3 0 k j) := by
  pointwise [k0_pay3]

theorem pay4_at (v0 : Vec Ideal S512x1024 .f32) (v1 : Vec Ideal S1x1024 .f32) (w : Vec Ideal S1024x1024 .bf16) (b : Vec Ideal S1x1024 .f32) (r : Fin 512) (j : Fin 1024) :
    k0_pay4 v0 v1 w b (ix2 r j) = (∑ k : Fin 1024, k0_pay2 v0 v1 (ix2 r k) * w (ix2 k j)) + b (ix2 0 j) := by
  pointwise [k0_pay4]

theorem pay5_at (v0 : Vec Ideal S512x1024 .f32) (h : Vec Ideal S512x1024 .bf16) (a : Vec Ideal S512x1024 .f32) (e : Vec Ideal S512x1024 .f32)
    (o : Vec Ideal S512x512 .bf16) (p : Vec Ideal S1x512x1024 .bf16) (w : Vec Ideal S1024x1024 .bf16) (b : Vec Ideal S1x1024 .f32)
    (o' : Vec Ideal S512x512 .bf16) (p' : Vec Ideal S1x512x1024 .bf16) (wo : Vec Ideal S1024x1024 .bf16) (r : Fin 512) (j : Fin 1024) :
    k0_pay5 v0 h a e o p w b o' p' wo (ix2 r j) = v0 (ix2 r j) + ∑ n : Fin 1024, (a (ix2 r n) + Ideal.logistic (e (ix2 r n)) * (∑ k : Fin 512, o (ix2 r k) * p (ix3 0 k n))
      + Ideal.logistic ((∑ k : Fin 1024, h (ix2 r k) * w (ix2 k n)) + b (ix2 0 n)) * ∑ k : Fin 512, o' (ix2 r k) * p' (ix3 0 k n)) * wo (ix2 n j) := by
  pointwise [k0_pay5]

theorem pay7_at (v0 : Vec Ideal S512x1024 .f32) (h : Vec Ideal S512x1024 .bf16) (a : Vec Ideal S512x1024 .f32) (e : Vec Ideal S512x1024 .f32)
    (o : Vec Ideal S512x512 .bf16) (p : Vec Ideal S1x512x1024 .bf16) (w : Vec Ideal S1024x1024 .bf16) (b : Vec Ideal S1x1024 .f32)
    (o' : Vec Ideal S512x512 .bf16) (p' : Vec Ideal S1x512x1024 .bf16) (wo : Vec Ideal S1024x1024 .bf16) (r : Fin 512) :
    k0_pay7 v0 h a e o p w b o' p' wo (ix2 r 0)
      = ∑ n : Fin 1024, k0_pay5 v0 h a e o p w b o' p' wo (ix2 r n) * k0_pay5 v0 h a e o p w b o' p' wo (ix2 r n) := by
  pointwise [k0_pay7]

theorem pay10_at (v : Vec Ideal S512x1024 .f32) (g : Vec Ideal S1x1024 .f32) (s : Vec Ideal S512x1 .f32) (r : Fin 512) (j : Fin 1024)
    (hs : s (ix2 r 0) = ∑ n : Fin 1024, v (ix2 r n) * v (ix2 r n)) :
    k0_pay10 v (k0_pay6 g) s k0_pay8 (ix2 r j) = norm1024 (fun k => v (ix2 r k)) (fun k => g (ix2 0 k)) j := by
  unfold norm1024 rmsRow
  dsimp only
  rw [← hs]
  pointwise [k0_pay10, k0_pay9, k0_pay8, k0_pay6]

/-! ## The loads of the windows' parts -/

section Loads

variable (x5 : Vec Ideal S1024x3072 .bf16) (x6 : Vec Ideal S1x3072 .f32) (x7 : Vec Ideal S3x512x1024 .bf16)

theorem gate0 (k j : Fin 1024) : View.ld x5 r0_2 (ix2 k j) = x5 (ix2 k (col 0 j)) :=
  congrArg x5 (ext2 (show 0 + 1 * k.val = k.val by omega) (show 0 + 1 * j.val = 0 * 1024 + j.val by omega))

theorem gate1 (k j : Fin 1024) : View.ld x5 r0_6 (ix2 k j) = x5 (ix2 k (col 1 j)) :=
  congrArg x5 (ext2 (show 0 + 1 * k.val = k.val by omega) (show 1024 + 1 * j.val = 1 * 1024 + j.val by omega))

theorem gate2 (k j : Fin 1024) : View.ld x5 r0_9 (ix2 k j) = x5 (ix2 k (col 2 j)) :=
  congrArg x5 (ext2 (show 0 + 1 * k.val = k.val by omega) (show 2048 + 1 * j.val = 2 * 1024 + j.val by omega))

theorem bias0 (j : Fin 1024) : View.ld x6 r0_3 (ix2 0 j) = x6 (ix2 0 (col 0 j)) :=
  congrArg x6 (ext2 rfl (show 0 + 1 * j.val = 0 * 1024 + j.val by omega))

theorem bias1 (j : Fin 1024) : View.ld x6 r0_7 (ix2 0 j) = x6 (ix2 0 (col 1 j)) :=
  congrArg x6 (ext2 rfl (show 1024 + 1 * j.val = 1 * 1024 + j.val by omega))

theorem bias2 (j : Fin 1024) : View.ld x6 r0_10 (ix2 0 j) = x6 (ix2 0 (col 2 j)) :=
  congrArg x6 (ext2 rfl (show 2048 + 1 * j.val = 2 * 1024 + j.val by omega))

theorem proj0 (k : Fin 512) (j : Fin 1024) : View.ld x7 r0_5 (ix3 0 k j) = x7 (ix3 0 k j) :=
  congrArg x7 (ext3 rfl (show 0 + 1 * k.val = k.val by omega) (show 0 + 1 * j.val = j.val by omega))

theorem proj1 (k : Fin 512) (j : Fin 1024) : View.ld x7 r0_8 (ix3 0 k j) = x7 (ix3 1 k j) :=
  congrArg x7 (ext3 rfl (show 0 + 1 * k.val = k.val by omega) (show 0 + 1 * j.val = j.val by omega))

theorem proj2 (k : Fin 512) (j : Fin 1024) : View.ld x7 r0_11 (ix3 0 k j) = x7 (ix3 2 k j) :=
  congrArg x7 (ext3 rfl (show 0 + 1 * k.val = k.val by omega) (show 0 + 1 * j.val = j.val by omega))

end Loads

/-! ## What one grid point leaves in its two output blocks -/

theorem hz2 : (![0, 0] : Fin 2 → Nat) = fun _ => 0 := funext fun a => by fin_cases a <;> rfl

/-- The row formula over a point's blocks. -/
def rowOf (x0 : Vec Ideal S512x1024 .f32) (x1 x2 x3 : Vec Ideal S512x512 .bf16) (x4 : Vec Ideal S1x1024 .f32) (x5 : Vec Ideal S1024x3072 .bf16)
    (x6 : Vec Ideal S1x3072 .f32) (x7 : Vec Ideal S3x512x1024 .bf16) (x8 : Vec Ideal S1024x1024 .bf16) (r : Fin 512) : Fin 1024 → EReal :=
  stream (fun k => x0 (ix2 r k)) (fun k => x1 (ix2 r k)) (fun k => x2 (ix2 r k)) (fun k => x3 (ix2 r k)) (fun k => x4 (ix2 0 k))
    (fun k n => x5 (ix2 k n)) (fun n => x6 (ix2 0 n)) (fun k j => x7 (ix3 0 k j)) (fun k j => x7 (ix3 1 k j)) (fun k j => x7 (ix3 2 k j)) (fun k j => x8 (ix2 k j))

theorem pay5_row (x0 : Vec Ideal S512x1024 .f32) (x1 x2 x3 : Vec Ideal S512x512 .bf16) (x4 : Vec Ideal S1x1024 .f32) (x5 : Vec Ideal S1024x3072 .bf16)
    (x6 : Vec Ideal S1x3072 .f32) (x7 : Vec Ideal S3x512x1024 .bf16) (x8 : Vec Ideal S1024x1024 .bf16) (w0 w1 w2 : Vec Ideal S1024x1024 .bf16)
    (b0 b1 b2 : Vec Ideal S1x1024 .f32) (p0 p1 p2 : Vec Ideal S1x512x1024 .bf16)
    (hw0 : ∀ k j, w0 (ix2 k j) = x5 (ix2 k (col 0 j))) (hw1 : ∀ k j, w1 (ix2 k j) = x5 (ix2 k (col 1 j))) (hw2 : ∀ k j, w2 (ix2 k j) = x5 (ix2 k (col 2 j)))
    (hb0 : ∀ j, b0 (ix2 0 j) = x6 (ix2 0 (col 0 j))) (hb1 : ∀ j, b1 (ix2 0 j) = x6 (ix2 0 (col 1 j))) (hb2 : ∀ j, b2 (ix2 0 j) = x6 (ix2 0 (col 2 j)))
    (hp0 : ∀ k j, p0 (ix3 0 k j) = x7 (ix3 0 k j)) (hp1 : ∀ k j, p1 (ix3 0 k j) = x7 (ix3 1 k j)) (hp2 : ∀ k j, p2 (ix3 0 k j) = x7 (ix3 2 k j))
    (r : Fin 512) (j : Fin 1024) :
    k0_pay5 x0 (k0_pay2 x0 x4) (k0_pay3 x0 x4 w0 b0 x1 p0) (k0_pay4 x0 x4 w1 b1) x2 p1 w2 b2 x3 p2 x8 (ix2 r j)
      = rowOf x0 x1 x2 x3 x4 x5 x6 x7 x8 r j := by
  rw [pay5_at]
  unfold rowOf stream mixed branch gateArg
  refine congrArg₂ (fun a b : EReal => a + b) rfl (Finset.sum_congr rfl fun n _ => ?_)
  rw [pay3_at, pay4_at]
  simp only [pay2_at, hw0, hw1, hw2, hb0, hb1, hb2, hp0, hp1, hp2]

section Outs

variable (x0 : Vec Ideal S512x1024 .f32) (x1 x2 x3 : Vec Ideal S512x512 .bf16) (x4 : Vec Ideal S1x1024 .f32) (x5 : Vec Ideal S1024x3072 .bf16)
  (x6 : Vec Ideal S1x3072 .f32) (x7 : Vec Ideal S3x512x1024 .bf16) (x8 : Vec Ideal S1024x1024 .bf16) (x9 : Vec Ideal S1x1024 .f32)
  (x10 : Vec Ideal S1024x128 .f32) (x11 : Vec Ideal S1x128 .f32) (x12 : Vec Ideal S1024x128 .f32) (x13 : Vec Ideal S1x128 .f32)

/-- The residual block. -/
theorem out14_at (r : Fin 512) (j : Fin 1024) :
    out0_14 x0 x1 x2 x3 x4 x5 x6 x7 x8 x9 x10 x11 x12 x13 (ix2 r j) = rowOf x0 x1 x2 x3 x4 x5 x6 x7 x8 r j := by
  unfold out0_14 k0_pay26 k0_pay27 k0_pay28
  rw [View.canon_unit_zero (S := S512x1024) hz2, View.ld_unit_zero (S := S512x1024) hz2, View.ld_unit_zero (S := S1x1024) hz2,
    View.ld_unit_zero (S := S512x512) hz2, View.ld_unit_zero (S := S512x512) hz2, View.ld_unit_zero (S := S512x512) hz2, View.ld_unit_zero (S := S1024x1024) hz2]
  exact pay5_row x0 x1 x2 x3 x4 x5 x6 x7 x8 _ _ _ _ _ _ _ _ _ (gate0 x5) (gate1 x5) (gate2 x5) (bias0 x6) (bias1 x6) (bias2 x6) (proj0 x7) (proj1 x7) (proj2 x7) r j

/-- The normalised block. -/
theorem out15_at (r : Fin 512) (j : Fin 1024) :
    out0_15 x0 x1 x2 x3 x4 x5 x6 x7 x8 x9 x10 x11 x12 x13 (ix2 r j)
      = norm1024 (rowOf x0 x1 x2 x3 x4 x5 x6 x7 x8 r) (fun k => x9 (ix2 0 k)) j := by
  unfold out0_15 k0_pay29 k0_pay30 k0_pay31 k0_pay32 k0_pay26 k0_pay27 k0_pay28
  simp only [View.canon_unit_zero (S := S512x1024) hz2, View.ld_unit_zero (S := S512x1024) hz2, View.ld_unit_zero (S := S1x1024) hz2,
    View.ld_unit_zero (S := S512x512) hz2, View.ld_unit_zero (S := S1024x1024) hz2]
  refine (pay10_at _ _ _ r j (pay7_at _ _ _ _ _ _ _ _ _ _ _ r)).trans ?_
  exact congrArg (fun v => norm1024 v (fun k => x9 (ix2 0 k)) j) (funext fun k => pay5_row x0 x1 x2 x3 x4 x5 x6 x7 x8 _ _ _ _ _ _ _ _ _ (gate0 x5) (gate1 x5) (gate2 x5) (bias0 x6) (bias1 x6) (bias2 x6) (proj0 x7) (proj1 x7) (proj2 x7) r k)

end Outs

end Cert.MergeIdeal.Hand

end
-- ==== Proof.MergeValue.lean ====
module

public import proofs.«01_k».proof.Proof.MergeBody

@[expose] public section

set_option maxRecDepth 16384

noncomputable section

namespace Cert.MergeIdeal.Hand

open Cert.MergeIdeal Cert.MergeIdeal.Gen Cert.MergeIdeal.Value Cert.MergeSpec Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## The arrays the launch finds -/

abbrev X : TokArr := m ((c : Thread nD τ).loc main_arg0)
abbrev OA : OutArr := m ((c : Thread nD τ).loc main_arg1)
abbrev OB : OutArr := m ((c : Thread nD τ).loc main_arg2)
abbrev OC : OutArr := m ((c : Thread nD τ).loc main_arg3)
abbrev GN : GainArr := m ((c : Thread nD τ).loc main_arg4)
abbrev WM : GateArr := m ((c : Thread nD τ).loc main_arg5)
abbrev BM : BiasArr := m ((c : Thread nD τ).loc main_arg6)
abbrev WA : ProjArr := m ((c : Thread nD τ).loc main_arg7)
abbrev WB : ProjArr := m ((c : Thread nD τ).loc main_arg8)
abbrev WC : ProjArr := m ((c : Thread nD τ).loc main_arg9)
abbrev WO : LastArr := m ((c : Thread nD τ).loc main_arg10)
abbrev GF : GainArr := m ((c : Thread nD τ).loc main_arg11)

theorem V_gain : V m c main_v5 = shapeCast S1x1024 (m ((c : Thread nD τ).loc main_arg4)) shapeCasts_S1024_S1x1024 := by
  simp only [V, hostOps0, hostOps0_1, hostOps0_2, hostOps0_3, hostOps0_4, List.flatten_cons, List.flatten_nil, List.append_nil, List.cons_append, List.nil_append]
  after_results_simp
  rfl
theorem V_gate : V m c main_v6 = (truncf (F := Ideal) .bf16 (m ((c : Thread nD τ).loc main_arg5) : FVec Ideal S1024x3072 .f32) bitsLt_bf16_f32 : FVec Ideal S1024x3072 .bf16) := by
  simp only [V, hostOps0, hostOps0_1, hostOps0_2, hostOps0_3, hostOps0_4, List.flatten_cons, List.flatten_nil, List.append_nil, List.cons_append, List.nil_append]
  after_results_simp
theorem V_bias : V m c main_v7 = shapeCast S1x3072 (m ((c : Thread nD τ).loc main_arg6)) shapeCasts_S3072_S1x3072 := by
  simp only [V, hostOps0, hostOps0_1, hostOps0_2, hostOps0_3, hostOps0_4, List.flatten_cons, List.flatten_nil, List.append_nil, List.cons_append, List.nil_append]
  after_results_simp
  rfl
theorem V_proj : V m c main_v4 = (truncf (F := Ideal) .bf16 (concatenate S3x512x1024 0 [⟨S1x512x1024, (broadcastInDim S1x512x1024 ![1, 2] bcast_S512x1024_S1x512x1024_1_2 (m ((c : Thread nD τ).loc main_arg7) : FVec Ideal S512x1024 .f32) : FVec Ideal S1x512x1024 .f32)⟩, ⟨S1x512x1024, (broadcastInDim S1x512x1024 ![1, 2] bcast_S512x1024_S1x512x1024_1_2 (m ((c : Thread nD τ).loc main_arg8) : FVec Ideal S512x1024 .f32) : FVec Ideal S1x512x1024 .f32)⟩, ⟨S1x512x1024, (broadcastInDim S1x512x1024 ![1, 2] bcast_S512x1024_S1x512x1024_1_2 (m ((c : Thread nD τ).loc main_arg9) : FVec Ideal S512x1024 .f32) : FVec Ideal S1x512x1024 .f32)⟩] concatenates_S1x512x1024_S1x512x1024_S1x512x1024_S3x512x1024_d0 : FVec Ideal S3x512x1024 .f32) bitsLt_bf16_f32 : FVec Ideal S3x512x1024 .bf16) := by
  simp only [V, hostOps0, hostOps0_1, hostOps0_2, hostOps0_3, hostOps0_4, List.flatten_cons, List.flatten_nil, List.append_nil, List.cons_append, List.nil_append]
  after_results_simp
  rfl
theorem V_last : V m c main_v8 = (truncf (F := Ideal) .bf16 (m ((c : Thread nD τ).loc main_arg10) : FVec Ideal S1024x1024 .f32) bitsLt_bf16_f32 : FVec Ideal S1024x1024 .bf16) := by
  simp only [V, hostOps0, hostOps0_1, hostOps0_2, hostOps0_3, hostOps0_4, List.flatten_cons, List.flatten_nil, List.append_nil, List.cons_append, List.nil_append]
  after_results_simp
theorem V_gain' : V m c main_v9 = shapeCast S1x1024 (m ((c : Thread nD τ).loc main_arg11)) shapeCasts_S1024_S1x1024 := by
  simp only [V, hostOps0, hostOps0_1, hostOps0_2, hostOps0_3, hostOps0_4, List.flatten_cons, List.flatten_nil, List.append_nil, List.cons_append, List.nil_append]
  after_results_simp
  rfl

theorem gain_at (g : Vec Ideal S1024 .f32) (k : Fin 1024) : shapeCast S1x1024 g shapeCasts_S1024_S1x1024 (ix2 0 k) = g (ix1 k) := by
  pointwise
theorem bias_at (b : Vec Ideal S3072 .f32) (n : Fin 3072) : shapeCast S1x3072 b shapeCasts_S3072_S1x3072 (ix2 0 n) = b (ix1 n) := by
  pointwise

/-- Part `i` of the three projections laid one after another. -/
def part (a b e : ProjArr) (i : Fin 3) : ProjArr := if i.val < 1 then a else if i.val < 2 then b else e

theorem stack_at (a b e : FVec Ideal S512x1024 .f32) (i : Fin 3) (k : Fin 512) (j : Fin 1024) :
    (truncf (F := Ideal) .bf16 (concatenate S3x512x1024 0 [⟨S1x512x1024, (broadcastInDim S1x512x1024 ![1, 2] bcast_S512x1024_S1x512x1024_1_2 a : FVec Ideal S1x512x1024 .f32)⟩, ⟨S1x512x1024, (broadcastInDim S1x512x1024 ![1, 2] bcast_S512x1024_S1x512x1024_1_2 b : FVec Ideal S1x512x1024 .f32)⟩, ⟨S1x512x1024, (broadcastInDim S1x512x1024 ![1, 2] bcast_S512x1024_S1x512x1024_1_2 e : FVec Ideal S1x512x1024 .f32)⟩] concatenates_S1x512x1024_S1x512x1024_S1x512x1024_S3x512x1024_d0 : FVec Ideal S3x512x1024 .f32) bitsLt_bf16_f32 : FVec Ideal S3x512x1024 .bf16) (ix3 i k j)
      = part a b e i (ix2 k j) := by
  unfold part
  pointwise
  fin_cases i <;> rfl

/-! ## The blocks at an index: point `t` holds the 512 tokens from `512 t` on -/

theorem lt32 (t : Fin cfg0.N) : t.val < 32 := lt_of_lt_of_eq t.isLt N_0

/-- Row `r` of point `t`'s tile. -/
def row (t : Fin cfg0.N) (r : Fin 512) : Fin 16384 := ⟨t.val * 512 + r.val, by have := lt32 t; omega⟩

theorem moving : ∀ t : Fin cfg0.N, win0_0.index t = ![t.val, 0] ∧ win0_1.index t = ![t.val, 0] ∧ win0_2.index t = ![t.val, 0] ∧ win0_3.index t = ![t.val, 0]
    ∧ win0_14.index t = ![t.val, 0] ∧ win0_15.index t = ![t.val, 0] :=
  (by decide +kernel : ∀ t : Fin grid0.N, _)

theorem fixed : ∀ t : Fin cfg0.N, win0_4.index t = ![0, 0] ∧ win0_5.index t = ![0, 0] ∧ win0_6.index t = ![0, 0] ∧ win0_7.index t = ![0, 0, 0]
    ∧ win0_8.index t = ![0, 0] ∧ win0_9.index t = ![0, 0] :=
  (by decide +kernel : ∀ t : Fin grid0.N, _)

/-- A block index times the block's length plus the place within it, for a block that moves along the first axis. -/
theorem place {v : Fin 2 → ℕ} {a : ℕ} (e : v = ![a, 0]) (p q n k : ℕ) : v 0 * p + 1 * n = a * p + n ∧ v 1 * q + 1 * k = k := by
  subst e
  constructor
  · show a * p + 1 * n = _; omega
  · show 0 * q + 1 * k = _; omega

/-- The same for the block at the array's start. -/
theorem place0 {v : Fin 2 → ℕ} (e : v = ![0, 0]) (p q n k : ℕ) : v 0 * p + 1 * n = n ∧ v 1 * q + 1 * k = k := by
  have h := place e p q n k
  exact ⟨h.1.trans (by omega), h.2⟩

theorem idx0 (t : Fin cfg0.N) (r : Fin 512) (k : Fin 1024) : ((cfg0.win 0).blk t).view.emb (ix2 r k) = (ix2 (row t r) k : S16384x1024.Idx) :=
  have e := place (moving t).1 512 1024 r.val k.val
  ext2 e.1 e.2

theorem idx1 (t : Fin cfg0.N) (r : Fin 512) (k : Fin 512) : ((cfg0.win 1).blk t).view.emb (ix2 r k) = (ix2 (row t r) k : S16384x512.Idx) :=
  have e := place (moving t).2.1 512 512 r.val k.val
  ext2 e.1 e.2

theorem idx2 (t : Fin cfg0.N) (r : Fin 512) (k : Fin 512) : ((cfg0.win 2).blk t).view.emb (ix2 r k) = (ix2 (row t r) k : S16384x512.Idx) :=
  have e := place (moving t).2.2.1 512 512 r.val k.val
  ext2 e.1 e.2

theorem idx3 (t : Fin cfg0.N) (r : Fin 512) (k : Fin 512) : ((cfg0.win 3).blk t).view.emb (ix2 r k) = (ix2 (row t r) k : S16384x512.Idx) :=
  have e := place (moving t).2.2.2.1 512 512 r.val k.val
  ext2 e.1 e.2

theorem idx14 (t : Fin cfg0.N) (r : Fin 512) (k : Fin 1024) : ((cfg0.win 14).blk t).view.emb (ix2 r k) = (ix2 (row t r) k : S16384x1024.Idx) :=
  have e := place (moving t).2.2.2.2.1 512 1024 r.val k.val
  ext2 e.1 e.2

theorem idx15 (t : Fin cfg0.N) (r : Fin 512) (k : Fin 1024) : ((cfg0.win 15).blk t).view.emb (ix2 r k) = (ix2 (row t r) k : S16384x1024.Idx) :=
  have e := place (moving t).2.2.2.2.2 512 1024 r.val k.val
  ext2 e.1 e.2

theorem blk0 (t : Fin cfg0.N) (r : Fin 512) (k : Fin 1024) : (iblk m c 0 t : Vec Ideal S512x1024 .f32) (ix2 r k) = X m c (ix2 (row t r) k) := by
  unfold iblk
  rw [View.read_apply]
  exact (congrArg (V m c main_arg0) (idx0 t r k)).trans (congrFun (V_main_arg0 m c) _)

theorem blk1 (t : Fin cfg0.N) (r : Fin 512) (k : Fin 512) : (iblk m c 1 t : Vec Ideal S512x512 .bf16) (ix2 r k) = OA m c (ix2 (row t r) k) := by
  unfold iblk
  rw [View.read_apply]
  exact (congrArg (V m c main_arg1) (idx1 t r k)).trans (congrFun (V_main_arg1 m c) _)

theorem blk2 (t : Fin cfg0.N) (r : Fin 512) (k : Fin 512) : (iblk m c 2 t : Vec Ideal S512x512 .bf16) (ix2 r k) = OB m c (ix2 (row t r) k) := by
  unfold iblk
  rw [View.read_apply]
  exact (congrArg (V m c main_arg2) (idx2 t r k)).trans (congrFun (V_main_arg2 m c) _)

theorem blk3 (t : Fin cfg0.N) (r : Fin 512) (k : Fin 512) : (iblk m c 3 t : Vec Ideal S512x512 .bf16) (ix2 r k) = OC m c (ix2 (row t r) k) := by
  unfold iblk
  rw [View.read_apply]
  exact (congrArg (V m c main_arg3) (idx3 t r k)).trans (congrFun (V_main_arg3 m c) _)

theorem idx4 (t : Fin cfg0.N) (k : Fin 1024) : ((cfg0.win 4).blk t).view.emb (ix2 0 k) = (ix2 0 k : S1x1024.Idx) :=
  have e := place0 (fixed t).1 1 1024 0 k.val
  ext2 e.1 e.2

theorem blk4 (t : Fin cfg0.N) (k : Fin 1024) : (iblk m c 4 t : Vec Ideal S1x1024 .f32) (ix2 0 k) = GN m c (ix1 k) := by
  unfold iblk
  rw [View.read_apply]
  exact (congrArg (V m c main_v5) (idx4 t k)).trans ((congrFun (V_gain m c) _).trans (gain_at _ k))

theorem idx5 (t : Fin cfg0.N) (p : Fin 1024) (k : Fin 3072) : ((cfg0.win 5).blk t).view.emb (ix2 p k) = (ix2 p k : S1024x3072.Idx) :=
  have e := place0 (fixed t).2.1 1024 3072 p.val k.val
  ext2 e.1 e.2

theorem blk5 (t : Fin cfg0.N) (p : Fin 1024) (k : Fin 3072) : (iblk m c 5 t : Vec Ideal S1024x3072 .bf16) (ix2 p k) = WM m c (ix2 p k) := by
  unfold iblk
  rw [View.read_apply]
  exact (congrArg (V m c main_v6) (idx5 t p k)).trans (congrFun (V_gate m c) _)

theorem idx6 (t : Fin cfg0.N) (k : Fin 3072) : ((cfg0.win 6).blk t).view.emb (ix2 0 k) = (ix2 0 k : S1x3072.Idx) :=
  have e := place0 (fixed t).2.2.1 1 3072 0 k.val
  ext2 e.1 e.2

theorem blk6 (t : Fin cfg0.N) (k : Fin 3072) : (iblk m c 6 t : Vec Ideal S1x3072 .f32) (ix2 0 k) = BM m c (ix1 k) := by
  unfold iblk
  rw [View.read_apply]
  exact (congrArg (V m c main_v7) (idx6 t k)).trans ((congrFun (V_bias m c) _).trans (bias_at _ k))

theorem idx8 (t : Fin cfg0.N) (p : Fin 1024) (k : Fin 1024) : ((cfg0.win 8).blk t).view.emb (ix2 p k) = (ix2 p k : S1024x1024.Idx) :=
  have e := place0 (fixed t).2.2.2.2.1 1024 1024 p.val k.val
  ext2 e.1 e.2

theorem blk8 (t : Fin cfg0.N) (p : Fin 1024) (k : Fin 1024) : (iblk m c 8 t : Vec Ideal S1024x1024 .bf16) (ix2 p k) = WO m c (ix2 p k) := by
  unfold iblk
  rw [View.read_apply]
  exact (congrArg (V m c main_v8) (idx8 t p k)).trans (congrFun (V_last m c) _)

theorem idx9 (t : Fin cfg0.N) (k : Fin 1024) : ((cfg0.win 9).blk t).view.emb (ix2 0 k) = (ix2 0 k : S1x1024.Idx) :=
  have e := place0 (fixed t).2.2.2.2.2 1 1024 0 k.val
  ext2 e.1 e.2

theorem blk9 (t : Fin cfg0.N) (k : Fin 1024) : (iblk m c 9 t : Vec Ideal S1x1024 .f32) (ix2 0 k) = GF m c (ix1 k) := by
  unfold iblk
  rw [View.read_apply]
  exact (congrArg (V m c main_v9) (idx9 t k)).trans ((congrFun (V_gain' m c) _).trans (gain_at _ k))

theorem idx7 (t : Fin cfg0.N) (i : Fin 3) (k : Fin 512) (j : Fin 1024) : ((cfg0.win 7).blk t).view.emb (ix3 i k j) = (ix3 i k j : S3x512x1024.Idx) := by
  have e := (fixed t).2.2.2.1
  refine ext3 ?_ ?_ ?_
  · show win0_7.index t 0 * 3 + 1 * i.val = i.val; rw [e]; simp
  · show win0_7.index t 1 * 512 + 1 * k.val = k.val; rw [e]; simp
  · show win0_7.index t 2 * 1024 + 1 * j.val = j.val; rw [e]; simp

theorem blk7 (t : Fin cfg0.N) (i : Fin 3) (k : Fin 512) (j : Fin 1024) :
    (iblk m c 7 t : Vec Ideal S3x512x1024 .bf16) (ix3 i k j) = part (WA m c) (WB m c) (WC m c) i (ix2 k j) := by
  unfold iblk
  rw [View.read_apply]
  exact (congrArg (V m c main_v4) (idx7 t i k j)).trans ((congrFun (V_proj m c) _).trans (stack_at _ _ _ i k j))

/-! ## The results -/

/-- The residual stream after the attentions, as an array. -/
def G14 : TokArr := fun i => streamOf (X m c) (OA m c) (OB m c) (OC m c) (GN m c) (WM m c) (BM m c) (WA m c) (WB m c) (WC m c) (WO m c) (i 0) (i 1)

/-- Its normalisation. -/
def G15 : TokArr := fun i => normedOf (X m c) (OA m c) (OB m c) (OC m c) (GN m c) (WM m c) (BM m c) (WA m c) (WB m c) (WC m c) (WO m c) (GF m c) (i 0) (i 1)

theorem rowOf_eq (x0 : Vec Ideal S512x1024 .f32) (x1 x2 x3 : Vec Ideal S512x512 .bf16) (x4 : Vec Ideal S1x1024 .f32) (x5 : Vec Ideal S1024x3072 .bf16)
    (x6 : Vec Ideal S1x3072 .f32) (x7 : Vec Ideal S3x512x1024 .bf16) (x8 : Vec Ideal S1024x1024 .bf16) (x : TokArr) (oa ob oc : OutArr) (g : GainArr) (wm : GateArr)
    (bm : BiasArr) (wa wb wc : ProjArr) (wo : LastArr) (r : Fin 512) (r' : Fin 16384)
    (h0 : ∀ k, x0 (ix2 r k) = x (ix2 r' k)) (h1 : ∀ k, x1 (ix2 r k) = oa (ix2 r' k)) (h2 : ∀ k, x2 (ix2 r k) = ob (ix2 r' k)) (h3 : ∀ k, x3 (ix2 r k) = oc (ix2 r' k))
    (h4 : ∀ k, x4 (ix2 0 k) = g (ix1 k)) (h5 : ∀ k n, x5 (ix2 k n) = wm (ix2 k n)) (h6 : ∀ n, x6 (ix2 0 n) = bm (ix1 n))
    (h7 : ∀ i k j, x7 (ix3 i k j) = part wa wb wc i (ix2 k j)) (h8 : ∀ k j, x8 (ix2 k j) = wo (ix2 k j)) :
    rowOf x0 x1 x2 x3 x4 x5 x6 x7 x8 r = streamOf x oa ob oc g wm bm wa wb wc wo r' := by
  unfold rowOf streamOf
  simp only [h0, h1, h2, h3, h4, h5, h6, h7, h8]
  rfl

theorem row_eq (t : Fin cfg0.N) (r : Fin 512) :
    rowOf (iblk m c 0 t) (iblk m c 1 t) (iblk m c 2 t) (iblk m c 3 t) (iblk m c 4 t) (iblk m c 5 t) (iblk m c 6 t) (iblk m c 7 t) (iblk m c 8 t) r
      = streamOf (X m c) (OA m c) (OB m c) (OC m c) (GN m c) (WM m c) (BM m c) (WA m c) (WB m c) (WC m c) (WO m c) (row t r) :=
  rowOf_eq _ _ _ _ _ _ _ _ _ _ _ _ _ _ _ _ _ _ _ _ r (row t r) (blk0 m c t r) (blk1 m c t r) (blk2 m c t r) (blk3 m c t r) (blk4 m c t) (blk5 m c t) (blk6 m c t)
    (blk7 m c t) (blk8 m c t)

/-- A block that holds an array's entries at its rows is the array read through the block's place. -/
theorem block_eq (G : TokArr) (o : S512x1024.Idx → EReal) (em : S512x1024.Idx → S16384x1024.Idx) (t : Fin cfg0.N)
    (he : ∀ r k, em (ix2 r k) = ix2 (row t r) k) (ho : ∀ r k, o (ix2 r k) = G (ix2 (row t r) k)) : o = fun y => G (em y) := by
  funext y
  have hy : y = ix2 (y 0) (y 1) := ext2 rfl rfl
  exact (congrArg o hy).trans ((ho (y 0) (y 1)).trans (congrArg G ((congrArg em hy).trans (he (y 0) (y 1)))).symm)

theorem tile_lt (i : S16384x1024.Idx) : (i 0 : ℕ) / 512 < cfg0.N := by
  have h0 : (i 0 : ℕ) < 16384 := (i 0).isLt
  have hN : cfg0.N = 32 := N_0
  omega

theorem row_tile (i : S16384x1024.Idx) : (ix2 (row ⟨_, tile_lt i⟩ ⟨(i 0 : ℕ) % 512, Nat.mod_lt _ (by decide)⟩) (⟨(i 1 : ℕ), (i 1).isLt⟩ : Fin 1024) : S16384x1024.Idx) = i :=
  ext2 (show (i 0 : ℕ) / 512 * 512 + (i 0 : ℕ) % 512 = i 0 by omega) rfl

theorem result14 : (dats m 0 c).arrAt 14 cfg0.N = G14 m c :=
  (dats m 0 c).arrAt_eq_of_cover 14 (G14 m c)
    (fun t _ => (flushed14 m c t).trans (block_eq (G14 m c) _ _ t (idx14 t) fun r k =>
      (out14_at _ _ _ _ _ _ _ _ _ _ _ _ _ _ r k).trans (congrFun (row_eq m c t r) k)))
    fun i => ⟨⟨_, tile_lt i⟩, flush0_14 _, Eq.mp (congrArg (· ∈ _) ((idx14 _ _ _).trans (row_tile i))) (View.emb_mem_set _ _)⟩

theorem result15 : (dats m 0 c).arrAt 15 cfg0.N = G15 m c :=
  (dats m 0 c).arrAt_eq_of_cover 15 (G15 m c)
    (fun t _ => (flushed15 m c t).trans (block_eq (G15 m c) _ _ t (idx15 t) fun r k =>
      (out15_at _ _ _ _ _ _ _ _ _ _ _ _ _ _ r k).trans (congrArg₂ (fun v g => norm1024 v g k) (row_eq m c t r) (funext (blk9 m c t)))))
    fun i => ⟨⟨_, tile_lt i⟩, flush0_15 _, Eq.mp (congrArg (· ∈ _) ((idx15 _ _ _).trans (row_tile i))) (View.emb_mem_set _ _)⟩

end Cert.MergeIdeal.Hand

end
-- ==== Proof.MergeRef.lean ====
module

public import proofs.«01_k».proof.Proof.Gen.MergeRefIdeal.Run
public import proofs.«01_k».proof.Proof.MergeSpec

@[expose] public section

set_option maxRecDepth 16384

noncomputable section

namespace Cert.MergeRefIdeal.Hand

open Cert.MergeRefIdeal Cert.MergeRefIdeal.Gen Cert.MergeRefIdeal.Value Cert.MergeSpec Idealize.ShloMosaic Idealize.ShloMosaic.TcCoe Idealize.SL.Sem

variable (m : (ℓ : Loc nD τ sig) → Buf (Elt Ideal) ℓ) (c : Dev nD)
  (x : TokArr) (oa ob oc : OutArr) (g : GainArr) (wm : GateArr) (bm : BiasArr) (wa wb wc : ProjArr) (wo : LastArr) (g' : GainArr)
  (h0 : m ((c.tc : Thread nD τ).loc main_arg0) = x) (h1 : m ((c.tc : Thread nD τ).loc main_arg1) = oa)
  (h2 : m ((c.tc : Thread nD τ).loc main_arg2) = ob) (h3 : m ((c.tc : Thread nD τ).loc main_arg3) = oc)
  (h4 : m ((c.tc : Thread nD τ).loc main_arg4) = g) (h5 : m ((c.tc : Thread nD τ).loc main_arg5) = wm)
  (h6 : m ((c.tc : Thread nD τ).loc main_arg6) = bm) (h7 : m ((c.tc : Thread nD τ).loc main_arg7) = wa)
  (h8 : m ((c.tc : Thread nD τ).loc main_arg8) = wb) (h9 : m ((c.tc : Thread nD τ).loc main_arg9) = wc)
  (h10 : m ((c.tc : Thread nD τ).loc main_arg10) = wo)

include h0 h1 h2 h3 h4 h5 h6 h7 h8 h9 h10

set_option maxHeartbeats 4000000 in
/-- The reference's first result read at an index is the plain formula of its arguments. -/
theorem stream_eq (r : Fin 16384) (j : Fin 1024) : (res_out0 m c : TokArr) (ix2 r j) = streamOf x oa ob oc g wm bm wa wb wc wo r j := by
  show res_main_v38 m c (ix2 r j) = _
  unfold res_main_v38 streamOf stream mixed branch gateArg norm1024 rmsRow Ideal.logistic
  simp only [h0, h1, h2, h3, h4, h5, h6, h7, h8, h9, h10]
  pointwise
  have e0 : ∀ (n : Fin 1024) (h : n.val < 3072), (⟨n.val, h⟩ : Fin 3072) = col 0 n := fun n h => Fin.ext (by show n.val = 0 * 1024 + n.val; omega)
  have e1 : ∀ (n : Fin 1024) (h : 1024 + n.val < 3072), (⟨1024 + n.val, h⟩ : Fin 3072) = col 1 n := fun n h => Fin.ext (by show 1024 + n.val = 1 * 1024 + n.val; omega)
  have e2 : ∀ (n : Fin 1024) (h : 2048 + n.val < 3072), (⟨2048 + n.val, h⟩ : Fin 3072) = col 2 n := fun n h => Fin.ext (by show 2048 + n.val = 2 * 1024 + n.val; omega)
  simp only [e0, e1, e2]

omit h0 h1 h2 h3 h4 h5 h6 h7 h8 h9 h10 in
/-- The second normalisation of any array. -/
theorem norm_at (v : FVec Ideal S16384x1024 .f32) (g : FVec Ideal S1024 .f32) (r : Fin 16384) (j : Fin 1024) :
    (truncf .bf16 (mulf (mulf v (broadcastInDim S16384x1024 ![0, 1] bcast_S16384x1_S16384x1024_0_1 (Host.rsqrt (addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) bitsLt_bf16_f32 : FVec Ideal S16384x1024 .bf16) (ix2 r j)
      = norm1024 (fun k => v (ix2 r k)) (fun k => g (ix1 k)) j := by
  unfold norm1024 rmsRow
  pointwise

/-- The second result: the normalised rows of the first. -/
theorem normed_eq (h11 : m ((c.tc : Thread nD τ).loc main_arg11) = g') (r : Fin 16384) (j : Fin 1024) :
    (res_out1 m c : TokArr) (ix2 r j) = normedOf x oa ob oc g wm bm wa wb wc wo g' r j := by
  refine (norm_at (res_main_v38 m c) (m ((c.tc : Thread nD τ).loc main_arg11)) r j).trans ?_
  rw [h11]
  exact congrArg (fun v => norm1024 v (fun k => g' (ix1 k)) j)
    (funext fun k => stream_eq m c x oa ob oc g wm bm wa wb wc wo h0 h1 h2 h3 h4 h5 h6 h7 h8 h9 h10 r k)

end Cert.MergeRefIdeal.Hand

end
-- ==== Proof.MergeClaims.lean ====
module

public import proofs.«01_k».proof.Defs
public import proofs.«01_k».proof.Proof.Gen.Merge.Frame
public import proofs.«01_k».proof.Proof.Gen.MergeIdeal.Frame
public import proofs.«01_k».proof.Proof.MergeValue
public import proofs.«01_k».proof.Proof.MergeRef
public import Idealize.ShloMosaic.Lib.Quiescent

/-! The claims about the gated sum of the attentions. -/

@[expose] public section

set_option maxRecDepth 16384

noncomputable section

namespace Cert.MergeClaims

open Idealize.ShloMosaic Idealize.SL.Sem

/-- The kernel runs, leaves its arguments and ends with every counter at zero. -/
theorem frame_p : Cert.quiescent_Merge := fun m ρ _ => Cert.Merge.Gen.frame m ρ

/-- So does its idealization. -/
theorem frame_pi : Cert.quiescent_MergeIdeal := fun m ρ _ => Cert.MergeIdeal.Gen.frame m ρ

/-- So does the reference, which declares no counter. -/
theorem frame_ri : Cert.quiescent_MergeRefIdeal := fun m ρ _ =>
  (θ_run Cert.MergeRefIdeal.defs _ _).mono (fun r h => ⟨fun c => (h c).2.2,
      Idealize.ShloMosaic.sem_eq_zero_of_no_sems (by decide) r.2⟩)
    (Cert.MergeRefIdeal.Value.run (F := Ideal) m ρ)

/-- No operation was replaced. -/
theorem preserves : Cert.preserves_Merge_MergeIdeal := trivial

/-- From equal arguments the kernel and the reference end with the same two arrays. -/
theorem algebraic : Cert.algebraic_MergeIdeal_MergeRefIdeal := fun m ρ m' ρ' _ hag =>
  ⟨fun c => Cert.MergeIdeal.Hand.G14 m c, fun c => Cert.MergeIdeal.Hand.G15 m c,
    (θ_run _ _ _).mono (fun _ h c => ⟨(h c).1.trans (Cert.MergeIdeal.Hand.result14 m c), (h c).2.1.trans (Cert.MergeIdeal.Hand.result15 m c), (h c).2.2.2⟩)
      (Cert.MergeIdeal.Value.run_blocks m ρ),
    (θ_run _ _ _).mono (fun _ h c => ⟨(h c).1.trans (by
        obtain ⟨h0, h1, h2, h3, h4, h5, h6, h7, h8, h9, h10, -⟩ := hag c
        funext j
        idx_vars j
        exact Cert.MergeRefIdeal.Hand.stream_eq m' c _ _ _ _ _ _ _ _ _ _ _ h0 h1 h2 h3 h4 h5 h6 h7 h8 h9 h10 _ _),
      (h c).2.1.trans (by
        obtain ⟨h0, h1, h2, h3, h4, h5, h6, h7, h8, h9, h10, h11, -⟩ := hag c
        funext j
        idx_vars j
        exact Cert.MergeRefIdeal.Hand.normed_eq m' c _ _ _ _ _ _ _ _ _ _ _ _ h0 h1 h2 h3 h4 h5 h6 h7 h8 h9 h10 h11 _ _), (h c).2.2⟩)
      (Cert.MergeRefIdeal.Value.run m' ρ')⟩

end Cert.MergeClaims

end
-- ==== Proof.ProjSpec.lean ====
module

public import proofs.«01_k».proof.Proof.MergeSpec

@[expose] public section

noncomputable section

namespace Cert.ProjSpec

open Cert.MergeSpec (rmsRow ext2 ext3)
open Idealize.ShloMosaic

/-! ## The attention inputs of one token, as plain formulas on extended reals -/

/-- What one token's formulas are about: its residual row `x`, its position, the gain `g`, the packed first weights
`w`, the query's second weights `wq`, the latent's two second weights `wk` and `wv`, the two latent gains `gq` and
`gkv`, and the rotary frequencies. -/
structure Tok where of ::
  x : Fin 1024 → EReal
  pos : EReal
  g : Fin 1024 → EReal
  w : Fin 1024 → Fin 3712 → EReal
  wq : Fin 256 → Fin 768 → EReal
  wk : Fin 128 → Fin 512 → EReal
  wv : Fin 128 → Fin 512 → EReal
  gq : Fin 256 → EReal
  gkv : Fin 128 → EReal
  freq : Fin 128 → EReal

/-- Column `j` of the part of a row that begins at column `o`. -/
def col {n a : ℕ} (o : ℕ) (h : o + a ≤ n) (j : Fin a) : Fin n := ⟨o + j.val, by omega⟩

namespace Tok

variable (T : Tok)

/-- The first product: the normalised row times the packed weights. -/
def p (n : Fin 3712) : EReal := ∑ k : Fin 1024, rmsRow (Ideal.ofBits FTy.f32 1149239296#32) T.x T.g k * T.w k n

/-- The rotated pair of halves `a` and `b`: first half. -/
def rotLo (a b : Fin 128 → EReal) (j : Fin 128) : EReal := a j * Ideal.cos (T.pos * T.freq j) - b j * Ideal.sin (T.pos * T.freq j)

/-- Second half. -/
def rotHi (a b : Fin 128 → EReal) (j : Fin 128) : EReal := a j * Ideal.sin (T.pos * T.freq j) + b j * Ideal.cos (T.pos * T.freq j)

/-- The first attention's scaled queries. -/
def nq (j : Fin 512) : EReal := T.p (col 0 (by decide) j) * Ideal.ofBits FTy.f32 1040187392#32

/-- Its keys and values. -/
def nkv (j : Fin 768) : EReal := T.p (col 512 (by decide) j)

/-- Its gates. -/
def ng (j : Fin 128) : EReal := Ideal.logistic (T.p (col 1280 (by decide) j))

/-- The latent queries, normalised, times their second weights. -/
def q (n : Fin 768) : EReal :=
  ∑ k : Fin 256, rmsRow (Ideal.ofBits FTy.f32 1132462080#32) (fun k => T.p (col 1408 (by decide) k)) T.gq k * T.wq k n

/-- The second attention's scaled queries: the plain part, then the two rotated halves. -/
def mq (n : Fin 768) : EReal :=
  (if n.val < 512 then T.q n
    else if h : n.val < 640 then T.rotLo (fun k => T.q (col 512 (by decide) k)) (fun k => T.q (col 640 (by decide) k)) ⟨n.val - 512, by omega⟩
    else T.rotHi (fun k => T.q (col 512 (by decide) k)) (fun k => T.q (col 640 (by decide) k)) ⟨n.val - 640, by omega⟩)
    * Ideal.ofBits FTy.f32 1037108716#32

/-- The normalised latent. -/
def kv (k : Fin 128) : EReal := rmsRow (Ideal.ofBits FTy.f32 1124073472#32) (fun k => T.p (col 1664 (by decide) k)) T.gkv k

/-- The second attention's keys. -/
def mk (n : Fin 512) : EReal := ∑ k : Fin 128, T.kv k * T.wk k n

/-- Its values. -/
def mv (n : Fin 512) : EReal := ∑ k : Fin 128, T.kv k * T.wv k n

/-- Its rotated keys. -/
def mkr (n : Fin 256) : EReal :=
  if h : n.val < 128 then T.rotLo (fun k => T.p (col 1792 (by decide) k)) (fun k => T.p (col 1920 (by decide) k)) ⟨n.val, h⟩
  else T.rotHi (fun k => T.p (col 1792 (by decide) k)) (fun k => T.p (col 1920 (by decide) k)) ⟨n.val - 128, by omega⟩

/-- The third attention's scaled queries, its keys and its values. -/
def fqkv (n : Fin 1536) : EReal :=
  if n.val < 512 then T.p (col 2048 (by decide) n) * Ideal.ofBits FTy.f32 1040187392#32 else T.p (col 2048 (by decide) n)

theorem mq_plain (j : Fin 512) : T.mq (col 0 (by decide) j) = T.q (col 0 (by decide) j) * Ideal.ofBits FTy.f32 1037108716#32 := by
  unfold mq
  exact congrArg (fun v : EReal => v * _) (if_pos (show 0 + j.val < 512 by omega))

theorem mq_lo (j : Fin 128) : T.mq (col 512 (by decide) j)
    = T.rotLo (fun k => T.q (col 512 (by decide) k)) (fun k => T.q (col 640 (by decide) k)) j * Ideal.ofBits FTy.f32 1037108716#32 := by
  unfold mq
  exact congrArg (fun v : EReal => v * _) ((if_neg (show ¬512 + j.val < 512 by omega)).trans ((dif_pos (show 512 + j.val < 640 by omega)).trans
    (congrArg (fun i => T.rotLo _ _ i) (Fin.ext (show 512 + j.val - 512 = j.val by omega)))))

theorem mq_hi (j : Fin 128) : T.mq (col 640 (by decide) j)
    = T.rotHi (fun k => T.q (col 512 (by decide) k)) (fun k => T.q (col 640 (by decide) k)) j * Ideal.ofBits FTy.f32 1037108716#32 := by
  unfold mq
  exact congrArg (fun v : EReal => v * _) ((if_neg (show ¬640 + j.val < 512 by omega)).trans ((dif_neg (show ¬640 + j.val < 640 by omega)).trans
    (congrArg (fun i => T.rotHi _ _ i) (Fin.ext (show 640 + j.val - 640 = j.val by omega)))))

theorem mkr_lo (j : Fin 128) : T.mkr (col 0 (by decide) j)
    = T.rotLo (fun k => T.p (col 1792 (by decide) k)) (fun k => T.p (col 1920 (by decide) k)) j := by
  unfold mkr
  exact (dif_pos (show 0 + j.val < 128 by omega)).trans (congrArg (fun i => T.rotLo _ _ i) (Fin.ext (show 0 + j.val = j.val by omega)))

theorem mkr_hi (j : Fin 128) : T.mkr (col 128 (by decide) j)
    = T.rotHi (fun k => T.p (col 1792 (by decide) k)) (fun k => T.p (col 1920 (by decide) k)) j := by
  unfold mkr
  exact (dif_neg (show ¬128 + j.val < 128 by omega)).trans (congrArg (fun i => T.rotHi _ _ i) (Fin.ext (show 128 + j.val - 128 = j.val by omega)))

theorem fqkv_q (j : Fin 512) : T.fqkv (col 0 (by decide) j) = T.p (col 2048 (by decide) j) * Ideal.ofBits FTy.f32 1040187392#32 := by
  unfold fqkv
  exact (if_pos (show 0 + j.val < 512 by omega)).trans (congrArg (fun i => T.p i * _) (Fin.ext (show 2048 + (0 + j.val) = 2048 + j.val by omega)))

theorem fqkv_kv (j : Fin 1024) : T.fqkv (col 512 (by decide) j) = T.p (col 2560 (by decide) j) := by
  unfold fqkv
  exact (if_neg (show ¬512 + j.val < 512 by omega)).trans (congrArg T.p (Fin.ext (show 2048 + (512 + j.val) = 2560 + j.val by omega)))

end Tok

abbrev XArr := (⟨3, ![2, 8192, 1024]⟩ : Shape).Idx → EReal
abbrev PosArr := (⟨2, ![2, 8192]⟩ : Shape).Idx → BitVec 32
abbrev GainArr := (⟨1, ![1024]⟩ : Shape).Idx → EReal
abbrev W1Arr := (⟨2, ![1024, 3712]⟩ : Shape).Idx → EReal
abbrev WqArr := (⟨2, ![256, 768]⟩ : Shape).Idx → EReal
abbrev WkvArr := (⟨2, ![128, 512]⟩ : Shape).Idx → EReal
abbrev GqArr := (⟨1, ![256]⟩ : Shape).Idx → EReal
abbrev GkvArr := (⟨1, ![128]⟩ : Shape).Idx → EReal
abbrev FreqArr := (⟨2, ![1, 128]⟩ : Shape).Idx → EReal

/-- Token `s` of sequence `b`, from the arrays. -/
def tokOf (x : XArr) (pos : PosArr) (g : GainArr) (w : W1Arr) (wq : WqArr) (wk wv : WkvArr) (gq : GqArr) (gkv : GkvArr) (freq : FreqArr)
    (b : Fin 2) (s : Fin 8192) : Tok where
  x := fun k => x (ix3 b s k)
  pos := FloatOps.sitofp (F := Ideal) FTy.f32 (pos (ix2 b s))
  g := fun k => g (ix1 k)
  w := fun k n => w (ix2 k n)
  wq := fun k n => wq (ix2 k n)
  wk := fun k n => wk (ix2 k n)
  wv := fun k n => wv (ix2 k n)
  gq := fun k => gq (ix1 k)
  gkv := fun k => gkv (ix1 k)
  freq := fun k => freq (ix2 0 k)

/-- A result array from the row formula of each token. -/
def arrOf {n : ℕ} (f : Tok → Fin n → EReal) (T : Fin 2 → Fin 8192 → Tok) : (⟨3, ![2, 8192, n]⟩ : Shape).Idx → EReal :=
  fun i => f (T (i 0) (i 1)) (i 2)

/-- An array is such an array when it is so at every index. -/
theorem arr_eq {n : ℕ} (u : (⟨3, ![2, 8192, n]⟩ : Shape).Idx → EReal) (f : Tok → Fin n → EReal) (T : Fin 2 → Fin 8192 → Tok)
    (h : ∀ b s j, u (ix3 b s j) = f (T b s) j) : u = arrOf f T := by
  funext i
  have e : i = ix3 (i 0) (i 1) (i 2) := ext3 rfl rfl rfl
  exact (congrArg u e).trans (h (i 0) (i 1) (i 2))

end Cert.ProjSpec

end
-- ==== Proof.ProjPay.lean ====
module

public import proofs.«01_k».proof.Proof.Gen.ProjIdeal.Skeleton
public import proofs.«01_k».proof.Proof.ProjSpec
public import Idealize.ShloMosaic.Lib.Pointwise
public import Idealize.ShloMosaic.Lib.Tactic

/-! The kernel's stored values at an index, over arbitrary blocks. -/

@[expose] public section

set_option maxRecDepth 16384

noncomputable section

namespace Cert.ProjIdeal.Hand

open Cert.ProjIdeal Cert.ProjIdeal.Gen Cert.ProjSpec Idealize.ShloMosaic Idealize.ShloMosaic.TcCoe Idealize.SL.Sem
open Cert.MergeSpec (rmsRow ext2 ext3)

/-- Row `r` of a point's blocks. -/
def tokB (x0 : Vec Ideal S1x512x1024 .f32) (x1 : Vec Ideal S1x512x1 .i32) (x2 : Vec Ideal S1x1024 .f32) (x3 : Vec Ideal S1024x3712 .bf16)
    (x4 : Vec Ideal S256x768 .bf16) (x5 x6 : Vec Ideal S128x512 .bf16) (x7 : Vec Ideal S1x256 .f32) (x8 x10 : Vec Ideal S1x128 .f32) (r : Fin 512) : Tok where
  x := fun k => x0 (ix3 0 r k)
  pos := FloatOps.sitofp (F := Ideal) FTy.f32 (x1 (ix3 0 r 0))
  g := fun k => x2 (ix2 0 k)
  w := fun k n => x3 (ix2 k n)
  wq := fun k n => x4 (ix2 k n)
  wk := fun k n => x5 (ix2 k n)
  wv := fun k n => x6 (ix2 k n)
  gq := fun k => x7 (ix2 0 k)
  gkv := fun k => x8 (ix2 0 k)
  freq := fun k => x10 (ix2 0 k)

theorem pay5_at (x0 : Vec Ideal S1x512x1024 .f32) (x2 : Vec Ideal S1x1024 .f32) (r : Fin 512) (k : Fin 1024) :
    k0_pay5 x0 x2 (ix2 r k) = rmsRow (Ideal.ofBits FTy.f32 1149239296#32) (fun k => x0 (ix3 0 r k)) (fun k => x2 (ix2 0 k)) k := by
  unfold rmsRow
  pointwise [k0_pay5]

section Row

variable (h : Vec Ideal S512x1024 .bf16) (T : Tok) (r : Fin 512)
  (hh : ∀ k, h (ix2 r k) = rmsRow (Ideal.ofBits FTy.f32 1149239296#32) T.x T.g k)

include hh

/-- A product of the normalised row with some columns of the packed weights. -/
theorem prod_at {a : ℕ} (o : ℕ) (ho : o + a ≤ 3712) (w : (⟨2, ![1024, a]⟩ : Shape).Idx → EReal) (hw : ∀ k j, w (ix2 k j) = T.w k (col o ho j)) (j : Fin a) :
    (∑ k : Fin 1024, h (ix2 r k) * w (ix2 k j)) = T.p (col o ho j) := by
  unfold Tok.p
  simp only [hh, hw]

theorem pay12_at (w : Vec Ideal S1024x256 .bf16) (hw : ∀ k j, w (ix2 k j) = T.w k (col 1408 (by decide) j)) (g : Vec Ideal S1x256 .f32)
    (hg : ∀ k, g (ix2 0 k) = T.gq k) (w' : Vec Ideal S256x768 .bf16) (hw' : ∀ k n, w' (ix2 k n) = T.wq k n) (n : Fin 768) :
    k0_pay12 h w g w' (ix2 r n) = T.q n := by
  unfold Tok.q rmsRow
  simp only [← prod_at h T r hh 1408 (by decide) w hw, ← hg, ← hw']
  pointwise [k0_pay12]

theorem pay19_at (w : Vec Ideal S1024x128 .bf16) (hw : ∀ k j, w (ix2 k j) = T.w k (col 1664 (by decide) j)) (g : Vec Ideal S1x128 .f32)
    (hg : ∀ k, g (ix2 0 k) = T.gkv k) (n : Fin 128) :
    k0_pay19 h w g (ix2 r n) = T.kv n := by
  unfold Tok.kv rmsRow
  simp only [← prod_at h T r hh 1664 (by decide) w hw, ← hg]
  pointwise [k0_pay19]

theorem pay8_at (w : Vec Ideal S1024x128 .bf16) (hw : ∀ k j, w (ix2 k j) = T.w k (col 1280 (by decide) j)) (j : Fin 128) :
    k0_pay8 h w (constant S512x128 .f32 0x00000000#32) (ix3 0 r j) = T.ng j := by
  unfold Tok.ng
  rw [← prod_at h T r hh 1280 (by decide) w hw]
  pointwise [k0_pay8]

theorem pay27_at (w : Vec Ideal S1024x1536 .bf16) (hw : ∀ k j, w (ix2 k j) = T.w k (col 2048 (by decide) j)) (j : Fin 512) :
    k0_pay27 h w (ix3 0 r j) = T.fqkv (col 0 (by decide) j) := by
  rw [T.fqkv_q, ← show col 2048 (by decide) (col (n := 1536) 0 (by decide) j) = col 2048 (by decide) j from Fin.ext (show 2048 + (0 + j.val) = 2048 + j.val by omega),
    ← prod_at h T r hh 2048 (by decide) w hw]
  pointwise [k0_pay27, k0_pay26]
  simp only [col, Nat.zero_add]

theorem pay28_at (w : Vec Ideal S1024x1536 .bf16) (hw : ∀ k j, w (ix2 k j) = T.w k (col 2048 (by decide) j)) (j : Fin 1024) :
    k0_pay28 h w (ix3 0 r j) = T.fqkv (col 512 (by decide) j) := by
  rw [T.fqkv_kv, ← show col 2048 (by decide) (col (n := 1536) 512 (by decide) j) = col 2560 (by decide) j from Fin.ext (show 2048 + (512 + j.val) = 2560 + j.val by omega),
    ← prod_at h T r hh 2048 (by decide) w hw]
  pointwise [k0_pay28, k0_pay26]
  rfl

end Row

theorem pay6_at (x0 : Vec Ideal S1x512x1024 .f32) (x2 : Vec Ideal S1x1024 .f32) (w : Vec Ideal S1024x512 .bf16) (r j : Fin 512) :
    k0_pay6 x0 x2 w (ix3 0 r j) = (∑ k : Fin 1024, k0_pay5 x0 x2 (ix2 r k) * w (ix2 k j)) * Ideal.ofBits FTy.f32 1040187392#32 := by
  pointwise [k0_pay6]

theorem pay7_at (x0 : Vec Ideal S1x512x1024 .f32) (x2 : Vec Ideal S1x1024 .f32) (w : Vec Ideal S1024x768 .bf16) (r : Fin 512) (j : Fin 768) :
    k0_pay7 x0 x2 w (ix3 0 r j) = ∑ k : Fin 1024, k0_pay5 x0 x2 (ix2 r k) * w (ix2 k j) := by
  pointwise [k0_pay7]

section Rotary

variable (x1 : Vec Ideal S1x512x1 .i32) (x10 : Vec Ideal S1x128 .f32) (T : Tok) (r : Fin 512)
  (hp : FloatOps.sitofp (F := Ideal) FTy.f32 (x1 (ix3 0 r 0)) = T.pos) (hf : ∀ k, x10 (ix2 0 k) = T.freq k)

include hp hf

theorem cos_at (j : Fin 128) : k0_pay10 x1 x10 (ix2 r j) = Ideal.cos (T.pos * T.freq j) := by
  rw [← hp, ← hf]
  pointwise [k0_pay10, k0_pay9]

theorem sin_at (j : Fin 128) : k0_pay11 x1 x10 (ix2 r j) = Ideal.sin (T.pos * T.freq j) := by
  rw [← hp, ← hf]
  pointwise [k0_pay11, k0_pay9]

end Rotary

section Halves

variable (C S A B : Vec Ideal S512x128 .f32) (T : Tok) (r : Fin 512) (a b : Fin 128 → EReal)
  (hC : ∀ j, C (ix2 r j) = Ideal.cos (T.pos * T.freq j)) (hS : ∀ j, S (ix2 r j) = Ideal.sin (T.pos * T.freq j))
  (hA : ∀ j, A (ix2 r j) = a j) (hB : ∀ j, B (ix2 r j) = b j)

include hC hS hA hB

theorem pay17_at (j : Fin 128) : k0_pay17 (F := Ideal) C S A B (ix3 0 r j) = T.rotLo a b j * Ideal.ofBits FTy.f32 1037108716#32 := by
  unfold Tok.rotLo
  rw [← hA, ← hB, ← hC, ← hS]
  pointwise [k0_pay17]

theorem pay18_at (j : Fin 128) : k0_pay18 (F := Ideal) C S A B (ix3 0 r j) = T.rotHi a b j * Ideal.ofBits FTy.f32 1037108716#32 := by
  unfold Tok.rotHi
  rw [← hA, ← hB, ← hC, ← hS]
  pointwise [k0_pay18]

end Halves

theorem pay24_at (h : Vec Ideal S512x1024 .bf16) (C S : Vec Ideal S512x128 .f32) (w w' : Vec Ideal S1024x128 .bf16) (r : Fin 512) (j : Fin 128) :
    k0_pay24 h C S w w' (ix3 0 r j)
      = (∑ k : Fin 1024, h (ix2 r k) * w (ix2 k j)) * C (ix2 r j) - (∑ k : Fin 1024, h (ix2 r k) * w' (ix2 k j)) * S (ix2 r j) := by
  pointwise [k0_pay24, k0_pay22, k0_pay23]

theorem pay25_at (h : Vec Ideal S512x1024 .bf16) (C S : Vec Ideal S512x128 .f32) (w w' : Vec Ideal S1024x128 .bf16) (r : Fin 512) (j : Fin 128) :
    k0_pay25 h C S w w' (ix3 0 r j)
      = (∑ k : Fin 1024, h (ix2 r k) * w (ix2 k j)) * S (ix2 r j) + (∑ k : Fin 1024, h (ix2 r k) * w' (ix2 k j)) * C (ix2 r j) := by
  pointwise [k0_pay25, k0_pay22, k0_pay23]

theorem pay20_at (h : Vec Ideal S512x128 .bf16) (w : Vec Ideal S128x512 .bf16) (r j : Fin 512) :
    k0_pay20 h w (ix3 0 r j) = ∑ k : Fin 128, h (ix2 r k) * w (ix2 k j) := by
  pointwise [k0_pay20]

theorem pay21_at (h : Vec Ideal S512x128 .bf16) (w : Vec Ideal S128x512 .bf16) (r j : Fin 512) :
    k0_pay21 h w (ix3 0 r j) = ∑ k : Fin 128, h (ix2 r k) * w (ix2 k j) := by
  pointwise [k0_pay21]

theorem pay13_at (h : Vec Ideal S512x1024 .bf16) (w : Vec Ideal S1024x256 .bf16) (g : Vec Ideal S1x256 .f32) (w' : Vec Ideal S256x768 .bf16) (r : Fin 512) (j : Fin 128) :
    k0_pay13 h w g w' (ix2 r j) = k0_pay12 h w g w' (ix2 r (col 512 (by decide) j)) := by
  pointwise [k0_pay13]
  rfl

theorem pay14_at (h : Vec Ideal S512x1024 .bf16) (w : Vec Ideal S1024x256 .bf16) (g : Vec Ideal S1x256 .f32) (w' : Vec Ideal S256x768 .bf16) (r : Fin 512) (j : Fin 128) :
    k0_pay14 h w g w' (ix2 r j) = k0_pay12 h w g w' (ix2 r (col 640 (by decide) j)) := by
  pointwise [k0_pay14]
  rfl

theorem pay16_at (h : Vec Ideal S512x1024 .bf16) (w : Vec Ideal S1024x256 .bf16) (g : Vec Ideal S1x256 .f32) (w' : Vec Ideal S256x768 .bf16) (r j : Fin 512) :
    k0_pay16 (k0_pay15 h w g w') (ix3 0 r j) = k0_pay12 h w g w' (ix2 r (col 0 (by decide) j)) * Ideal.ofBits FTy.f32 1037108716#32 := by
  unfold col
  simp only [Nat.zero_add]
  pointwise [k0_pay16, k0_pay15]

end Cert.ProjIdeal.Hand

end
-- ==== Proof.ProjBody.lean ====
module

public import proofs.«01_k».proof.Proof.Gen.ProjIdeal.Value
public import proofs.«01_k».proof.Proof.ProjPay

@[expose] public section

set_option maxRecDepth 16384

noncomputable section

namespace Cert.ProjIdeal.Hand

open Cert.ProjIdeal Cert.ProjIdeal.Gen Cert.ProjSpec Idealize.ShloMosaic Idealize.ShloMosaic.TcCoe Idealize.SL.Sem
open Cert.MergeSpec (rmsRow ext2 ext3)

theorem hz2 : (![0, 0] : Fin 2 → Nat) = fun _ => 0 := funext fun a => by fin_cases a <;> rfl
theorem hz3 : (![0, 0, 0] : Fin 3 → Nat) = fun _ => 0 := funext fun a => by fin_cases a <;> rfl

/-! ## Stores that agree with a formula of the row and the column -/

/-- Every store of the list holds `f` at its own places. -/
def Agrees {n : ℕ} {e : EltTy} (L : List (View.Piece (Elt Ideal) ⟨3, ![1, 512, n]⟩ e)) (f : Fin 512 → Fin n → Elt Ideal e) : Prop :=
  ∀ p ∈ L, ∀ x : p.1.shape.Idx, p.2 x = f (p.1.emb x 1) (p.1.emb x 2)

theorem agrees_nil {n : ℕ} {e : EltTy} (f : Fin 512 → Fin n → Elt Ideal e) : Agrees [] f := fun p hp => absurd hp List.not_mem_nil

theorem agrees_cons {n a : ℕ} {e : EltTy} {f : Fin 512 → Fin n → Elt Ideal e} {L : List (View.Piece (Elt Ideal) ⟨3, ![1, 512, n]⟩ e)} (o : ℕ) (ho : o + a ≤ n)
    (inb : ∀ i, (![0, 0, o] : Fin 3 → ℕ) i + (![1, 512, a] : Fin 3 → ℕ) i ≤ (⟨3, ![1, 512, n]⟩ : Shape).size i)
    (w : (⟨3, ![1, 512, a]⟩ : Shape).Idx → Elt Ideal e) (hw : ∀ r j, w (ix3 0 r j) = f r (col o ho j)) (hL : Agrees L f) :
    Agrees (⟨Rect.unit (s := ⟨3, ![1, 512, n]⟩) ![0, 0, o] ![1, 512, a] inb, w⟩ :: L) f := by
  intro p hp
  rcases List.mem_cons.mp hp with rfl | hp
  · intro (x : (⟨3, ![1, 512, a]⟩ : Shape).Idx)
    have hx : x = ix3 0 (x 1) (x 2) := ext3 (by have h : (x 0).val < 1 := (x 0).isLt; show (x 0).val = 0; omega) rfl rfl
    refine (congrArg w hx).trans ((hw (x 1) (x 2)).trans (congrArg₂ f (Fin.ext ?_) (Fin.ext ?_)))
    · show (x 1).val = 0 + 1 * (x 1).val; omega
    · show o + (x 2).val = o + 1 * (x 2).val; omega
  · exact hL p hp

/-- What such stores leave, where they cover the block. -/
theorem read_agrees {n : ℕ} {e : EltTy} (v : View sig .tc .vmem ⟨3, ![1, 512, n]⟩ e) (J : v.ty.Contents (Elt Ideal))
    (L : List (View.Piece (Elt Ideal) ⟨3, ![1, 512, n]⟩ e)) (f : Fin 512 → Fin n → Elt Ideal e) (hL : Agrees L f) (hc : ∀ y, ∃ p ∈ L, y ∈ p.1.set)
    (r : Fin 512) (j : Fin n) : v.read (Elt Ideal) (v.writes (Elt Ideal) J L) (ix3 0 r j) = f r j := by
  rw [View.read_writes_eq_canon v J L hc]
  exact View.canon_apply_of_pieces (fun y : (⟨3, ![1, 512, n]⟩ : Shape).Idx => f (y 1) (y 2)) L hL _ (hc _)

section Point

variable (c : Dev nD) (i : grid0.Coords)
  (a2 : Memref sig .tc .vmem S1x512x1024 .f32) (h2 : a2.IsWhole) (a3 : Memref sig .tc .vmem S1x512x1 .i32) (h3 : a3.IsWhole)
  (a4 : Memref sig .tc .vmem S1x1024 .f32) (h4 : a4.IsWhole) (a5 : Memref sig .tc .vmem S1024x3712 .bf16) (h5 : a5.IsWhole)
  (a6 : Memref sig .tc .vmem S256x768 .bf16) (h6 : a6.IsWhole) (a7 : Memref sig .tc .vmem S128x512 .bf16) (h7 : a7.IsWhole)
  (a8 : Memref sig .tc .vmem S128x512 .bf16) (h8 : a8.IsWhole) (a9 : Memref sig .tc .vmem S1x256 .f32) (h9 : a9.IsWhole)
  (a10 : Memref sig .tc .vmem S1x128 .f32) (h10 : a10.IsWhole) (a11 : Memref sig .tc .vmem S1x128 .f32) (h11 : a11.IsWhole)
  (a12 : Memref sig .tc .vmem S1x128 .f32) (h12 : a12.IsWhole) (a13 : Memref sig .tc .vmem S512x512 .bf16) (h13 : a13.IsWhole)
  (a14 : Memref sig .tc .vmem S1x512x512 .bf16) (h14 : a14.IsWhole) (a15 : Memref sig .tc .vmem S1x512x768 .bf16) (h15 : a15.IsWhole)
  (a16 : Memref sig .tc .vmem S1x512x128 .f32) (h16 : a16.IsWhole) (a17 : Memref sig .tc .vmem S1x512x768 .bf16) (h17 : a17.IsWhole)
  (a18 : Memref sig .tc .vmem S1x512x512 .bf16) (h18 : a18.IsWhole) (a19 : Memref sig .tc .vmem S1x512x512 .bf16) (h19 : a19.IsWhole)
  (a20 : Memref sig .tc .vmem S1x512x256 .bf16) (h20 : a20.IsWhole) (a21 : Memref sig .tc .vmem S1x512x1536 .bf16) (h21 : a21.IsWhole)
  (a22 : Memref sig .tc .vmem S1x512x128 .f32) (h22 : a22.IsWhole) (a23 : Memref sig .tc .vmem S1x128 .f32) (h23 : a23.IsWhole)
  (x0 : Vec Ideal S1x512x1024 .f32) (x1 : Vec Ideal S1x512x1 .i32) (x2 : Vec Ideal S1x1024 .f32) (x3 : Vec Ideal S1024x3712 .bf16) (x4 : Vec Ideal S256x768 .bf16) (x5 : Vec Ideal S128x512 .bf16)
  (x6 : Vec Ideal S128x512 .bf16) (x7 : Vec Ideal S1x256 .f32) (x8 : Vec Ideal S1x128 .f32) (x9 : Vec Ideal S1x128 .f32) (x10 : Vec Ideal S1x128 .f32) (x11 : Vec Ideal S512x512 .bf16) (xs0 : Vec Ideal S1x128 .f32)

/-- Some columns of the packed weights. -/
theorem cols_at {a : ℕ} (o : ℕ) (ho : o + a ≤ 3712) (inb : ∀ i, (![0, o] : Fin 2 → ℕ) i + (![1024, a] : Fin 2 → ℕ) i ≤ S1024x3712.size i) (k : Fin 1024) (j : Fin a) :
    View.ld x3 (Rect.unit (s := S1024x3712) ![0, o] ![1024, a] inb) (ix2 k j) = x3 (ix2 k (col o ho j)) :=
  congrArg x3 (ext2 (show 0 + 1 * k.val = k.val by omega) (show o + 1 * j.val = o + j.val by omega))

theorem cos_row (r : Fin 512) (j : Fin 128) : k0_pay10 x1 x10 (ix2 r j) = Ideal.cos ((tokB x0 x1 x2 x3 x4 x5 x6 x7 x8 x10 r).pos * (tokB x0 x1 x2 x3 x4 x5 x6 x7 x8 x10 r).freq j) :=
  cos_at x1 x10 (tokB x0 x1 x2 x3 x4 x5 x6 x7 x8 x10 r) r rfl (fun _ => rfl) j

theorem sin_row (r : Fin 512) (j : Fin 128) : k0_pay11 x1 x10 (ix2 r j) = Ideal.sin ((tokB x0 x1 x2 x3 x4 x5 x6 x7 x8 x10 r).pos * (tokB x0 x1 x2 x3 x4 x5 x6 x7 x8 x10 r).freq j) :=
  sin_at x1 x10 (tokB x0 x1 x2 x3 x4 x5 x6 x7 x8 x10 r) r rfl (fun _ => rfl) j

theorem p_row {a : ℕ} (o : ℕ) (ho : o + a ≤ 3712) (inb : ∀ i, (![0, o] : Fin 2 → ℕ) i + (![1024, a] : Fin 2 → ℕ) i ≤ S1024x3712.size i) (r : Fin 512) (j : Fin a) :
    (∑ k : Fin 1024, k0_pay5 x0 x2 (ix2 r k) * (View.ld x3 (Rect.unit (s := S1024x3712) ![0, o] ![1024, a] inb) : (⟨2, ![1024, a]⟩ : Shape).Idx → EReal) (ix2 k j))
      = (tokB x0 x1 x2 x3 x4 x5 x6 x7 x8 x10 r).p (col o ho j) :=
  prod_at (k0_pay5 x0 x2) (tokB x0 x1 x2 x3 x4 x5 x6 x7 x8 x10 r) r (pay5_at x0 x2 r) o ho _ (cols_at x3 o ho inb) j

theorem q_row (r : Fin 512) (n : Fin 768) : k0_pay12 (k0_pay5 x0 x2) (View.ld x3 (Rect.unit (s := S1024x3712) ![0, 1408] S1024x256.size inb_S1024x3712_S1024x256_0_1408)) x7 x4 (ix2 r n) = (tokB x0 x1 x2 x3 x4 x5 x6 x7 x8 x10 r).q n :=
  pay12_at (k0_pay5 x0 x2) (tokB x0 x1 x2 x3 x4 x5 x6 x7 x8 x10 r) r (pay5_at x0 x2 r) _ (cols_at x3 1408 (by decide) _) x7 (fun _ => rfl) x4 (fun _ _ => rfl) n

theorem kv_row (r : Fin 512) (n : Fin 128) : k0_pay19 (k0_pay5 x0 x2) (View.ld x3 (Rect.unit (s := S1024x3712) ![0, 1664] S1024x128.size inb_S1024x3712_S1024x128_0_1664)) x8 (ix2 r n) = (tokB x0 x1 x2 x3 x4 x5 x6 x7 x8 x10 r).kv n :=
  pay19_at (k0_pay5 x0 x2) (tokB x0 x1 x2 x3 x4 x5 x6 x7 x8 x10 r) r (pay5_at x0 x2 r) _ (cols_at x3 1664 (by decide) _) x8 (fun _ => rfl) n

/-- The stores of one grid point, window by window. -/
theorem stores_agree :
    Agrees (e := .bf16) [⟨Rect.unit (s := S1x512x512) ![0, 0, 0] S1x512x512.size inb_S1x512x512_S1x512x512_0_0_0, k0_pay6 x0 x2 (View.ld x3 (Rect.unit (s := S1024x3712) ![0, 0] S1024x512.size inb_S1024x3712_S1024x512_0_0))⟩] (fun r => Tok.nq (tokB x0 x1 x2 x3 x4 x5 x6 x7 x8 x10 r))
    ∧ Agrees (e := .bf16) [⟨Rect.unit (s := S1x512x768) ![0, 0, 0] S1x512x768.size inb_S1x512x768_S1x512x768_0_0_0, k0_pay7 x0 x2 (View.ld x3 (Rect.unit (s := S1024x3712) ![0, 512] S1024x768.size inb_S1024x3712_S1024x768_0_512))⟩] (fun r => Tok.nkv (tokB x0 x1 x2 x3 x4 x5 x6 x7 x8 x10 r))
    ∧ Agrees (e := .f32) [⟨Rect.unit (s := S1x512x128) ![0, 0, 0] S1x512x128.size inb_S1x512x128_S1x512x128_0_0_0, k0_pay8 (k0_pay5 x0 x2) (View.ld x3 (Rect.unit (s := S1024x3712) ![0, 1280] S1024x128.size inb_S1024x3712_S1024x128_0_1280)) (constant S512x128 .f32 0x00000000#32)⟩] (fun r => Tok.ng (tokB x0 x1 x2 x3 x4 x5 x6 x7 x8 x10 r))
    ∧ Agrees (e := .bf16) [⟨Rect.unit (s := S1x512x768) ![0, 0, 640] S1x512x128.size inb_S1x512x768_S1x512x128_0_0_640, k0_pay18 (k0_pay10 x1 x10) (k0_pay11 x1 x10) (k0_pay13 (k0_pay5 x0 x2) (View.ld x3 (Rect.unit (s := S1024x3712) ![0, 1408] S1024x256.size inb_S1024x3712_S1024x256_0_1408)) x7 x4) (k0_pay14 (k0_pay5 x0 x2) (View.ld x3 (Rect.unit (s := S1024x3712) ![0, 1408] S1024x256.size inb_S1024x3712_S1024x256_0_1408)) x7 x4)⟩, ⟨Rect.unit (s := S1x512x768) ![0, 0, 512] S1x512x128.size inb_S1x512x768_S1x512x128_0_0_512, k0_pay17 (k0_pay10 x1 x10) (k0_pay11 x1 x10) (k0_pay13 (k0_pay5 x0 x2) (View.ld x3 (Rect.unit (s := S1024x3712) ![0, 1408] S1024x256.size inb_S1024x3712_S1024x256_0_1408)) x7 x4) (k0_pay14 (k0_pay5 x0 x2) (View.ld x3 (Rect.unit (s := S1024x3712) ![0, 1408] S1024x256.size inb_S1024x3712_S1024x256_0_1408)) x7 x4)⟩,
        ⟨Rect.unit (s := S1x512x768) ![0, 0, 0] S1x512x512.size inb_S1x512x768_S1x512x512_0_0_0, k0_pay16 (k0_pay15 (k0_pay5 x0 x2) (View.ld x3 (Rect.unit (s := S1024x3712) ![0, 1408] S1024x256.size inb_S1024x3712_S1024x256_0_1408)) x7 x4)⟩] (fun r => Tok.mq (tokB x0 x1 x2 x3 x4 x5 x6 x7 x8 x10 r))
    ∧ Agrees (e := .bf16) [⟨Rect.unit (s := S1x512x512) ![0, 0, 0] S1x512x512.size inb_S1x512x512_S1x512x512_0_0_0, k0_pay20 (k0_pay19 (k0_pay5 x0 x2) (View.ld x3 (Rect.unit (s := S1024x3712) ![0, 1664] S1024x128.size inb_S1024x3712_S1024x128_0_1664)) x8) x5⟩] (fun r => Tok.mk (tokB x0 x1 x2 x3 x4 x5 x6 x7 x8 x10 r))
    ∧ Agrees (e := .bf16) [⟨Rect.unit (s := S1x512x512) ![0, 0, 0] S1x512x512.size inb_S1x512x512_S1x512x512_0_0_0, k0_pay21 (k0_pay19 (k0_pay5 x0 x2) (View.ld x3 (Rect.unit (s := S1024x3712) ![0, 1664] S1024x128.size inb_S1024x3712_S1024x128_0_1664)) x8) x6⟩] (fun r => Tok.mv (tokB x0 x1 x2 x3 x4 x5 x6 x7 x8 x10 r))
    ∧ Agrees (e := .bf16) [⟨Rect.unit (s := S1x512x256) ![0, 0, 128] S1x512x128.size inb_S1x512x256_S1x512x128_0_0_128, k0_pay25 (k0_pay5 x0 x2) (k0_pay10 x1 x10) (k0_pay11 x1 x10) (View.ld x3 (Rect.unit (s := S1024x3712) ![0, 1792] S1024x128.size inb_S1024x3712_S1024x128_0_1792)) (View.ld x3 (Rect.unit (s := S1024x3712) ![0, 1920] S1024x128.size inb_S1024x3712_S1024x128_0_1920))⟩, ⟨Rect.unit (s := S1x512x256) ![0, 0, 0] S1x512x128.size inb_S1x512x256_S1x512x128_0_0_0, k0_pay24 (k0_pay5 x0 x2) (k0_pay10 x1 x10) (k0_pay11 x1 x10) (View.ld x3 (Rect.unit (s := S1024x3712) ![0, 1792] S1024x128.size inb_S1024x3712_S1024x128_0_1792)) (View.ld x3 (Rect.unit (s := S1024x3712) ![0, 1920] S1024x128.size inb_S1024x3712_S1024x128_0_1920))⟩]
        (fun r => Tok.mkr (tokB x0 x1 x2 x3 x4 x5 x6 x7 x8 x10 r))
    ∧ Agrees (e := .bf16) [⟨Rect.unit (s := S1x512x1536) ![0, 0, 512] S1x512x1024.size inb_S1x512x1536_S1x512x1024_0_0_512, k0_pay28 (k0_pay5 x0 x2) (View.ld x3 (Rect.unit (s := S1024x3712) ![0, 2048] S1024x1536.size inb_S1024x3712_S1024x1536_0_2048))⟩, ⟨Rect.unit (s := S1x512x1536) ![0, 0, 0] S1x512x512.size inb_S1x512x1536_S1x512x512_0_0_0, k0_pay27 (k0_pay5 x0 x2) (View.ld x3 (Rect.unit (s := S1024x3712) ![0, 2048] S1024x1536.size inb_S1024x3712_S1024x1536_0_2048))⟩] (fun r => Tok.fqkv (tokB x0 x1 x2 x3 x4 x5 x6 x7 x8 x10 r)) := by
  have zero : ∀ {n : ℕ} (j : Fin n), col (n := n) 0 (by omega) j = j := fun j => Fin.ext (show 0 + j.val = j.val by omega)
  refine ⟨?_, ?_, ?_, ?_, ?_, ?_, ?_, ?_⟩
  · refine agrees_cons 0 (by decide) _ _ (fun r j => ?_) (agrees_nil _)
    rw [zero]
    exact (pay6_at x0 x2 _ r j).trans (congrArg (· * _) (p_row x0 x1 x2 x3 x4 x5 x6 x7 x8 x10 0 (by decide) _ r j))
  · refine agrees_cons 0 (by decide) _ _ (fun r j => ?_) (agrees_nil _)
    rw [zero]
    exact (pay7_at x0 x2 _ r j).trans (p_row x0 x1 x2 x3 x4 x5 x6 x7 x8 x10 512 (by decide) _ r j)
  · refine agrees_cons 0 (by decide) _ _ (fun r j => ?_) (agrees_nil _)
    rw [zero]
    exact pay8_at (k0_pay5 x0 x2) (tokB x0 x1 x2 x3 x4 x5 x6 x7 x8 x10 r) r (pay5_at x0 x2 r) _ (cols_at x3 1280 (by decide) _) j
  · have hA := fun (r : Fin 512) (j : Fin 128) => (pay13_at (k0_pay5 x0 x2) (View.ld x3 (Rect.unit (s := S1024x3712) ![0, 1408] S1024x256.size inb_S1024x3712_S1024x256_0_1408)) x7 x4 r j).trans (q_row x0 x1 x2 x3 x4 x5 x6 x7 x8 x10 r _)
    have hB := fun (r : Fin 512) (j : Fin 128) => (pay14_at (k0_pay5 x0 x2) (View.ld x3 (Rect.unit (s := S1024x3712) ![0, 1408] S1024x256.size inb_S1024x3712_S1024x256_0_1408)) x7 x4 r j).trans (q_row x0 x1 x2 x3 x4 x5 x6 x7 x8 x10 r _)
    have hC := cos_row x0 x1 x2 x3 x4 x5 x6 x7 x8 x10
    have hS := sin_row x0 x1 x2 x3 x4 x5 x6 x7 x8 x10
    refine agrees_cons 640 (by decide) _ _ (fun r j => ?_) (agrees_cons 512 (by decide) _ _ (fun r j => ?_) (agrees_cons 0 (by decide) _ _ (fun r j => ?_) (agrees_nil _)))
    · exact (pay18_at _ _ _ _ (tokB x0 x1 x2 x3 x4 x5 x6 x7 x8 x10 r) r _ _ (hC r) (hS r) (hA r) (hB r) j).trans (Tok.mq_hi _ j).symm
    · exact (pay17_at _ _ _ _ (tokB x0 x1 x2 x3 x4 x5 x6 x7 x8 x10 r) r _ _ (hC r) (hS r) (hA r) (hB r) j).trans (Tok.mq_lo _ j).symm
    · exact (pay16_at (k0_pay5 x0 x2) (View.ld x3 (Rect.unit (s := S1024x3712) ![0, 1408] S1024x256.size inb_S1024x3712_S1024x256_0_1408)) x7 x4 r j).trans ((congrArg (· * _) (q_row x0 x1 x2 x3 x4 x5 x6 x7 x8 x10 r _)).trans (Tok.mq_plain _ j).symm)
  · refine agrees_cons 0 (by decide) _ _ (fun r j => ?_) (agrees_nil _)
    rw [zero]
    exact (pay20_at _ x5 r j).trans (Finset.sum_congr rfl fun k _ => congrArg (· * _) (kv_row x0 x1 x2 x3 x4 x5 x6 x7 x8 x10 r k))
  · refine agrees_cons 0 (by decide) _ _ (fun r j => ?_) (agrees_nil _)
    rw [zero]
    exact (pay21_at _ x6 r j).trans (Finset.sum_congr rfl fun k _ => congrArg (· * _) (kv_row x0 x1 x2 x3 x4 x5 x6 x7 x8 x10 r k))
  · have hP := fun {a : ℕ} (o : ℕ) (ho : o + a ≤ 3712) inb => p_row x0 x1 x2 x3 x4 x5 x6 x7 x8 x10 (a := a) o ho inb
    refine agrees_cons 128 (by decide) _ _ (fun r j => ?_) (agrees_cons 0 (by decide) _ _ (fun r j => ?_) (agrees_nil _))
    · refine (pay25_at _ _ _ _ _ r j).trans (Eq.trans ?_ (Tok.mkr_hi _ j).symm)
      exact congrArg₂ (fun a b : EReal => a + b) (congrArg₂ (fun a b : EReal => a * b) (hP 1792 (by decide) _ r j) (sin_row x0 x1 x2 x3 x4 x5 x6 x7 x8 x10 r j))
        (congrArg₂ (fun a b : EReal => a * b) (hP 1920 (by decide) _ r j) (cos_row x0 x1 x2 x3 x4 x5 x6 x7 x8 x10 r j))
    · refine (pay24_at _ _ _ _ _ r j).trans (Eq.trans ?_ (Tok.mkr_lo _ j).symm)
      exact congrArg₂ (fun a b : EReal => a - b) (congrArg₂ (fun a b : EReal => a * b) (hP 1792 (by decide) _ r j) (cos_row x0 x1 x2 x3 x4 x5 x6 x7 x8 x10 r j))
        (congrArg₂ (fun a b : EReal => a * b) (hP 1920 (by decide) _ r j) (sin_row x0 x1 x2 x3 x4 x5 x6 x7 x8 x10 r j))
  · refine agrees_cons 512 (by decide) _ _ (fun r j => ?_) (agrees_cons 0 (by decide) _ _ (fun r j => ?_) (agrees_nil _))
    · exact pay28_at (k0_pay5 x0 x2) (tokB x0 x1 x2 x3 x4 x5 x6 x7 x8 x10 r) r (pay5_at x0 x2 r) _ (cols_at x3 2048 (by decide) _) j
    · exact pay27_at (k0_pay5 x0 x2) (tokB x0 x1 x2 x3 x4 x5 x6 x7 x8 x10 r) r (pay5_at x0 x2 r) _ (cols_at x3 2048 (by decide) _) j

/-- At a sequence's first point. -/
theorem lists_A (hc0 : cond0_0 i) :
    Agrees (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11).1 (fun r => Tok.nq (tokB x0 x1 x2 x3 x4 x5 x6 x7 x8 x10 r))
    ∧ Agrees (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11).2.1 (fun r => Tok.nkv (tokB x0 x1 x2 x3 x4 x5 x6 x7 x8 x10 r))
    ∧ Agrees (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11).2.2.1 (fun r => Tok.ng (tokB x0 x1 x2 x3 x4 x5 x6 x7 x8 x10 r))
    ∧ Agrees (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11).2.2.2.1 (fun r => Tok.mq (tokB x0 x1 x2 x3 x4 x5 x6 x7 x8 x10 r))
    ∧ Agrees (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11).2.2.2.2.1 (fun r => Tok.mk (tokB x0 x1 x2 x3 x4 x5 x6 x7 x8 x10 r))
    ∧ Agrees (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11).2.2.2.2.2.1 (fun r => Tok.mv (tokB x0 x1 x2 x3 x4 x5 x6 x7 x8 x10 r))
    ∧ Agrees (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11).2.2.2.2.2.2.1 (fun r => Tok.mkr (tokB x0 x1 x2 x3 x4 x5 x6 x7 x8 x10 r))
    ∧ Agrees (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11).2.2.2.2.2.2.2.1 (fun r => Tok.fqkv (tokB x0 x1 x2 x3 x4 x5 x6 x7 x8 x10 r)) := by
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S1x512x1024) hz3, View.ld_unit_zero (S := S1x512x1) hz3, View.ld_unit_zero (S := S1x1024) hz2, View.ld_unit_zero (S := S256x768) hz2, View.ld_unit_zero (S := S128x512) hz2, View.ld_unit_zero (S := S1x256) hz2, View.ld_unit_zero (S := S1x128) hz2]
  exact stores_agree x0 x1 x2 x3 x4 x5 x6 x7 x8 x10

/-- At its later points. -/
theorem lists_B (hc0 : ¬cond0_0 i) :
    Agrees (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0).1 (fun r => Tok.nq (tokB x0 x1 x2 x3 x4 x5 x6 x7 x8 x10 r))
    ∧ Agrees (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0).2.1 (fun r => Tok.nkv (tokB x0 x1 x2 x3 x4 x5 x6 x7 x8 x10 r))
    ∧ Agrees (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0).2.2.1 (fun r => Tok.ng (tokB x0 x1 x2 x3 x4 x5 x6 x7 x8 x10 r))
    ∧ Agrees (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0).2.2.2.1 (fun r => Tok.mq (tokB x0 x1 x2 x3 x4 x5 x6 x7 x8 x10 r))
    ∧ Agrees (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0).2.2.2.2.1 (fun r => Tok.mk (tokB x0 x1 x2 x3 x4 x5 x6 x7 x8 x10 r))
    ∧ Agrees (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0).2.2.2.2.2.1 (fun r => Tok.mv (tokB x0 x1 x2 x3 x4 x5 x6 x7 x8 x10 r))
    ∧ Agrees (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0).2.2.2.2.2.2.1 (fun r => Tok.mkr (tokB x0 x1 x2 x3 x4 x5 x6 x7 x8 x10 r))
    ∧ Agrees (kernelRun0_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0).2.2.2.2.2.2.2.1 (fun r => Tok.fqkv (tokB x0 x1 x2 x3 x4 x5 x6 x7 x8 x10 r)) := by
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, h12.read_unread, h13.read_unread,
    View.ld_unit_zero (S := S1x512x1024) hz3, View.ld_unit_zero (S := S1x512x1) hz3, View.ld_unit_zero (S := S1x1024) hz2, View.ld_unit_zero (S := S256x768) hz2, View.ld_unit_zero (S := S128x512) hz2, View.ld_unit_zero (S := S1x256) hz2, View.ld_unit_zero (S := S1x128) hz2]
  exact stores_agree x0 x1 x2 x3 x4 x5 x6 x7 x8 x10

/-- What a sequence's first point leaves in the eight windows. -/
theorem outs_A (hc0 : cond0_0 i) :
    (∀ r j, out0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 (ix3 0 r j) = Tok.nq (tokB x0 x1 x2 x3 x4 x5 x6 x7 x8 x10 r) j)
    ∧ (∀ r j, out0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 (ix3 0 r j) = Tok.nkv (tokB x0 x1 x2 x3 x4 x5 x6 x7 x8 x10 r) j)
    ∧ (∀ r j, out0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 (ix3 0 r j) = Tok.ng (tokB x0 x1 x2 x3 x4 x5 x6 x7 x8 x10 r) j)
    ∧ (∀ r j, out0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 (ix3 0 r j) = Tok.mq (tokB x0 x1 x2 x3 x4 x5 x6 x7 x8 x10 r) j)
    ∧ (∀ r j, out0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 (ix3 0 r j) = Tok.mk (tokB x0 x1 x2 x3 x4 x5 x6 x7 x8 x10 r) j)
    ∧ (∀ r j, out0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 (ix3 0 r j) = Tok.mv (tokB x0 x1 x2 x3 x4 x5 x6 x7 x8 x10 r) j)
    ∧ (∀ r j, out0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 (ix3 0 r j) = Tok.mkr (tokB x0 x1 x2 x3 x4 x5 x6 x7 x8 x10 r) j)
    ∧ (∀ r j, out0_A_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 (ix3 0 r j) = Tok.fqkv (tokB x0 x1 x2 x3 x4 x5 x6 x7 x8 x10 r) j) := by
  obtain ⟨l0, l1, l2, l3, l4, l5, l6, l7⟩ := lists_A c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 hc0
  exact ⟨read_agrees VO0_12 _ _ _ l0 (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11),
    read_agrees VO0_13 _ _ _ l1 (cover0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11),
    read_agrees VO0_14 _ _ _ l2 (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11),
    read_agrees VO0_15 _ _ _ l3 (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11),
    read_agrees VO0_16 _ _ _ l4 (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11),
    read_agrees VO0_17 _ _ _ l5 (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11),
    read_agrees VO0_18 _ _ _ l6 (cover0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11),
    read_agrees VO0_19 _ _ _ l7 (cover0_A_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11)⟩

/-- What its later points leave. -/
theorem outs_B (hc0 : ¬cond0_0 i) :
    (∀ r j, out0_B_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0 (ix3 0 r j) = Tok.nq (tokB x0 x1 x2 x3 x4 x5 x6 x7 x8 x10 r) j)
    ∧ (∀ r j, out0_B_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0 (ix3 0 r j) = Tok.nkv (tokB x0 x1 x2 x3 x4 x5 x6 x7 x8 x10 r) j)
    ∧ (∀ r j, out0_B_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0 (ix3 0 r j) = Tok.ng (tokB x0 x1 x2 x3 x4 x5 x6 x7 x8 x10 r) j)
    ∧ (∀ r j, out0_B_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0 (ix3 0 r j) = Tok.mq (tokB x0 x1 x2 x3 x4 x5 x6 x7 x8 x10 r) j)
    ∧ (∀ r j, out0_B_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0 (ix3 0 r j) = Tok.mk (tokB x0 x1 x2 x3 x4 x5 x6 x7 x8 x10 r) j)
    ∧ (∀ r j, out0_B_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0 (ix3 0 r j) = Tok.mv (tokB x0 x1 x2 x3 x4 x5 x6 x7 x8 x10 r) j)
    ∧ (∀ r j, out0_B_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0 (ix3 0 r j) = Tok.mkr (tokB x0 x1 x2 x3 x4 x5 x6 x7 x8 x10 r) j)
    ∧ (∀ r j, out0_B_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0 (ix3 0 r j) = Tok.fqkv (tokB x0 x1 x2 x3 x4 x5 x6 x7 x8 x10 r) j) := by
  obtain ⟨l0, l1, l2, l3, l4, l5, l6, l7⟩ := lists_B c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 x0 x1 x2 x3 x4 x5 x6 x7 x8 x9 x10 x11 xs0 hc0
  exact ⟨read_agrees VO0_12 _ _ _ l0 (cover0_B_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0),
    read_agrees VO0_13 _ _ _ l1 (cover0_B_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0),
    read_agrees VO0_14 _ _ _ l2 (cover0_B_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0),
    read_agrees VO0_15 _ _ _ l3 (cover0_B_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0),
    read_agrees VO0_16 _ _ _ l4 (cover0_B_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0),
    read_agrees VO0_17 _ _ _ l5 (cover0_B_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0),
    read_agrees VO0_18 _ _ _ l6 (cover0_B_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0),
    read_agrees VO0_19 _ _ _ l7 (cover0_B_19 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 x0 x1 x2 x3 x4 x5 x6 x7 x8 x9 x10 x11 xs0)⟩

end Point

end Cert.ProjIdeal.Hand

end
-- ==== Proof.ProjValue.lean ====
module

public import proofs.«01_k».proof.Proof.ProjBody

/-! The eight arrays the kernel leaves, from its launch's blocks. -/

@[expose] public section

set_option maxRecDepth 16384

noncomputable section

namespace Cert.ProjIdeal.Hand

open Cert.ProjIdeal Cert.ProjIdeal.Gen Cert.ProjIdeal.Value Cert.ProjSpec Idealize.ShloMosaic Idealize.ShloMosaic.TcCoe Idealize.SL.Sem
open Cert.MergeSpec (rmsRow ext2 ext3)
open Idealize.ShloMosaic.Pipeline (Dat)

variable (m : (ℓ : Loc nD τ sig) → Buf (Elt Ideal) ℓ) (ρ : Dev nD → PrngReg) (c : Dev nD)

/-- The tokens of the launch's arguments. -/
def kerTok : Fin 2 → Fin 8192 → Tok :=
  tokOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg10))

/-! ## The reshaped arguments -/

theorem V_pos : V m c main_v0 = shapeCast S2x8192x1 (m ((c : Thread nD τ).loc main_arg1)) shapeCasts_S2x8192_S2x8192x1 := by
  simp only [V, hostOps0]
  after_results_simp
  rfl
theorem V_gain : V m c main_v1 = shapeCast S1x1024 (m ((c : Thread nD τ).loc main_arg2)) shapeCasts_S1024_S1x1024 := by
  simp only [V, hostOps0]
  after_results_simp
  rfl
theorem V_gq : V m c main_v2 = shapeCast S1x256 (m ((c : Thread nD τ).loc main_arg7)) shapeCasts_S256_S1x256 := by
  simp only [V, hostOps0]
  after_results_simp
  rfl
theorem V_gkv : V m c main_v3 = shapeCast S1x128 (m ((c : Thread nD τ).loc main_arg8)) shapeCasts_S128_S1x128 := by
  simp only [V, hostOps0]
  after_results_simp
  rfl

theorem pos_at (p : Vec Ideal S2x8192 .i32) (b : Fin 2) (s : Fin 8192) : shapeCast S2x8192x1 p shapeCasts_S2x8192_S2x8192x1 (ix3 b s 0) = p (ix2 b s) := by
  pointwise
theorem gain_at (g : Vec Ideal S1024 .f32) (k : Fin 1024) : shapeCast S1x1024 g shapeCasts_S1024_S1x1024 (ix2 0 k) = g (ix1 k) := by
  pointwise
theorem gq_at (g : Vec Ideal S256 .f32) (k : Fin 256) : shapeCast S1x256 g shapeCasts_S256_S1x256 (ix2 0 k) = g (ix1 k) := by
  pointwise
theorem gkv_at (g : Vec Ideal S128 .f32) (k : Fin 128) : shapeCast S1x128 g shapeCasts_S128_S1x128 (ix2 0 k) = g (ix1 k) := by
  pointwise

/-! ## The blocks: point `t` holds 512 tokens of one sequence -/

theorem lt32 (t : Fin cfg0.N) : t.val < 32 := lt_of_lt_of_eq t.isLt N_0

/-- Point `t`'s sequence. -/
def bat (t : Fin cfg0.N) : Fin 2 := ⟨t.val / 16, by have := lt32 t; omega⟩

/-- The place in it of row `r` of point `t`'s block. -/
def row (t : Fin cfg0.N) (r : Fin 512) : Fin 8192 := ⟨t.val % 16 * 512 + r.val, by omega⟩

theorem moving : ∀ t : Fin cfg0.N, win0_0.index t = ![t.val / 16, t.val % 16, 0] ∧ win0_1.index t = ![t.val / 16, t.val % 16, 0]
    ∧ win0_12.index t = ![t.val / 16, t.val % 16, 0]
    ∧ win0_13.index t = ![t.val / 16, t.val % 16, 0]
    ∧ win0_14.index t = ![t.val / 16, t.val % 16, 0]
    ∧ win0_15.index t = ![t.val / 16, t.val % 16, 0]
    ∧ win0_16.index t = ![t.val / 16, t.val % 16, 0]
    ∧ win0_17.index t = ![t.val / 16, t.val % 16, 0]
    ∧ win0_18.index t = ![t.val / 16, t.val % 16, 0]
    ∧ win0_19.index t = ![t.val / 16, t.val % 16, 0] :=
  (by decide +kernel : ∀ t : Fin grid0.N, _)

theorem fixed : ∀ t : Fin cfg0.N, win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_10.index t = ![0, 0] :=
  (by decide +kernel : ∀ t : Fin grid0.N, _)

/-- An index inside point `t`'s block of an array of tokens. -/
theorem place {n : ℕ} {t : Fin cfg0.N} {v : Fin 3 → ℕ} (e : v = ![t.val / 16, t.val % 16, 0]) (r : Fin 512) (k : Fin n)
    (i : (⟨3, ![2, 8192, n]⟩ : Shape).Idx) (h0 : (i 0).val = v 0 * 1 + 1 * 0) (h1 : (i 1).val = v 1 * 512 + 1 * r.val) (h2 : (i 2).val = v 2 * n + 1 * k.val) :
    i = ix3 (bat t) (row t r) k := by
  subst e
  have h0 : (i 0).val = t.val / 16 * 1 + 1 * 0 := h0
  have h1 : (i 1).val = t.val % 16 * 512 + 1 * r.val := h1
  have h2 : (i 2).val = 0 * n + 1 * k.val := h2
  exact ext3 (show (i 0).val = t.val / 16 by omega) (show (i 1).val = t.val % 16 * 512 + r.val by omega) (show (i 2).val = k.val by omega)

/-- An index inside the block of an array that stays whole. -/
theorem place0 {a n : ℕ} {v : Fin 2 → ℕ} (e : v = ![0, 0]) (j : Fin a) (k : Fin n)
    (i : (⟨2, ![a, n]⟩ : Shape).Idx) (h0 : (i 0).val = v 0 * a + 1 * j.val) (h1 : (i 1).val = v 1 * n + 1 * k.val) : i = ix2 j k := by
  subst e
  have h0 : (i 0).val = 0 * a + 1 * j.val := h0
  have h1 : (i 1).val = 0 * n + 1 * k.val := h1
  exact ext2 (show (i 0).val = j.val by omega) (show (i 1).val = k.val by omega)

theorem blk0 (t : Fin cfg0.N) (r : Fin 512) (k : Fin 1024) : (iblk m c 0 t : Vec Ideal S1x512x1024 .f32) (ix3 0 r k) = m ((c : Thread nD τ).loc main_arg0) (ix3 (bat t) (row t r) k) := by
  unfold iblk
  rw [View.read_apply]
  exact (congrArg (V m c main_arg0) (place (moving t).1 r k _ rfl rfl rfl)).trans ((congrFun (V_main_arg0 m c) _))

theorem blk1 (t : Fin cfg0.N) (r : Fin 512) : (iblk m c 1 t : Vec Ideal S1x512x1 .i32) (ix3 0 r 0) = m ((c : Thread nD τ).loc main_arg1) (ix2 (bat t) (row t r)) := by
  unfold iblk
  rw [View.read_apply]
  exact (congrArg (V m c main_v0) (place (moving t).2.1 r (0 : Fin 1) _ rfl rfl rfl)).trans ((congrFun (V_pos m c) _).trans (pos_at _ _ _))

theorem blk2 (t : Fin cfg0.N) (k : Fin 1024) : (iblk m c 2 t : Vec Ideal S1x1024 .f32) (ix2 0 k) = m ((c : Thread nD τ).loc main_arg2) (ix1 k) := by
  unfold iblk
  rw [View.read_apply]
  exact (congrArg (V m c main_v1) (place0 (fixed t).1 (0 : Fin 1) k _ rfl rfl)).trans ((congrFun (V_gain m c) _).trans (gain_at _ _))

theorem blk3 (t : Fin cfg0.N) (k : Fin 1024) (n : Fin 3712) : (iblk m c 3 t : Vec Ideal S1024x3712 .bf16) (ix2 k n) = m ((c : Thread nD τ).loc main_arg3) (ix2 k n) := by
  unfold iblk
  rw [View.read_apply]
  exact (congrArg (V m c main_arg3) (place0 (fixed t).2.1 k n _ rfl rfl)).trans ((congrFun (V_main_arg3 m c) _))

theorem blk4 (t : Fin cfg0.N) (k : Fin 256) (n : Fin 768) : (iblk m c 4 t : Vec Ideal S256x768 .bf16) (ix2 k n) = m ((c : Thread nD τ).loc main_arg4) (ix2 k n) := by
  unfold iblk
  rw [View.read_apply]
  exact (congrArg (V m c main_arg4) (place0 (fixed t).2.2.1 k n _ rfl rfl)).trans ((congrFun (V_main_arg4 m c) _))

theorem blk5 (t : Fin cfg0.N) (k : Fin 128) (n : Fin 512) : (iblk m c 5 t : Vec Ideal S128x512 .bf16) (ix2 k n) = m ((c : Thread nD τ).loc main_arg5) (ix2 k n) := by
  unfold iblk
  rw [View.read_apply]
  exact (congrArg (V m c main_arg5) (place0 (fixed t).2.2.2.1 k n _ rfl rfl)).trans ((congrFun (V_main_arg5 m c) _))

theorem blk6 (t : Fin cfg0.N) (k : Fin 128) (n : Fin 512) : (iblk m c 6 t : Vec Ideal S128x512 .bf16) (ix2 k n) = m ((c : Thread nD τ).loc main_arg6) (ix2 k n) := by
  unfold iblk
  rw [View.read_apply]
  exact (congrArg (V m c main_arg6) (place0 (fixed t).2.2.2.2.1 k n _ rfl rfl)).trans ((congrFun (V_main_arg6 m c) _))

theorem blk7 (t : Fin cfg0.N) (k : Fin 256) : (iblk m c 7 t : Vec Ideal S1x256 .f32) (ix2 0 k) = m ((c : Thread nD τ).loc main_arg7) (ix1 k) := by
  unfold iblk
  rw [View.read_apply]
  exact (congrArg (V m c main_v2) (place0 (fixed t).2.2.2.2.2.1 (0 : Fin 1) k _ rfl rfl)).trans ((congrFun (V_gq m c) _).trans (gq_at _ _))

theorem blk8 (t : Fin cfg0.N) (k : Fin 128) : (iblk m c 8 t : Vec Ideal S1x128 .f32) (ix2 0 k) = m ((c : Thread nD τ).loc main_arg8) (ix1 k) := by
  unfold iblk
  rw [View.read_apply]
  exact (congrArg (V m c main_v3) (place0 (fixed t).2.2.2.2.2.2.1 (0 : Fin 1) k _ rfl rfl)).trans ((congrFun (V_gkv m c) _).trans (gkv_at _ _))

theorem blk10 (t : Fin cfg0.N) (k : Fin 128) : (iblk m c 10 t : Vec Ideal S1x128 .f32) (ix2 0 k) = m ((c : Thread nD τ).loc main_arg10) (ix2 0 k) := by
  unfold iblk
  rw [View.read_apply]
  exact (congrArg (V m c main_arg10) (place0 (fixed t).2.2.2.2.2.2.2 (0 : Fin 1) k _ rfl rfl)).trans ((congrFun (V_main_arg10 m c) _))

/-- Row `r` of point `t`'s blocks is a token of the arguments. -/
theorem tok_eq (t : Fin cfg0.N) (r : Fin 512) : tokB (iblk m c 0 t) (iblk m c 1 t) (iblk m c 2 t) (iblk m c 3 t) (iblk m c 4 t) (iblk m c 5 t) (iblk m c 6 t) (iblk m c 7 t) (iblk m c 8 t) (iblk m c 10 t) r = kerTok m c (bat t) (row t r) := by
  unfold tokB kerTok tokOf
  simp only [blk0, blk1, blk2, blk3, blk4, blk5, blk6, blk7, blk8, blk10]

/-! ## What a point leaves -/

/-- A point's outputs hold the formulas of its rows' tokens. -/
def Right (o : Vec Ideal S1x512x512 .bf16 × Vec Ideal S1x512x768 .bf16 × Vec Ideal S1x512x128 .f32 × Vec Ideal S1x512x768 .bf16 × Vec Ideal S1x512x512 .bf16
    × Vec Ideal S1x512x512 .bf16 × Vec Ideal S1x512x256 .bf16 × Vec Ideal S1x512x1536 .bf16 × Vec Ideal S1x512x128 .f32 × Vec Ideal S1x128 .f32) (f : Fin 512 → Tok) : Prop :=
  (∀ r j, o.1 (ix3 0 r j) = Tok.nq (f r) j)
    ∧ (∀ r j, o.2.1 (ix3 0 r j) = Tok.nkv (f r) j)
    ∧ (∀ r j, o.2.2.1 (ix3 0 r j) = Tok.ng (f r) j)
    ∧ (∀ r j, o.2.2.2.1 (ix3 0 r j) = Tok.mq (f r) j)
    ∧ (∀ r j, o.2.2.2.2.1 (ix3 0 r j) = Tok.mk (f r) j)
    ∧ (∀ r j, o.2.2.2.2.2.1 (ix3 0 r j) = Tok.mv (f r) j)
    ∧ (∀ r j, o.2.2.2.2.2.2.1 (ix3 0 r j) = Tok.mkr (f r) j)
    ∧ (∀ r j, o.2.2.2.2.2.2.2.1 (ix3 0 r j) = Tok.fqkv (f r) j)

theorem right_A (t : Fin cfg0.N) (h0 : t.val % 16 = 0) : Right (outsAt0 m c t.val t.isLt) (tokB (iblk m c 0 t) (iblk m c 1 t) (iblk m c 2 t) (iblk m c 3 t) (iblk m c 4 t) (iblk m c 5 t) (iblk m c 6 t) (iblk m c 7 t) (iblk m c 8 t) (iblk m c 10 t)) := by
  rw [outsAt0_A m c t h0]
  dsimp only [Right]
  exact outs_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0)

theorem right_B (t : Fin cfg0.N) (h0 : ¬t.val % 16 = 0) : Right (outsAt0 m c t.val t.isLt) (tokB (iblk m c 0 t) (iblk m c 1 t) (iblk m c 2 t) (iblk m c 3 t) (iblk m c 4 t) (iblk m c 5 t) (iblk m c 6 t) (iblk m c 7 t) (iblk m c 8 t) (iblk m c 10 t)) := by
  rw [outsAt0_B m c t h0]
  dsimp only [Right]
  exact outs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ (fun h => h0 ((hcond0_0 t).mp h))

theorem right (t : Fin cfg0.N) : Right (outsAt0 m c t.val t.isLt) (fun r => kerTok m c (bat t) (row t r)) := by
  rw [← funext (tok_eq m c t)]
  by_cases h0 : t.val % 16 = 0
  · exact right_A m c t h0
  · exact right_B m c t h0

/-! ## The arrays -/

/-- A block that holds the formulas of its rows is the array's. -/
theorem block_eq {n : ℕ} (o : (⟨3, ![1, 512, n]⟩ : Shape).Idx → EReal) (em : (⟨3, ![1, 512, n]⟩ : Shape).Idx → (⟨3, ![2, 8192, n]⟩ : Shape).Idx)
    (f : Tok → Fin n → EReal) (t : Fin cfg0.N) (he : ∀ r k, em (ix3 0 r k) = ix3 (bat t) (row t r) k)
    (ho : ∀ r k, o (ix3 0 r k) = f (kerTok m c (bat t) (row t r)) k) : o = fun y => arrOf f (kerTok m c) (em y) := by
  funext y
  have hy : y = ix3 0 (y 1) (y 2) := ext3 (by have h : (y 0).val < 1 := (y 0).isLt; show (y 0).val = 0; omega) rfl rfl
  exact (congrArg o hy).trans ((ho (y 1) (y 2)).trans (congrArg (arrOf f (kerTok m c)) ((congrArg em hy).trans (he (y 1) (y 2)))).symm)

/-- The point whose block holds a token. -/
def at0 {n : ℕ} (i : (⟨3, ![2, 8192, n]⟩ : Shape).Idx) : Fin cfg0.N :=
  ⟨(i 0).val * 16 + (i 1).val / 512, by
    have h0 : (i 0).val < 2 := (i 0).isLt
    have h1 : (i 1).val < 8192 := (i 1).isLt
    have hN : cfg0.N = 32 := N_0
    omega⟩

theorem at0_eq {n : ℕ} (i : (⟨3, ![2, 8192, n]⟩ : Shape).Idx) :
    (ix3 (bat (at0 i)) (row (at0 i) ⟨(i 1).val % 512, Nat.mod_lt _ (by decide)⟩) (i 2) : (⟨3, ![2, 8192, n]⟩ : Shape).Idx) = i := by
  have h0 : (i 0).val < 2 := (i 0).isLt
  have h1 : (i 1).val < 8192 := (i 1).isLt
  exact ext3 (show ((i 0).val * 16 + (i 1).val / 512) / 16 = (i 0).val by omega)
    (show ((i 0).val * 16 + (i 1).val / 512) % 16 * 512 + (i 1).val % 512 = (i 1).val by omega) rfl

theorem idx12 (t : Fin cfg0.N) (r : Fin 512) (k : Fin 512) : ((cfg0.win 12).blk t).view.emb (ix3 0 r k) = (ix3 (bat t) (row t r) k : S2x8192x512.Idx) :=
  place (moving t).2.2.1 r k _ rfl rfl rfl

theorem result12 : (dats m 0 c).arrAt 12 cfg0.N = arrOf Tok.nq (kerTok m c) :=
  (dats m 0 c).arrAt_eq_of_cover 12 (arrOf Tok.nq (kerTok m c)) (fun t _ => (flushed12 m c t).trans (block_eq m c _ _ Tok.nq t (idx12 t) (right m c t).1))
    fun i => ⟨at0 i, flush0_12 _, Eq.mp (congrArg (· ∈ _) ((idx12 _ _ _).trans (at0_eq i))) (View.emb_mem_set _ _)⟩

theorem idx13 (t : Fin cfg0.N) (r : Fin 512) (k : Fin 768) : ((cfg0.win 13).blk t).view.emb (ix3 0 r k) = (ix3 (bat t) (row t r) k : S2x8192x768.Idx) :=
  place (moving t).2.2.2.1 r k _ rfl rfl rfl

theorem result13 : (dats m 0 c).arrAt 13 cfg0.N = arrOf Tok.nkv (kerTok m c) :=
  (dats m 0 c).arrAt_eq_of_cover 13 (arrOf Tok.nkv (kerTok m c)) (fun t _ => (flushed13 m c t).trans (block_eq m c _ _ Tok.nkv t (idx13 t) (right m c t).2.1))
    fun i => ⟨at0 i, flush0_13 _, Eq.mp (congrArg (· ∈ _) ((idx13 _ _ _).trans (at0_eq i))) (View.emb_mem_set _ _)⟩

theorem idx14 (t : Fin cfg0.N) (r : Fin 512) (k : Fin 128) : ((cfg0.win 14).blk t).view.emb (ix3 0 r k) = (ix3 (bat t) (row t r) k : S2x8192x128.Idx) :=
  place (moving t).2.2.2.2.1 r k _ rfl rfl rfl

theorem result14 : (dats m 0 c).arrAt 14 cfg0.N = arrOf Tok.ng (kerTok m c) :=
  (dats m 0 c).arrAt_eq_of_cover 14 (arrOf Tok.ng (kerTok m c)) (fun t _ => (flushed14 m c t).trans (block_eq m c _ _ Tok.ng t (idx14 t) (right m c t).2.2.1))
    fun i => ⟨at0 i, flush0_14 _, Eq.mp (congrArg (· ∈ _) ((idx14 _ _ _).trans (at0_eq i))) (View.emb_mem_set _ _)⟩

theorem idx15 (t : Fin cfg0.N) (r : Fin 512) (k : Fin 768) : ((cfg0.win 15).blk t).view.emb (ix3 0 r k) = (ix3 (bat t) (row t r) k : S2x8192x768.Idx) :=
  place (moving t).2.2.2.2.2.1 r k _ rfl rfl rfl

theorem result15 : (dats m 0 c).arrAt 15 cfg0.N = arrOf Tok.mq (kerTok m c) :=
  (dats m 0 c).arrAt_eq_of_cover 15 (arrOf Tok.mq (kerTok m c)) (fun t _ => (flushed15 m c t).trans (block_eq m c _ _ Tok.mq t (idx15 t) (right m c t).2.2.2.1))
    fun i => ⟨at0 i, flush0_15 _, Eq.mp (congrArg (· ∈ _) ((idx15 _ _ _).trans (at0_eq i))) (View.emb_mem_set _ _)⟩

theorem idx16 (t : Fin cfg0.N) (r : Fin 512) (k : Fin 512) : ((cfg0.win 16).blk t).view.emb (ix3 0 r k) = (ix3 (bat t) (row t r) k : S2x8192x512.Idx) :=
  place (moving t).2.2.2.2.2.2.1 r k _ rfl rfl rfl

theorem result16 : (dats m 0 c).arrAt 16 cfg0.N = arrOf Tok.mk (kerTok m c) :=
  (dats m 0 c).arrAt_eq_of_cover 16 (arrOf Tok.mk (kerTok m c)) (fun t _ => (flushed16 m c t).trans (block_eq m c _ _ Tok.mk t (idx16 t) (right m c t).2.2.2.2.1))
    fun i => ⟨at0 i, flush0_16 _, Eq.mp (congrArg (· ∈ _) ((idx16 _ _ _).trans (at0_eq i))) (View.emb_mem_set _ _)⟩

theorem idx17 (t : Fin cfg0.N) (r : Fin 512) (k : Fin 512) : ((cfg0.win 17).blk t).view.emb (ix3 0 r k) = (ix3 (bat t) (row t r) k : S2x8192x512.Idx) :=
  place (moving t).2.2.2.2.2.2.2.1 r k _ rfl rfl rfl

theorem result17 : (dats m 0 c).arrAt 17 cfg0.N = arrOf Tok.mv (kerTok m c) :=
  (dats m 0 c).arrAt_eq_of_cover 17 (arrOf Tok.mv (kerTok m c)) (fun t _ => (flushed17 m c t).trans (block_eq m c _ _ Tok.mv t (idx17 t) (right m c t).2.2.2.2.2.1))
    fun i => ⟨at0 i, flush0_17 _, Eq.mp (congrArg (· ∈ _) ((idx17 _ _ _).trans (at0_eq i))) (View.emb_mem_set _ _)⟩

theorem idx18 (t : Fin cfg0.N) (r : Fin 512) (k : Fin 256) : ((cfg0.win 18).blk t).view.emb (ix3 0 r k) = (ix3 (bat t) (row t r) k : S2x8192x256.Idx) :=
  place (moving t).2.2.2.2.2.2.2.2.1 r k _ rfl rfl rfl

theorem result18 : (dats m 0 c).arrAt 18 cfg0.N = arrOf Tok.mkr (kerTok m c) :=
  (dats m 0 c).arrAt_eq_of_cover 18 (arrOf Tok.mkr (kerTok m c)) (fun t _ => (flushed18 m c t).trans (block_eq m c _ _ Tok.mkr t (idx18 t) (right m c t).2.2.2.2.2.2.1))
    fun i => ⟨at0 i, flush0_18 _, Eq.mp (congrArg (· ∈ _) ((idx18 _ _ _).trans (at0_eq i))) (View.emb_mem_set _ _)⟩

theorem idx19 (t : Fin cfg0.N) (r : Fin 512) (k : Fin 1536) : ((cfg0.win 19).blk t).view.emb (ix3 0 r k) = (ix3 (bat t) (row t r) k : S2x8192x1536.Idx) :=
  place (moving t).2.2.2.2.2.2.2.2.2 r k _ rfl rfl rfl

theorem result19 : (dats m 0 c).arrAt 19 cfg0.N = arrOf Tok.fqkv (kerTok m c) :=
  (dats m 0 c).arrAt_eq_of_cover 19 (arrOf Tok.fqkv (kerTok m c)) (fun t _ => (flushed19 m c t).trans (block_eq m c _ _ Tok.fqkv t (idx19 t) (right m c t).2.2.2.2.2.2.2))
    fun i => ⟨at0 i, flush0_19 _, Eq.mp (congrArg (· ∈ _) ((idx19 _ _ _).trans (at0_eq i))) (View.emb_mem_set _ _)⟩

end Cert.ProjIdeal.Hand

end
-- ==== Proof.ProjRef.lean ====
module

public import proofs.«01_k».proof.Proof.Gen.ProjRefIdeal.Run
public import proofs.«01_k».proof.Proof.ProjSpec

@[expose] public section

set_option maxRecDepth 16384

noncomputable section

namespace Cert.ProjRefIdeal.Hand

open Cert.ProjRefIdeal Cert.ProjRefIdeal.Gen Cert.ProjRefIdeal.Value Cert.ProjSpec Idealize.ShloMosaic Idealize.ShloMosaic.TcCoe Idealize.SL.Sem
open Cert.MergeSpec (rmsRow ext2 ext3)

/-! ## The reference's arrays, stage by stage -/

/-- The first product. -/
def aP (x : FVec Ideal S2x8192x1024 .f32) (g : FVec Ideal S1024 .f32) (w : FVec Ideal S1024x3712 .bf16) : FVec Ideal S2x8192x3712 .f32 :=
  Host.dotGeneral dot_S2x8192x1024_S1024x3712_S2x8192x3712_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) (extf .f32 w bitsLt_bf16_f32)

/-- The angles. -/
def aAng (p : IVec S2x8192 32) (f : FVec Ideal S1x128 .f32) : FVec Ideal S2x8192x128 .f32 :=
  mulf (broadcastInDim S2x8192x128 ![0, 1, 2] bcast_S2x8192x1_S2x8192x128_0_1_2 (sitofp .f32 (broadcastInDim S2x8192x1 ![0, 1] bcast_S2x8192_S2x8192x1_0_1 p))) (broadcastInDim S2x8192x128 ![0, 1, 2] bcast_S1x1x128_S2x8192x128_0_1_2 (broadcastInDim S1x1x128 ![1, 2] bcast_S1x128_S1x1x128_1_2 f))

/-- The latent queries times their second weights. -/
def aQ (P : FVec Ideal S2x8192x3712 .f32) (g : FVec Ideal S256 .f32) (w : FVec Ideal S256x768 .bf16) : FVec Ideal S2x8192x768 .f32 :=
  Host.dotGeneral dot_S2x8192x256_S256x768_S2x8192x768_2_0_01_1_n_n none (mulf (mulf (extractStridedSlice S2x8192x256 ![0, 0, 1408] P slices_S2x8192x3712_S2x8192x256_0_0_1408) (broadcastInDim S2x8192x256 ![0, 1, 2] bcast_S2x8192x1_S2x8192x256_0_1_2 (Host.rsqrt (addf (Host.divf (broadcastInDim S2x8192x1 ![0, 1] bcast_S2x8192_S2x8192x1_0_1 (Host.reduceAdd (mulf (extractStridedSlice S2x8192x256 ![0, 0, 1408] P slices_S2x8192x3712_S2x8192x256_0_0_1408) (extractStridedSlice S2x8192x256 ![0, 0, 1408] P slices_S2x8192x3712_S2x8192x256_0_0_1408)) (constant S_ .f32 0x00000000#32) reducesTo_S2x8192x256_S2x8192_d2 h_S_)) (broadcastInDim S2x8192x1 ![] bcast_S_S2x8192x1 (constant S_ .f32 0x43800000#32))) (broadcastInDim S2x8192x1 ![] bcast_S_S2x8192x1 (constant S_ .f32 0x358637BD#32)))))) (broadcastInDim S2x8192x256 ![0, 1, 2] bcast_S1x1x256_S2x8192x256_0_1_2 (broadcastInDim S1x1x256 ![2] bcast_S256_S1x1x256_2 g))) (extf .f32 w bitsLt_bf16_f32)

/-- The normalised latent times one of its second weights. -/
def aKV (P : FVec Ideal S2x8192x3712 .f32) (g : FVec Ideal S128 .f32) (w : FVec Ideal S128x512 .bf16) : FVec Ideal S2x8192x512 .f32 :=
  Host.dotGeneral dot_S2x8192x128_S128x512_S2x8192x512_2_0_01_1_n_n none (mulf (mulf (extractStridedSlice S2x8192x128 ![0, 0, 1664] P slices_S2x8192x3712_S2x8192x128_0_0_1664) (broadcastInDim S2x8192x128 ![0, 1, 2] bcast_S2x8192x1_S2x8192x128_0_1_2 (Host.rsqrt (addf (Host.divf (broadcastInDim S2x8192x1 ![0, 1] bcast_S2x8192_S2x8192x1_0_1 (Host.reduceAdd (mulf (extractStridedSlice S2x8192x128 ![0, 0, 1664] P slices_S2x8192x3712_S2x8192x128_0_0_1664) (extractStridedSlice S2x8192x128 ![0, 0, 1664] P slices_S2x8192x3712_S2x8192x128_0_0_1664)) (constant S_ .f32 0x00000000#32) reducesTo_S2x8192x128_S2x8192_d2 h_S_)) (broadcastInDim S2x8192x1 ![] bcast_S_S2x8192x1 (constant S_ .f32 0x43000000#32))) (broadcastInDim S2x8192x1 ![] bcast_S_S2x8192x1 (constant S_ .f32 0x358637BD#32)))))) (broadcastInDim S2x8192x128 ![0, 1, 2] bcast_S1x1x128_S2x8192x128_0_1_2 (broadcastInDim S1x1x128 ![2] bcast_S128_S1x1x128_2 g))) (extf .f32 w bitsLt_bf16_f32)

/-- The first and the second rotated half. -/
def aLo (A : FVec Ideal S2x8192x128 .f32) (a b : FVec Ideal S2x8192x128 .f32) : FVec Ideal S2x8192x128 .f32 := subf (mulf a (Host.cos A)) (mulf b (Host.sin A))
def aHi (A : FVec Ideal S2x8192x128 .f32) (a b : FVec Ideal S2x8192x128 .f32) : FVec Ideal S2x8192x128 .f32 := addf (mulf a (Host.sin A)) (mulf b (Host.cos A))

def rNq (P : FVec Ideal S2x8192x3712 .f32) : FVec Ideal S2x8192x512 .bf16 :=
  truncf .bf16 (mulf (extractStridedSlice S2x8192x512 ![0, 0, 0] P slices_S2x8192x3712_S2x8192x512_0_0_0) (broadcastInDim S2x8192x512 ![] bcast_S_S2x8192x512 (constant S_ .f32 0x3E000000#32))) bitsLt_bf16_f32
def rNkv (P : FVec Ideal S2x8192x3712 .f32) : FVec Ideal S2x8192x768 .bf16 :=
  truncf .bf16 (extractStridedSlice S2x8192x768 ![0, 0, 512] P slices_S2x8192x3712_S2x8192x768_0_0_512) bitsLt_bf16_f32
def rNg (P : FVec Ideal S2x8192x3712 .f32) : FVec Ideal S2x8192x128 .f32 :=
  Host.divf (broadcastInDim S2x8192x128 ![] bcast_S_S2x8192x128 (constant S_ .f32 0x3F800000#32)) (addf (broadcastInDim S2x8192x128 ![] bcast_S_S2x8192x128 (constant S_ .f32 0x3F800000#32)) (Host.exp (Host.negf (extractStridedSlice S2x8192x128 ![0, 0, 1280] P slices_S2x8192x3712_S2x8192x128_0_0_1280))))
def rMq (Q : FVec Ideal S2x8192x768 .f32) (A : FVec Ideal S2x8192x128 .f32) : FVec Ideal S2x8192x768 .bf16 :=
  truncf .bf16 (mulf (concatenate S2x8192x768 2 [⟨S2x8192x512, (extractStridedSlice S2x8192x512 ![0, 0, 0] Q slices_S2x8192x768_S2x8192x512_0_0_0)⟩,
    ⟨S2x8192x128, aLo A (extractStridedSlice S2x8192x128 ![0, 0, 512] Q slices_S2x8192x768_S2x8192x128_0_0_512) (extractStridedSlice S2x8192x128 ![0, 0, 640] Q slices_S2x8192x768_S2x8192x128_0_0_640)⟩,
    ⟨S2x8192x128, aHi A (extractStridedSlice S2x8192x128 ![0, 0, 512] Q slices_S2x8192x768_S2x8192x128_0_0_512) (extractStridedSlice S2x8192x128 ![0, 0, 640] Q slices_S2x8192x768_S2x8192x128_0_0_640)⟩] concatenates_S2x8192x512_S2x8192x128_S2x8192x128_S2x8192x768_d2) (broadcastInDim S2x8192x768 ![] bcast_S_S2x8192x768 (constant S_ .f32 0x3DD105EC#32))) bitsLt_bf16_f32
def rKV (P : FVec Ideal S2x8192x3712 .f32) (g : FVec Ideal S128 .f32) (w : FVec Ideal S128x512 .bf16) : FVec Ideal S2x8192x512 .bf16 :=
  truncf .bf16 (aKV P g w) bitsLt_bf16_f32
def rMkr (P : FVec Ideal S2x8192x3712 .f32) (A : FVec Ideal S2x8192x128 .f32) : FVec Ideal S2x8192x256 .bf16 :=
  truncf .bf16 (concatenate S2x8192x256 2 [⟨S2x8192x128, aLo A (extractStridedSlice S2x8192x128 ![0, 0, 1792] P slices_S2x8192x3712_S2x8192x128_0_0_1792) (extractStridedSlice S2x8192x128 ![0, 0, 1920] P slices_S2x8192x3712_S2x8192x128_0_0_1920)⟩,
    ⟨S2x8192x128, aHi A (extractStridedSlice S2x8192x128 ![0, 0, 1792] P slices_S2x8192x3712_S2x8192x128_0_0_1792) (extractStridedSlice S2x8192x128 ![0, 0, 1920] P slices_S2x8192x3712_S2x8192x128_0_0_1920)⟩] concatenates_S2x8192x128_S2x8192x128_S2x8192x256_d2) bitsLt_bf16_f32
def rFqkv (P : FVec Ideal S2x8192x3712 .f32) : FVec Ideal S2x8192x1536 .bf16 :=
  truncf .bf16 (concatenate S2x8192x1536 2 [⟨S2x8192x512, (mulf (extractStridedSlice S2x8192x512 ![0, 0, 2048] P slices_S2x8192x3712_S2x8192x512_0_0_2048) (broadcastInDim S2x8192x512 ![] bcast_S_S2x8192x512 (constant S_ .f32 0x3E000000#32)))⟩, ⟨S2x8192x1024, (extractStridedSlice S2x8192x1024 ![0, 0, 2560] P slices_S2x8192x3712_S2x8192x1024_0_0_2560)⟩] concatenates_S2x8192x512_S2x8192x1024_S2x8192x1536_d2) bitsLt_bf16_f32

/-! ## Each at one token's row -/

section Row

variable (T : Tok) (b : Fin 2) (s : Fin 8192)

theorem aP_at (x : FVec Ideal S2x8192x1024 .f32) (g : FVec Ideal S1024 .f32) (w : FVec Ideal S1024x3712 .bf16) (hx : ∀ k, x (ix3 b s k) = T.x k)
    (hg : ∀ k, g (ix1 k) = T.g k) (hw : ∀ k n, w (ix2 k n) = T.w k n) (n : Fin 3712) : aP x g w (ix3 b s n) = T.p n := by
  unfold Tok.p rmsRow
  simp only [← hx, ← hg, ← hw]
  pointwise [aP]

theorem aAng_at (p : IVec S2x8192 32) (f : FVec Ideal S1x128 .f32) (hp : FloatOps.sitofp (F := Ideal) FTy.f32 (p (ix2 b s)) = T.pos)
    (hf : ∀ k, f (ix2 0 k) = T.freq k) (j : Fin 128) : aAng p f (ix3 b s j) = T.pos * T.freq j := by
  rw [← hp, ← hf]
  pointwise [aAng]

section First

variable (P : FVec Ideal S2x8192x3712 .f32) (hP : ∀ n, P (ix3 b s n) = T.p n)

include hP

theorem aQ_at (g : FVec Ideal S256 .f32) (w : FVec Ideal S256x768 .bf16) (hg : ∀ k, g (ix1 k) = T.gq k) (hw : ∀ k n, w (ix2 k n) = T.wq k n) (n : Fin 768) :
    aQ P g w (ix3 b s n) = T.q n := by
  unfold Tok.q rmsRow
  simp only [← hP, ← hg, ← hw]
  pointwise [aQ]
  rfl

theorem aKV_at (g : FVec Ideal S128 .f32) (w : FVec Ideal S128x512 .bf16) (w' : Fin 128 → Fin 512 → EReal) (hg : ∀ k, g (ix1 k) = T.gkv k)
    (hw : ∀ k n, w (ix2 k n) = w' k n) (n : Fin 512) :
    aKV P g w (ix3 b s n) = ∑ k : Fin 128, T.kv k * w' k n := by
  unfold Tok.kv rmsRow
  simp only [← hP, ← hg, ← hw]
  pointwise [aKV]
  rfl

theorem rKV_at (g : FVec Ideal S128 .f32) (w : FVec Ideal S128x512 .bf16) (w' : Fin 128 → Fin 512 → EReal) (hg : ∀ k, g (ix1 k) = T.gkv k)
    (hw : ∀ k n, w (ix2 k n) = w' k n) (n : Fin 512) : rKV P g w (ix3 b s n) = ∑ k : Fin 128, T.kv k * w' k n :=
  aKV_at T b s P hP g w w' hg hw n

theorem rNq_at (j : Fin 512) : rNq P (ix3 b s j) = T.nq j := by
  unfold Tok.nq col
  simp only [Nat.zero_add, ← hP]
  pointwise [rNq]

theorem rNkv_at (j : Fin 768) : rNkv P (ix3 b s j) = T.nkv j := by
  unfold Tok.nkv col
  rw [← hP]
  pointwise [rNkv]

theorem rNg_at (j : Fin 128) : rNg P (ix3 b s j) = T.ng j := by
  unfold Tok.ng col Ideal.logistic
  rw [← hP]
  pointwise [rNg]

end First

theorem rMkr_at (P : FVec Ideal S2x8192x3712 .f32) (hP : ∀ n, P (ix3 b s n) = T.p n) (A : FVec Ideal S2x8192x128 .f32) (hA : ∀ j, A (ix3 b s j) = T.pos * T.freq j) (j : Fin 256) :
    rMkr P A (ix3 b s j) = T.mkr j := by
  unfold Tok.mkr Tok.rotLo Tok.rotHi
  simp only [← hP, ← hA]
  pointwise [rMkr, aLo, aHi]
  rfl

theorem rMq_at (Q : FVec Ideal S2x8192x768 .f32) (hQ : ∀ n, Q (ix3 b s n) = T.q n) (A : FVec Ideal S2x8192x128 .f32) (hA : ∀ j, A (ix3 b s j) = T.pos * T.freq j) (j : Fin 768) :
    rMq Q A (ix3 b s j) = T.mq j := by
  unfold Tok.mq Tok.rotLo Tok.rotHi
  simp only [← hQ, ← hA]
  pointwise [rMq, aLo, aHi]
  refine congrArg (fun v : EReal => v * _) ?_
  by_cases h : j.val < 512
  · rw [dif_pos h, if_pos h]
  · rw [dif_neg h, if_neg h]
    by_cases k : j.val < 640
    · rw [dif_pos k, dif_pos (show j.val - 512 < 128 by omega)]
      rfl
    · rw [dif_neg k, dif_neg (show ¬j.val - 512 < 128 by omega)]
      simp only [show j.val - 512 - 128 = j.val - 640 by omega]
      rfl

theorem rFqkv_at (P : FVec Ideal S2x8192x3712 .f32) (hP : ∀ n, P (ix3 b s n) = T.p n) (j : Fin 1536) :
    rFqkv P (ix3 b s j) = T.fqkv j := by
  unfold Tok.fqkv
  simp only [← hP]
  pointwise [rFqkv]
  by_cases h : j.val < 512
  · rw [dif_pos h, if_pos h]
    rfl
  · rw [dif_neg h, if_neg h]
    exact congrArg (fun n => P (ix3 b s n)) (Fin.ext (show 2560 + (j.val - 512) = 2048 + j.val by omega))

end Row

/-! ## The run -/

section Run

variable (m : (ℓ : Loc nD τ sig) → Buf (Elt Ideal) ℓ) (ρ : Dev nD → PrngReg) (c : Dev nD)

/-- The tokens of the reference's arguments. -/
def refTok : Fin 2 → Fin 8192 → Tok :=
  tokOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg10))

abbrev refP : FVec Ideal S2x8192x3712 .f32 := aP (m ((c.tc : Thread nD τ).loc main_arg0)) (m ((c.tc : Thread nD τ).loc main_arg2)) (m ((c.tc : Thread nD τ).loc main_arg3))
abbrev refA : FVec Ideal S2x8192x128 .f32 := aAng (m ((c.tc : Thread nD τ).loc main_arg1)) (m ((c.tc : Thread nD τ).loc main_arg10))
abbrev refQ : FVec Ideal S2x8192x768 .f32 := aQ (refP m c) (m ((c.tc : Thread nD τ).loc main_arg7)) (m ((c.tc : Thread nD τ).loc main_arg4))

theorem refP_at (b : Fin 2) (s : Fin 8192) (n : Fin 3712) : refP m c (ix3 b s n) = (refTok m c b s).p n :=
  aP_at (refTok m c b s) b s _ _ _ (fun _ => rfl) (fun _ => rfl) (fun _ _ => rfl) n

theorem refA_at (b : Fin 2) (s : Fin 8192) (j : Fin 128) : refA m c (ix3 b s j) = (refTok m c b s).pos * (refTok m c b s).freq j :=
  aAng_at (refTok m c b s) b s _ _ rfl (fun _ => rfl) j

theorem refQ_at (b : Fin 2) (s : Fin 8192) (n : Fin 768) : refQ m c (ix3 b s n) = (refTok m c b s).q n :=
  aQ_at (refTok m c b s) b s _ (refP_at m c b s) _ _ (fun _ => rfl) (fun _ _ => rfl) n

theorem nq_eq : rNq (refP m c) = arrOf Tok.nq (refTok m c) := arr_eq _ _ _ fun b s => rNq_at (refTok m c b s) b s _ (refP_at m c b s)
theorem nkv_eq : rNkv (refP m c) = arrOf Tok.nkv (refTok m c) := arr_eq _ _ _ fun b s => rNkv_at (refTok m c b s) b s _ (refP_at m c b s)
theorem ng_eq : rNg (refP m c) = arrOf Tok.ng (refTok m c) := arr_eq _ _ _ fun b s => rNg_at (refTok m c b s) b s _ (refP_at m c b s)
theorem mq_eq : rMq (refQ m c) (refA m c) = arrOf Tok.mq (refTok m c) :=
  arr_eq _ _ _ fun b s => rMq_at (refTok m c b s) b s _ (refQ_at m c b s) _ (refA_at m c b s)
theorem mk_eq : rKV (refP m c) (m ((c.tc : Thread nD τ).loc main_arg8)) (m ((c.tc : Thread nD τ).loc main_arg5)) = arrOf Tok.mk (refTok m c) :=
  arr_eq _ _ _ fun b s => rKV_at (refTok m c b s) b s _ (refP_at m c b s) _ _ (refTok m c b s).wk (fun _ => rfl) (fun _ _ => rfl)
theorem mv_eq : rKV (refP m c) (m ((c.tc : Thread nD τ).loc main_arg8)) (m ((c.tc : Thread nD τ).loc main_arg6)) = arrOf Tok.mv (refTok m c) :=
  arr_eq _ _ _ fun b s => rKV_at (refTok m c b s) b s _ (refP_at m c b s) _ _ (refTok m c b s).wv (fun _ => rfl) (fun _ _ => rfl)
theorem mkr_eq : rMkr (refP m c) (refA m c) = arrOf Tok.mkr (refTok m c) :=
  arr_eq _ _ _ fun b s => rMkr_at (refTok m c b s) b s _ (refP_at m c b s) _ (refA_at m c b s)
theorem fqkv_eq : rFqkv (refP m c) = arrOf Tok.fqkv (refTok m c) := arr_eq _ _ _ fun b s => rFqkv_at (refTok m c b s) b s _ (refP_at m c b s)

theorem mq_run : res_main_v96 m c = rMq (refQ m c) (refA m c) := by
  unfold res_main_v96
  rfl
theorem mkr_run : res_main_v99 m c = rMkr (refP m c) (refA m c) := by
  unfold res_main_v99
  rfl

/-- The eight arrays a run of the reference ends with. -/
theorem run_eq : θ_run defs (onTc (τ := τ) (main (F := Ideal))) ⟨m, fun _ => 0, ρ⟩ fun r => ∀ c : Dev nD,
    r.2.mem ((c.tc : Thread nD τ).loc main_v86) = arrOf Tok.nq (refTok m c) ∧ r.2.mem ((c.tc : Thread nD τ).loc main_v88) = arrOf Tok.nkv (refTok m c)
    ∧ r.2.mem ((c.tc : Thread nD τ).loc main_v95) = arrOf Tok.ng (refTok m c) ∧ r.2.mem ((c.tc : Thread nD τ).loc main_v96) = arrOf Tok.mq (refTok m c)
    ∧ r.2.mem ((c.tc : Thread nD τ).loc main_v97) = arrOf Tok.mk (refTok m c) ∧ r.2.mem ((c.tc : Thread nD τ).loc main_v98) = arrOf Tok.mv (refTok m c)
    ∧ r.2.mem ((c.tc : Thread nD τ).loc main_v99) = arrOf Tok.mkr (refTok m c) ∧ r.2.mem ((c.tc : Thread nD τ).loc main_v100) = arrOf Tok.fqkv (refTok m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  (θ_run defs _ _).mono (fun _ h c => by
    obtain ⟨h0, h1, h2, h3, h4, h5, h6, h7, ha⟩ := h c
    exact ⟨h0.trans (nq_eq m c), h1.trans (nkv_eq m c), h2.trans (ng_eq m c), h3.trans ((mq_run m c).trans (mq_eq m c)), h4.trans (mk_eq m c),
      h5.trans (mv_eq m c), h6.trans ((mkr_run m c).trans (mkr_eq m c)), h7.trans (fqkv_eq m c), ha⟩) (run (F := Ideal) m ρ)

end Run

end Cert.ProjRefIdeal.Hand

end
-- ==== Proof.ProjClaims.lean ====
module

public import proofs.«01_k».proof.Defs
public import proofs.«01_k».proof.Proof.Gen.Proj.Frame
public import proofs.«01_k».proof.Proof.Gen.ProjIdeal.Frame
public import proofs.«01_k».proof.Proof.ProjValue
public import proofs.«01_k».proof.Proof.ProjRef
public import Idealize.ShloMosaic.Lib.Quiescent

/-! The claims about the first projection. -/

@[expose] public section

set_option maxRecDepth 16384

noncomputable section

namespace Cert.ProjClaims

open Idealize.ShloMosaic Idealize.SL.Sem

/-- The kernel runs, leaves its arguments and ends with every counter at zero. -/
theorem frame_p : Cert.quiescent_Proj := fun m ρ _ => Cert.Proj.Gen.frame m ρ

/-- So does its idealization. -/
theorem frame_pi : Cert.quiescent_ProjIdeal := fun m ρ _ => Cert.ProjIdeal.Gen.frame m ρ

/-- So does the reference, which declares no counter. -/
theorem frame_ri : Cert.quiescent_ProjRefIdeal := fun m ρ _ =>
  (θ_run Cert.ProjRefIdeal.defs _ _).mono (fun r h => ⟨fun c => (h c).2.2.2.2.2.2.2.2,
      Idealize.ShloMosaic.sem_eq_zero_of_no_sems (by decide) r.2⟩)
    (Cert.ProjRefIdeal.Value.run (F := Ideal) m ρ)

/-- No operation was replaced. -/
theorem preserves : Cert.preserves_Proj_ProjIdeal := trivial

/-- Equal arguments give equal tokens. -/
theorem tok_eq (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h3 : m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3))
    (h4 : m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4))
    (h5 : m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5))
    (h6 : m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6))
    (h7 : m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7))
    (h8 : m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8))
    (h10 : m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10))
    : Cert.ProjRefIdeal.Hand.refTok m' c = Cert.ProjIdeal.Hand.kerTok m c := by
  unfold Cert.ProjRefIdeal.Hand.refTok Cert.ProjIdeal.Hand.kerTok
  simp only [h0, h1, h2, h3, h4, h5, h6, h7, h8, h10]

/-- From equal arguments the kernel and the reference end with the same eight arrays. -/
theorem algebraic : Cert.algebraic_ProjIdeal_ProjRefIdeal := fun m ρ m' ρ' _ hag =>
  ⟨fun c => Cert.ProjSpec.arrOf Cert.ProjSpec.Tok.nq (Cert.ProjIdeal.Hand.kerTok m c),
    fun c => Cert.ProjSpec.arrOf Cert.ProjSpec.Tok.nkv (Cert.ProjIdeal.Hand.kerTok m c),
    fun c => Cert.ProjSpec.arrOf Cert.ProjSpec.Tok.ng (Cert.ProjIdeal.Hand.kerTok m c),
    fun c => Cert.ProjSpec.arrOf Cert.ProjSpec.Tok.mq (Cert.ProjIdeal.Hand.kerTok m c),
    fun c => Cert.ProjSpec.arrOf Cert.ProjSpec.Tok.mk (Cert.ProjIdeal.Hand.kerTok m c),
    fun c => Cert.ProjSpec.arrOf Cert.ProjSpec.Tok.mv (Cert.ProjIdeal.Hand.kerTok m c),
    fun c => Cert.ProjSpec.arrOf Cert.ProjSpec.Tok.mkr (Cert.ProjIdeal.Hand.kerTok m c),
    fun c => Cert.ProjSpec.arrOf Cert.ProjSpec.Tok.fqkv (Cert.ProjIdeal.Hand.kerTok m c),
    (θ_run _ _ _).mono (fun _ h c => by
      obtain ⟨r0, r1, r2, r3, r4, r5, r6, r7, -, ha⟩ := h c
      exact ⟨r0.trans (Cert.ProjIdeal.Hand.result12 m c), r1.trans (Cert.ProjIdeal.Hand.result13 m c), r2.trans (Cert.ProjIdeal.Hand.result14 m c), r3.trans (Cert.ProjIdeal.Hand.result15 m c), r4.trans (Cert.ProjIdeal.Hand.result16 m c), r5.trans (Cert.ProjIdeal.Hand.result17 m c), r6.trans (Cert.ProjIdeal.Hand.result18 m c), r7.trans (Cert.ProjIdeal.Hand.result19 m c), ha⟩) (Cert.ProjIdeal.Value.run_blocks m ρ),
    (θ_run _ _ _).mono (fun _ h c => by
      obtain ⟨h0, h1, h2, h3, h4, h5, h6, h7, h8, -, h10, -⟩ := hag c
      have hr := h c
      rw [tok_eq m m' c h0 h1 h2 h3 h4 h5 h6 h7 h8 h10] at hr
      exact hr) (Cert.ProjRefIdeal.Hand.run_eq m' ρ')⟩

end Cert.ProjClaims

end
-- ==== Proof.lean ====
module

public import proofs.«01_k».proof.Defs
public import proofs.«01_k».proof.Proof.Gen.Fox
public import proofs.«01_k».proof.Proof.Gen.FoxIdeal
public import proofs.«01_k».proof.Proof.Gen.FoxRefIdeal
public import proofs.«01_k».proof.Proof.Gen.Mla
public import proofs.«01_k».proof.Proof.Gen.MlaIdeal
public import proofs.«01_k».proof.Proof.Gen.MlaRefIdeal
public import proofs.«01_k».proof.Proof.Gen.Moe
public import proofs.«01_k».proof.Proof.Gen.MoeIdeal
public import proofs.«01_k».proof.Proof.Gen.MoeRefIdeal
public import proofs.«01_k».proof.Proof.Gen.FoxIdeal.Value
public import proofs.«01_k».proof.Proof.Gen.MlaIdeal.Value
public import proofs.«01_k».proof.Proof.Gen.MoeIdeal.Value
public import proofs.«01_k».proof.Proof.Gen.MergeIdeal.Value
public import proofs.«01_k».proof.Proof.Gen.ProjIdeal.Value
public import proofs.«01_k».proof.Proof.Gen.FoxRefIdeal.Run
public import proofs.«01_k».proof.Proof.Gen.MlaRefIdeal.Run
public import proofs.«01_k».proof.Proof.Gen.MoeRefIdeal.Run
public import proofs.«01_k».proof.Proof.Gen.MergeRefIdeal.Run
public import proofs.«01_k».proof.Proof.Gen.ProjRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.FoxClaims
public import proofs.«01_k».proof.Proof.MlaClaims
public import proofs.«01_k».proof.Proof.MoeClaims
public import proofs.«01_k».proof.Proof.MergeClaims
public import proofs.«01_k».proof.Proof.ProjClaims

/-! The proof of the certificate's claim. -/

@[expose] public section

noncomputable section

namespace Cert.Proof

/-- The shape relations the forgetting attention's precondition states. -/
theorem finite_qk_cum_facts : Cert.Pre_finite_qk_cum.Facts where
  slices_S2x8192x1536_S2x8192x1024_0_0_0 := by decide
  bitsLt_bf16_f32 := by decide
  bcast_S_S2x8192x1024 := by decide
  reducesTo_S2x8192x1024_S_d0_1_2 := by decide
  h_S_ := by decide
  slices_S2x8192x128_S2x8192x8_0_0_0 := by decide
  bcast_S_S2x8192x8 := by decide
  reducesTo_S2x8192x8_S_d0_1_2 := by decide

/-- The shape relations the latent attention's precondition states. -/
theorem finite_qk_facts : Cert.Pre_finite_qk.Facts where
  bitsLt_bf16_f32 := by decide
  bcast_S_S2x8192x768 := by decide
  reducesTo_S2x8192x768_S_d0_1_2 := by decide
  h_S_ := by decide
  bcast_S_S2x8192x512 := by decide
  reducesTo_S2x8192x512_S_d0_1_2 := by decide
  bcast_S_S2x8192x256 := by decide
  reducesTo_S2x8192x256_S_d0_1_2 := by decide

attribute [local instance] finite_qk_cum_facts finite_qk_facts

/-- Everything the certificate claims. -/
theorem claim : Cert.Claim :=
  ⟨Cert.Fox.Gen.facts, Cert.FoxIdeal.Gen.facts, Cert.FoxRefIdeal.Gen.facts,
    Cert.Mla.Gen.facts, Cert.MlaIdeal.Gen.facts, Cert.MlaRefIdeal.Gen.facts,
    Cert.Moe.Gen.facts, Cert.MoeIdeal.Gen.facts, Cert.MoeRefIdeal.Gen.facts,
    Cert.Merge.Gen.facts, Cert.MergeIdeal.Gen.facts, Cert.MergeRefIdeal.Gen.facts,
    Cert.Proj.Gen.facts, Cert.ProjIdeal.Gen.facts, Cert.ProjRefIdeal.Gen.facts,
    finite_qk_cum_facts, finite_qk_facts,
    FoxClaims.frame_p, FoxClaims.frame_pi, FoxClaims.frame_pi_pre, FoxClaims.frame_ri, FoxClaims.frame_ri_pre,
    MlaClaims.frame_p, MlaClaims.frame_pi, MlaClaims.frame_pi_pre, MlaClaims.frame_ri, MlaClaims.frame_ri_pre,
    MoeClaims.frame_p, MoeClaims.frame_pi, MoeClaims.frame_ri,
    MergeClaims.frame_p, MergeClaims.frame_pi, MergeClaims.frame_ri,
    ProjClaims.frame_p, ProjClaims.frame_pi, ProjClaims.frame_ri,
    FoxClaims.preserves, FoxClaims.algebraic, MlaClaims.preserves, MlaClaims.algebraic,
    MoeClaims.preserves, MoeClaims.algebraic,
    MergeClaims.preserves, MergeClaims.algebraic, ProjClaims.preserves, ProjClaims.algebraic⟩

end Cert.Proof

end
